-- ==== Defs.lean ====
def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_finite_scores [hPre_finite_scores : Cert.Pre_finite_scores.Facts] (m : (ℓ : Loc Cert.SwaIdeal.nD Cert.SwaIdeal.τ Cert.SwaIdeal.sig) → Buf (Elt Ideal) ℓ) : Prop :=
  ∀ c : Dev Cert.SwaIdeal.nD,
    (Cert.Pre_finite_scores.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2))) = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_finite_scores [hPre_finite_scores : Cert.Pre_finite_scores.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_finite_scores.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaRefIdeal (m : (ℓ : Loc Cert.GlaRefIdeal.nD Cert.GlaRefIdeal.τ Cert.GlaRefIdeal.sig) → Buf (Elt Ideal) ℓ) : Prop :=
  True

def Pre_GlaPrompt (m : (ℓ : Loc Cert.GlaPrompt.nD Cert.GlaPrompt.τ Cert.GlaPrompt.sig) → Buf (Elt Bits) ℓ) : Prop :=
  True

def Pre_GlaPromptIdeal (m : (ℓ : Loc Cert.GlaPromptIdeal.nD Cert.GlaPromptIdeal.τ Cert.GlaPromptIdeal.sig) → Buf (Elt Ideal) ℓ) : Prop :=
  True

def Pre_GlaPromptIdeal_finite_gate [hPre_finite_gate : Cert.Pre_finite_gate.Facts] (m : (ℓ : Loc Cert.GlaPromptIdeal.nD Cert.GlaPromptIdeal.τ Cert.GlaPromptIdeal.sig) → Buf (Elt Ideal) ℓ) : Prop :=
  ∀ c : Dev Cert.GlaPromptIdeal.nD,
    (Cert.Pre_finite_gate.fn (F := Ideal) (m ((c.tc : Thread Cert.GlaPromptIdeal.nD Cert.GlaPromptIdeal.τ).loc Cert.GlaPromptIdeal.main_arg0)) (m ((c.tc : Thread Cert.GlaPromptIdeal.nD Cert.GlaPromptIdeal.τ).loc Cert.GlaPromptIdeal.main_arg1)) (m ((c.tc : Thread Cert.GlaPromptIdeal.nD Cert.GlaPromptIdeal.τ).loc Cert.GlaPromptIdeal.main_arg2)) (m ((c.tc : Thread Cert.GlaPromptIdeal.nD Cert.GlaPromptIdeal.τ).loc Cert.GlaPromptIdeal.main_arg3))) = (fun _ => 1#1)

def Pre_GlaPromptRefIdeal (m : (ℓ : Loc Cert.GlaPromptRefIdeal.nD Cert.GlaPromptRefIdeal.τ Cert.GlaPromptRefIdeal.sig) → Buf (Elt Ideal) ℓ) : Prop :=
  True

def Pre_GlaPromptRefIdeal_finite_gate [hPre_finite_gate : Cert.Pre_finite_gate.Facts] (m : (ℓ : Loc Cert.GlaPromptRefIdeal.nD Cert.GlaPromptRefIdeal.τ Cert.GlaPromptRefIdeal.sig) → Buf (Elt Ideal) ℓ) : Prop :=
  ∀ c : Dev Cert.GlaPromptRefIdeal.nD,
    (Cert.Pre_finite_gate.fn (F := Ideal) (m ((c.tc : Thread Cert.GlaPromptRefIdeal.nD Cert.GlaPromptRefIdeal.τ).loc Cert.GlaPromptRefIdeal.main_arg0)) (m ((c.tc : Thread Cert.GlaPromptRefIdeal.nD Cert.GlaPromptRefIdeal.τ).loc Cert.GlaPromptRefIdeal.main_arg1)) (m ((c.tc : Thread Cert.GlaPromptRefIdeal.nD Cert.GlaPromptRefIdeal.τ).loc Cert.GlaPromptRefIdeal.main_arg2)) (m ((c.tc : Thread Cert.GlaPromptRefIdeal.nD Cert.GlaPromptRefIdeal.τ).loc Cert.GlaPromptRefIdeal.main_arg3))) = (fun _ => 1#1)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ r.2.sem = fun _ => 0)

def quiescent_SwaIdeal_pre_finite_scores [hSwaIdeal : Cert.SwaIdeal.Facts] [hPre_finite_scores : Cert.Pre_finite_scores.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_finite_scores m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2))
      ∧ r.2.sem = fun _ => 0)

def quiescent_SwaRefIdeal_pre_finite_scores [hSwaRefIdeal : Cert.SwaRefIdeal.Facts] [hPre_finite_scores : Cert.Pre_finite_scores.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_finite_scores m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4))
      ∧ r.2.sem = fun _ => 0)

def quiescent_GlaPrompt [hGlaPrompt : Cert.GlaPrompt.Facts] : Prop :=
  ∀ (m : (ℓ : Loc Cert.GlaPrompt.nD Cert.GlaPrompt.τ Cert.GlaPrompt.sig) → Buf (Elt Bits) ℓ) (g : Dev Cert.GlaPrompt.nD → PrngReg), Pre_GlaPrompt m →
    θ_run (Cert.GlaPrompt.defs (F := Bits)) (onTc (τ := Cert.GlaPrompt.τ) (Cert.GlaPrompt.main (F := Bits))) ⟨m, fun _ => 0, g⟩ (fun r => (∀ c : Dev Cert.GlaPrompt.nD,
      r.2.mem ((c.tc : Thread Cert.GlaPrompt.nD Cert.GlaPrompt.τ).loc Cert.GlaPrompt.main_arg0) = m ((c.tc : Thread Cert.GlaPrompt.nD Cert.GlaPrompt.τ).loc Cert.GlaPrompt.main_arg0)
      ∧ r.2.mem ((c.tc : Thread Cert.GlaPrompt.nD Cert.GlaPrompt.τ).loc Cert.GlaPrompt.main_arg1) = m ((c.tc : Thread Cert.GlaPrompt.nD Cert.GlaPrompt.τ).loc Cert.GlaPrompt.main_arg1)
      ∧ r.2.mem ((c.tc : Thread Cert.GlaPrompt.nD Cert.GlaPrompt.τ).loc Cert.GlaPrompt.main_arg2) = m ((c.tc : Thread Cert.GlaPrompt.nD Cert.GlaPrompt.τ).loc Cert.GlaPrompt.main_arg2)
      ∧ r.2.mem ((c.tc : Thread Cert.GlaPrompt.nD Cert.GlaPrompt.τ).loc Cert.GlaPrompt.main_arg3) = m ((c.tc : Thread Cert.GlaPrompt.nD Cert.GlaPrompt.τ).loc Cert.GlaPrompt.main_arg3))
      ∧ r.2.sem = fun _ => 0)

def quiescent_GlaPromptIdeal [hGlaPromptIdeal : Cert.GlaPromptIdeal.Facts] : Prop :=
  ∀ (m : (ℓ : Loc Cert.GlaPromptIdeal.nD Cert.GlaPromptIdeal.τ Cert.GlaPromptIdeal.sig) → Buf (Elt Ideal) ℓ) (g : Dev Cert.GlaPromptIdeal.nD → PrngReg), Pre_GlaPromptIdeal m →
    θ_run (Cert.GlaPromptIdeal.defs (F := Ideal)) (onTc (τ := Cert.GlaPromptIdeal.τ) (Cert.GlaPromptIdeal.main (F := Ideal))) ⟨m, fun _ => 0, g⟩ (fun r => (∀ c : Dev Cert.GlaPromptIdeal.nD,
      r.2.mem ((c.tc : Thread Cert.GlaPromptIdeal.nD Cert.GlaPromptIdeal.τ).loc Cert.GlaPromptIdeal.main_arg0) = m ((c.tc : Thread Cert.GlaPromptIdeal.nD Cert.GlaPromptIdeal.τ).loc Cert.GlaPromptIdeal.main_arg0)
      ∧ r.2.mem ((c.tc : Thread Cert.GlaPromptIdeal.nD Cert.GlaPromptIdeal.τ).loc Cert.GlaPromptIdeal.main_arg1) = m ((c.tc : Thread Cert.GlaPromptIdeal.nD Cert.GlaPromptIdeal.τ).loc Cert.GlaPromptIdeal.main_arg1)
      ∧ r.2.mem ((c.tc : Thread Cert.GlaPromptIdeal.nD Cert.GlaPromptIdeal.τ).loc Cert.GlaPromptIdeal.main_arg2) = m ((c.tc : Thread Cert.GlaPromptIdeal.nD Cert.GlaPromptIdeal.τ).loc Cert.GlaPromptIdeal.main_arg2)
      ∧ r.2.mem ((c.tc : Thread Cert.GlaPromptIdeal.nD Cert.GlaPromptIdeal.τ).loc Cert.GlaPromptIdeal.main_arg3) = m ((c.tc : Thread Cert.GlaPromptIdeal.nD Cert.GlaPromptIdeal.τ).loc Cert.GlaPromptIdeal.main_arg3))
      ∧ r.2.sem = fun _ => 0)

def quiescent_GlaPromptIdeal_pre_finite_gate [hGlaPromptIdeal : Cert.GlaPromptIdeal.Facts] [hPre_finite_gate : Cert.Pre_finite_gate.Facts] : Prop :=
  ∀ (m : (ℓ : Loc Cert.GlaPromptIdeal.nD Cert.GlaPromptIdeal.τ Cert.GlaPromptIdeal.sig) → Buf (Elt Ideal) ℓ) (g : Dev Cert.GlaPromptIdeal.nD → PrngReg), Pre_GlaPromptIdeal_finite_gate m →
    θ_run (Cert.GlaPromptIdeal.defs (F := Ideal)) (onTc (τ := Cert.GlaPromptIdeal.τ) (Cert.GlaPromptIdeal.main (F := Ideal))) ⟨m, fun _ => 0, g⟩ (fun r => (∀ c : Dev Cert.GlaPromptIdeal.nD,
      r.2.mem ((c.tc : Thread Cert.GlaPromptIdeal.nD Cert.GlaPromptIdeal.τ).loc Cert.GlaPromptIdeal.main_arg0) = m ((c.tc : Thread Cert.GlaPromptIdeal.nD Cert.GlaPromptIdeal.τ).loc Cert.GlaPromptIdeal.main_arg0)
      ∧ r.2.mem ((c.tc : Thread Cert.GlaPromptIdeal.nD Cert.GlaPromptIdeal.τ).loc Cert.GlaPromptIdeal.main_arg1) = m ((c.tc : Thread Cert.GlaPromptIdeal.nD Cert.GlaPromptIdeal.τ).loc Cert.GlaPromptIdeal.main_arg1)
      ∧ r.2.mem ((c.tc : Thread Cert.GlaPromptIdeal.nD Cert.GlaPromptIdeal.τ).loc Cert.GlaPromptIdeal.main_arg2) = m ((c.tc : Thread Cert.GlaPromptIdeal.nD Cert.GlaPromptIdeal.τ).loc Cert.GlaPromptIdeal.main_arg2)
      ∧ r.2.mem ((c.tc : Thread Cert.GlaPromptIdeal.nD Cert.GlaPromptIdeal.τ).loc Cert.GlaPromptIdeal.main_arg3) = m ((c.tc : Thread Cert.GlaPromptIdeal.nD Cert.GlaPromptIdeal.τ).loc Cert.GlaPromptIdeal.main_arg3))
      ∧ r.2.sem = fun _ => 0)

def quiescent_GlaPromptRefIdeal [hGlaPromptRefIdeal : Cert.GlaPromptRefIdeal.Facts] : Prop :=
  ∀ (m : (ℓ : Loc Cert.GlaPromptRefIdeal.nD Cert.GlaPromptRefIdeal.τ Cert.GlaPromptRefIdeal.sig) → Buf (Elt Ideal) ℓ) (g : Dev Cert.GlaPromptRefIdeal.nD → PrngReg), Pre_GlaPromptRefIdeal m →
    θ_run (Cert.GlaPromptRefIdeal.defs (F := Ideal)) (onTc (τ := Cert.GlaPromptRefIdeal.τ) (Cert.GlaPromptRefIdeal.main (F := Ideal))) ⟨m, fun _ => 0, g⟩ (fun r => (∀ c : Dev Cert.GlaPromptRefIdeal.nD,
      r.2.mem ((c.tc : Thread Cert.GlaPromptRefIdeal.nD Cert.GlaPromptRefIdeal.τ).loc Cert.GlaPromptRefIdeal.main_arg0) = m ((c.tc : Thread Cert.GlaPromptRefIdeal.nD Cert.GlaPromptRefIdeal.τ).loc Cert.GlaPromptRefIdeal.main_arg0)
      ∧ r.2.mem ((c.tc : Thread Cert.GlaPromptRefIdeal.nD Cert.GlaPromptRefIdeal.τ).loc Cert.GlaPromptRefIdeal.main_arg1) = m ((c.tc : Thread Cert.GlaPromptRefIdeal.nD Cert.GlaPromptRefIdeal.τ).loc Cert.GlaPromptRefIdeal.main_arg1)
      ∧ r.2.mem ((c.tc : Thread Cert.GlaPromptRefIdeal.nD Cert.GlaPromptRefIdeal.τ).loc Cert.GlaPromptRefIdeal.main_arg2) = m ((c.tc : Thread Cert.GlaPromptRefIdeal.nD Cert.GlaPromptRefIdeal.τ).loc Cert.GlaPromptRefIdeal.main_arg2)
      ∧ r.2.mem ((c.tc : Thread Cert.GlaPromptRefIdeal.nD Cert.GlaPromptRefIdeal.τ).loc Cert.GlaPromptRefIdeal.main_arg3) = m ((c.tc : Thread Cert.GlaPromptRefIdeal.nD Cert.GlaPromptRefIdeal.τ).loc Cert.GlaPromptRefIdeal.main_arg3))
      ∧ r.2.sem = fun _ => 0)

def quiescent_GlaPromptRefIdeal_pre_finite_gate [hGlaPromptRefIdeal : Cert.GlaPromptRefIdeal.Facts] [hPre_finite_gate : Cert.Pre_finite_gate.Facts] : Prop :=
  ∀ (m : (ℓ : Loc Cert.GlaPromptRefIdeal.nD Cert.GlaPromptRefIdeal.τ Cert.GlaPromptRefIdeal.sig) → Buf (Elt Ideal) ℓ) (g : Dev Cert.GlaPromptRefIdeal.nD → PrngReg), Pre_GlaPromptRefIdeal_finite_gate m →
    θ_run (Cert.GlaPromptRefIdeal.defs (F := Ideal)) (onTc (τ := Cert.GlaPromptRefIdeal.τ) (Cert.GlaPromptRefIdeal.main (F := Ideal))) ⟨m, fun _ => 0, g⟩ (fun r => (∀ c : Dev Cert.GlaPromptRefIdeal.nD,
      r.2.mem ((c.tc : Thread Cert.GlaPromptRefIdeal.nD Cert.GlaPromptRefIdeal.τ).loc Cert.GlaPromptRefIdeal.main_arg0) = m ((c.tc : Thread Cert.GlaPromptRefIdeal.nD Cert.GlaPromptRefIdeal.τ).loc Cert.GlaPromptRefIdeal.main_arg0)
      ∧ r.2.mem ((c.tc : Thread Cert.GlaPromptRefIdeal.nD Cert.GlaPromptRefIdeal.τ).loc Cert.GlaPromptRefIdeal.main_arg1) = m ((c.tc : Thread Cert.GlaPromptRefIdeal.nD Cert.GlaPromptRefIdeal.τ).loc Cert.GlaPromptRefIdeal.main_arg1)
      ∧ r.2.mem ((c.tc : Thread Cert.GlaPromptRefIdeal.nD Cert.GlaPromptRefIdeal.τ).loc Cert.GlaPromptRefIdeal.main_arg2) = m ((c.tc : Thread Cert.GlaPromptRefIdeal.nD Cert.GlaPromptRefIdeal.τ).loc Cert.GlaPromptRefIdeal.main_arg2)
      ∧ r.2.mem ((c.tc : Thread Cert.GlaPromptRefIdeal.nD Cert.GlaPromptRefIdeal.τ).loc Cert.GlaPromptRefIdeal.main_arg3) = m ((c.tc : Thread Cert.GlaPromptRefIdeal.nD Cert.GlaPromptRefIdeal.τ).loc Cert.GlaPromptRefIdeal.main_arg3))
      ∧ r.2.sem = fun _ => 0)

def preserves_Swa_SwaIdeal : Prop :=
  IdealRules.named_const.Statement Cert.SwaIdeal.κ "scale_log2e" .f32 0x3E38AA3B#32 (((1 / 8) * (Real.log 2)⁻¹ : ℝ) : EReal)
  ∧ IdealRules.named_const.Statement Cert.SwaIdeal.κ "slope0_log2e" .f32 0x3F8293EE#32 ((1 * ((Real.sqrt (1 / 2)) * (Real.log 2)⁻¹) : ℝ) : EReal)
  ∧ IdealRules.named_const.Statement Cert.SwaIdeal.κ "log2e" .f32 0x3FB8AA3B#32 (((Real.log 2)⁻¹ : ℝ) : EReal)
  ∧ IdealRules.named_const.Statement Cert.SwaIdeal.κ "slope1_log2e" .f32 0x3F38AA3B#32 (((1 / 2) * (Real.log 2)⁻¹ : ℝ) : EReal)
  ∧ IdealRules.named_const.Statement Cert.SwaIdeal.κ "slope2_log2e" .f32 0x3F0293EE#32 (((1 / 2) * ((Real.sqrt (1 / 2)) * (Real.log 2)⁻¹) : ℝ) : EReal)
  ∧ IdealRules.named_const.Statement Cert.SwaIdeal.κ "slope3_log2e" .f32 0x3EB8AA3B#32 (((1 / 4) * (Real.log 2)⁻¹ : ℝ) : EReal)
  ∧ IdealRules.named_const.Statement Cert.SwaIdeal.κ "slope4_log2e" .f32 0x3E8293EE#32 (((1 / 4) * ((Real.sqrt (1 / 2)) * (Real.log 2)⁻¹) : ℝ) : EReal)
  ∧ IdealRules.named_const.Statement Cert.SwaIdeal.κ "slope6_log2e" .f32 0x3E0293EE#32 (((1 / 8) * ((Real.sqrt (1 / 2)) * (Real.log 2)⁻¹) : ℝ) : EReal)
  ∧ IdealRules.named_const.Statement Cert.SwaIdeal.κ "slope7_log2e" .f32 0x3DB8AA3B#32 (((1 / 16) * (Real.log 2)⁻¹ : ℝ) : EReal)
  ∧ IdealRules.named_const.Statement Cert.SwaIdeal.κ "slope8_log2e" .f32 0x3D8293EE#32 (((1 / 16) * ((Real.sqrt (1 / 2)) * (Real.log 2)⁻¹) : ℝ) : EReal)
  ∧ IdealRules.named_const.Statement Cert.SwaIdeal.κ "slope9_log2e" .f32 0x3D38AA3B#32 (((1 / 32) * (Real.log 2)⁻¹ : ℝ) : EReal)
  ∧ IdealRules.named_const.Statement Cert.SwaIdeal.κ "slope10_log2e" .f32 0x3D0293EE#32 (((1 / 32) * ((Real.sqrt (1 / 2)) * (Real.log 2)⁻¹) : ℝ) : EReal)
  ∧ IdealRules.named_const.Statement Cert.SwaIdeal.κ "slope11_log2e" .f32 0x3CB8AA3B#32 (((1 / 64) * (Real.log 2)⁻¹ : ℝ) : EReal)
  ∧ IdealRules.named_const.Statement Cert.SwaIdeal.κ "slope12_log2e" .f32 0x3C8293EE#32 (((1 / 64) * ((Real.sqrt (1 / 2)) * (Real.log 2)⁻¹) : ℝ) : EReal)
  ∧ IdealRules.named_const.Statement Cert.SwaIdeal.κ "slope13_log2e" .f32 0x3C38AA3B#32 (((1 / 128) * (Real.log 2)⁻¹ : ℝ) : EReal)
  ∧ IdealRules.named_const.Statement Cert.SwaIdeal.κ "slope14_log2e" .f32 0x3C0293EE#32 (((1 / 128) * ((Real.sqrt (1 / 2)) * (Real.log 2)⁻¹) : ℝ) : EReal)
  ∧ IdealRules.named_const.Statement Cert.SwaIdeal.κ "slope15_log2e" .f32 0x3BB8AA3B#32 (((1 / 256) * (Real.log 2)⁻¹ : ℝ) : EReal)

def algebraic_SwaIdeal_SwaRefIdeal_pre_finite_scores [hSwaIdeal : Cert.SwaIdeal.Facts] [hSwaRefIdeal : Cert.SwaRefIdeal.Facts] [hPre_finite_scores : Cert.Pre_finite_scores.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_finite_scores m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)) →
    ∃ (v0 : (c : Dev Cert.SwaIdeal.nD) → Buf (Elt Ideal) ((c.tc : Thread Cert.SwaIdeal.nD Cert.SwaIdeal.τ).loc Cert.SwaIdeal.main_v0)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v0) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v91) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v17_0)) (v1 : (c : Dev Cert.InprojIdeal.nD) → Buf (Elt Ideal) ((c.tc : Thread Cert.InprojIdeal.nD Cert.InprojIdeal.τ).loc Cert.InprojIdeal.main_v17_1)) (v2 : (c : Dev Cert.InprojIdeal.nD) → Buf (Elt Ideal) ((c.tc : Thread Cert.InprojIdeal.nD Cert.InprojIdeal.τ).loc Cert.InprojIdeal.main_v21)) (v3 : (c : Dev Cert.InprojIdeal.nD) → Buf (Elt Ideal) ((c.tc : Thread Cert.InprojIdeal.nD Cert.InprojIdeal.τ).loc Cert.InprojIdeal.main_v23)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v17_0) = v0 c
          ∧ r.2.mem ((c.tc : Thread Cert.InprojIdeal.nD Cert.InprojIdeal.τ).loc Cert.InprojIdeal.main_v17_1) = v1 c
          ∧ r.2.mem ((c.tc : Thread Cert.InprojIdeal.nD Cert.InprojIdeal.τ).loc Cert.InprojIdeal.main_v21) = v2 c
          ∧ r.2.mem ((c.tc : Thread Cert.InprojIdeal.nD Cert.InprojIdeal.τ).loc Cert.InprojIdeal.main_v23) = v3 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v31) = v0 c
          ∧ r.2.mem ((c.tc : Thread Cert.InprojRefIdeal.nD Cert.InprojRefIdeal.τ).loc Cert.InprojRefIdeal.main_v32) = v1 c
          ∧ r.2.mem ((c.tc : Thread Cert.InprojRefIdeal.nD Cert.InprojRefIdeal.τ).loc Cert.InprojRefIdeal.main_v34) = v2 c
          ∧ r.2.mem ((c.tc : Thread Cert.InprojRefIdeal.nD Cert.InprojRefIdeal.τ).loc Cert.InprojRefIdeal.main_v36) = v3 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)) →
    ∃ (v0 : (c : Dev Cert.PostIdeal.nD) → Buf (Elt Ideal) ((c.tc : Thread Cert.PostIdeal.nD Cert.PostIdeal.τ).loc Cert.PostIdeal.main_v7_0)) (v1 : (c : Dev Cert.PostIdeal.nD) → Buf (Elt Ideal) ((c.tc : Thread Cert.PostIdeal.nD Cert.PostIdeal.τ).loc Cert.PostIdeal.main_v7_1)) (v2 : (c : Dev Cert.PostIdeal.nD) → Buf (Elt Ideal) ((c.tc : Thread Cert.PostIdeal.nD Cert.PostIdeal.τ).loc Cert.PostIdeal.main_v7_2)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v7_0) = v0 c
          ∧ r.2.mem ((c.tc : Thread Cert.PostIdeal.nD Cert.PostIdeal.τ).loc Cert.PostIdeal.main_v7_1) = v1 c
          ∧ r.2.mem ((c.tc : Thread Cert.PostIdeal.nD Cert.PostIdeal.τ).loc Cert.PostIdeal.main_v7_2) = v2 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v24) = v0 c
          ∧ r.2.mem ((c.tc : Thread Cert.PostRefIdeal.nD Cert.PostRefIdeal.τ).loc Cert.PostRefIdeal.main_v39) = v1 c
          ∧ r.2.mem ((c.tc : Thread Cert.PostRefIdeal.nD Cert.PostRefIdeal.τ).loc Cert.PostRefIdeal.main_v42) = v2 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6))

def preserves_Sample_SampleIdeal : Prop :=
  True

def algebraic_SampleIdeal_SampleRefIdeal [hSampleIdeal : Cert.SampleIdeal.Facts] [hSampleRefIdeal : Cert.SampleRefIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)
      ∧ m' ((c.tc : Thread Cert.SampleRefIdeal.nD Cert.SampleRefIdeal.τ).loc Cert.SampleRefIdeal.main_arg4) = m ((c.tc : Thread Cert.SampleIdeal.nD Cert.SampleIdeal.τ).loc Cert.SampleIdeal.main_arg4)) →
    ∃ (v0 : (c : Dev Cert.SampleIdeal.nD) → Buf (Elt Ideal) ((c.tc : Thread Cert.SampleIdeal.nD Cert.SampleIdeal.τ).loc Cert.SampleIdeal.main_v19)) (v1 : (c : Dev Cert.SampleIdeal.nD) → Buf (Elt Ideal) ((c.tc : Thread Cert.SampleIdeal.nD Cert.SampleIdeal.τ).loc Cert.SampleIdeal.main_v20)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v19) = v0 c
          ∧ r.2.mem ((c.tc : Thread Cert.SampleIdeal.nD Cert.SampleIdeal.τ).loc Cert.SampleIdeal.main_v20) = v1 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v9) = v0 c
          ∧ r.2.mem ((c.tc : Thread Cert.SampleRefIdeal.nD Cert.SampleRefIdeal.τ).loc Cert.SampleRefIdeal.main_v11) = v1 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3)
          ∧ r.2.mem ((c.tc : Thread Cert.SampleRefIdeal.nD Cert.SampleRefIdeal.τ).loc Cert.SampleRefIdeal.main_arg4) = m' ((c.tc : Thread Cert.SampleRefIdeal.nD Cert.SampleRefIdeal.τ).loc Cert.SampleRefIdeal.main_arg4))

def preserves_Gla_GlaIdeal : Prop :=
  True

def algebraic_GlaIdeal_GlaRefIdeal [hGlaIdeal : Cert.GlaIdeal.Facts] [hGlaRefIdeal : Cert.GlaRefIdeal.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)
      ∧ m' ((c.tc : Thread Cert.GlaRefIdeal.nD Cert.GlaRefIdeal.τ).loc Cert.GlaRefIdeal.main_arg4) = m ((c.tc : Thread Cert.GlaIdeal.nD Cert.GlaIdeal.τ).loc Cert.GlaIdeal.main_arg4)) →
    ∃ (v0 : (c : Dev Cert.GlaIdeal.nD) → Buf (Elt Ideal) ((c.tc : Thread Cert.GlaIdeal.nD Cert.GlaIdeal.τ).loc Cert.GlaIdeal.main_v8_1)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v8_1) = v0 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v30) = v0 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4))

def preserves_GlaPrompt_GlaPromptIdeal : Prop :=
  True

def algebraic_GlaPromptIdeal_GlaPromptRefIdeal_pre_finite_gate [hGlaPromptIdeal : Cert.GlaPromptIdeal.Facts] [hGlaPromptRefIdeal : Cert.GlaPromptRefIdeal.Facts] [hPre_finite_gate : Cert.Pre_finite_gate.Facts] : Prop :=
  ∀ (m : (ℓ : Loc Cert.GlaPromptIdeal.nD Cert.GlaPromptIdeal.τ Cert.GlaPromptIdeal.sig) → Buf (Elt Ideal) ℓ) (g : Dev Cert.GlaPromptIdeal.nD → PrngReg)
    (m' : (ℓ : Loc Cert.GlaPromptRefIdeal.nD Cert.GlaPromptRefIdeal.τ Cert.GlaPromptRefIdeal.sig) → Buf (Elt Ideal) ℓ) (g' : Dev Cert.GlaPromptRefIdeal.nD → PrngReg), Pre_GlaPromptIdeal_finite_gate m →
    (∀ c : Dev Cert.GlaPromptIdeal.nD,
      m' ((c.tc : Thread Cert.GlaPromptRefIdeal.nD Cert.GlaPromptRefIdeal.τ).loc Cert.GlaPromptRefIdeal.main_arg0) = m ((c.tc : Thread Cert.GlaPromptIdeal.nD Cert.GlaPromptIdeal.τ).loc Cert.GlaPromptIdeal.main_arg0)
      ∧ m' ((c.tc : Thread Cert.GlaPromptRefIdeal.nD Cert.GlaPromptRefIdeal.τ).loc Cert.GlaPromptRefIdeal.main_arg1) = m ((c.tc : Thread Cert.GlaPromptIdeal.nD Cert.GlaPromptIdeal.τ).loc Cert.GlaPromptIdeal.main_arg1)
      ∧ m' ((c.tc : Thread Cert.GlaPromptRefIdeal.nD Cert.GlaPromptRefIdeal.τ).loc Cert.GlaPromptRefIdeal.main_arg2) = m ((c.tc : Thread Cert.GlaPromptIdeal.nD Cert.GlaPromptIdeal.τ).loc Cert.GlaPromptIdeal.main_arg2)
      ∧ m' ((c.tc : Thread Cert.GlaPromptRefIdeal.nD Cert.GlaPromptRefIdeal.τ).loc Cert.GlaPromptRefIdeal.main_arg3) = m ((c.tc : Thread Cert.GlaPromptIdeal.nD Cert.GlaPromptIdeal.τ).loc Cert.GlaPromptIdeal.main_arg3)) →
    ∃ (v0 : (c : Dev Cert.GlaPromptIdeal.nD) → Buf (Elt Ideal) ((c.tc : Thread Cert.GlaPromptIdeal.nD Cert.GlaPromptIdeal.τ).loc Cert.GlaPromptIdeal.main_v14_1)),
      θ_run (Cert.GlaPromptIdeal.defs (F := Ideal)) (onTc (τ := Cert.GlaPromptIdeal.τ) (Cert.GlaPromptIdeal.main (F := Ideal))) ⟨m, fun _ => 0, g⟩ (fun r => ∀ c : Dev Cert.GlaPromptIdeal.nD,
          r.2.mem ((c.tc : Thread Cert.GlaPromptIdeal.nD Cert.GlaPromptIdeal.τ).loc Cert.GlaPromptIdeal.main_v14_1) = v0 c
          ∧ r.2.mem ((c.tc : Thread Cert.GlaPromptIdeal.nD Cert.GlaPromptIdeal.τ).loc Cert.GlaPromptIdeal.main_arg0) = m ((c.tc : Thread Cert.GlaPromptIdeal.nD Cert.GlaPromptIdeal.τ).loc Cert.GlaPromptIdeal.main_arg0)
          ∧ r.2.mem ((c.tc : Thread Cert.GlaPromptIdeal.nD Cert.GlaPromptIdeal.τ).loc Cert.GlaPromptIdeal.main_arg1) = m ((c.tc : Thread Cert.GlaPromptIdeal.nD Cert.GlaPromptIdeal.τ).loc Cert.GlaPromptIdeal.main_arg1)
          ∧ r.2.mem ((c.tc : Thread Cert.GlaPromptIdeal.nD Cert.GlaPromptIdeal.τ).loc Cert.GlaPromptIdeal.main_arg2) = m ((c.tc : Thread Cert.GlaPromptIdeal.nD Cert.GlaPromptIdeal.τ).loc Cert.GlaPromptIdeal.main_arg2)
          ∧ r.2.mem ((c.tc : Thread Cert.GlaPromptIdeal.nD Cert.GlaPromptIdeal.τ).loc Cert.GlaPromptIdeal.main_arg3) = m ((c.tc : Thread Cert.GlaPromptIdeal.nD Cert.GlaPromptIdeal.τ).loc Cert.GlaPromptIdeal.main_arg3))
      ∧ θ_run (Cert.GlaPromptRefIdeal.defs (F := Ideal)) (onTc (τ := Cert.GlaPromptRefIdeal.τ) (Cert.GlaPromptRefIdeal.main (F := Ideal))) ⟨m', fun _ => 0, g'⟩ (fun r => ∀ c : Dev Cert.GlaPromptRefIdeal.nD,
          r.2.mem ((c.tc : Thread Cert.GlaPromptRefIdeal.nD Cert.GlaPromptRefIdeal.τ).loc Cert.GlaPromptRefIdeal.main_v32) = v0 c
          ∧ r.2.mem ((c.tc : Thread Cert.GlaPromptRefIdeal.nD Cert.GlaPromptRefIdeal.τ).loc Cert.GlaPromptRefIdeal.main_arg0) = m' ((c.tc : Thread Cert.GlaPromptRefIdeal.nD Cert.GlaPromptRefIdeal.τ).loc Cert.GlaPromptRefIdeal.main_arg0)
          ∧ r.2.mem ((c.tc : Thread Cert.GlaPromptRefIdeal.nD Cert.GlaPromptRefIdeal.τ).loc Cert.GlaPromptRefIdeal.main_arg1) = m' ((c.tc : Thread Cert.GlaPromptRefIdeal.nD Cert.GlaPromptRefIdeal.τ).loc Cert.GlaPromptRefIdeal.main_arg1)
          ∧ r.2.mem ((c.tc : Thread Cert.GlaPromptRefIdeal.nD Cert.GlaPromptRefIdeal.τ).loc Cert.GlaPromptRefIdeal.main_arg2) = m' ((c.tc : Thread Cert.GlaPromptRefIdeal.nD Cert.GlaPromptRefIdeal.τ).loc Cert.GlaPromptRefIdeal.main_arg2)
          ∧ r.2.mem ((c.tc : Thread Cert.GlaPromptRefIdeal.nD Cert.GlaPromptRefIdeal.τ).loc Cert.GlaPromptRefIdeal.main_arg3) = m' ((c.tc : Thread Cert.GlaPromptRefIdeal.nD Cert.GlaPromptRefIdeal.τ).loc Cert.GlaPromptRefIdeal.main_arg3))

def Claim : Prop :=
  ∃ (hSwa : Cert.Swa.Facts) (hSwaIdeal : Cert.SwaIdeal.Facts) (hSwaRefIdeal : Cert.SwaRefIdeal.Facts) (hInproj : Cert.Inproj.Facts) (hInprojIdeal : Cert.InprojIdeal.Facts) (hInprojRefIdeal : Cert.InprojRefIdeal.Facts) (hPost : Cert.Post.Facts) (hPostIdeal : Cert.PostIdeal.Facts) (hPostRefIdeal : Cert.PostRefIdeal.Facts) (hSample : Cert.Sample.Facts) (hSampleIdeal : Cert.SampleIdeal.Facts) (hSampleRefIdeal : Cert.SampleRefIdeal.Facts) (hGla : Cert.Gla.Facts) (hGlaIdeal : Cert.GlaIdeal.Facts) (hGlaRefIdeal : Cert.GlaRefIdeal.Facts) (hGlaPrompt : Cert.GlaPrompt.Facts) (hGlaPromptIdeal : Cert.GlaPromptIdeal.Facts) (hGlaPromptRefIdeal : Cert.GlaPromptRefIdeal.Facts) (hPre_finite_scores : Cert.Pre_finite_scores.Facts) (hPre_finite_gate : Cert.Pre_finite_gate.Facts),
    quiescent_Swa (hSwa := hSwa)
    ∧ quiescent_SwaIdeal (hSwaIdeal := hSwaIdeal)
    ∧ quiescent_SwaIdeal_pre_finite_scores (hSwaIdeal := hSwaIdeal) (hPre_finite_scores := hPre_finite_scores)
    ∧ quiescent_SwaRefIdeal (hSwaRefIdeal := hSwaRefIdeal)
    ∧ quiescent_SwaRefIdeal_pre_finite_scores (hSwaRefIdeal := hSwaRefIdeal) (hPre_finite_scores := hPre_finite_scores)
    ∧ quiescent_Inproj (hInproj := hInproj)
    ∧ quiescent_InprojIdeal (hInprojIdeal := hInprojIdeal)
    ∧ quiescent_InprojRefIdeal (hInprojRefIdeal := hInprojRefIdeal)
    ∧ quiescent_Post (hPost := hPost)
    ∧ quiescent_PostIdeal (hPostIdeal := hPostIdeal)
    ∧ quiescent_PostRefIdeal (hPostRefIdeal := hPostRefIdeal)
    ∧ quiescent_Sample (hSample := hSample)
    ∧ quiescent_SampleIdeal (hSampleIdeal := hSampleIdeal)
    ∧ quiescent_SampleRefIdeal (hSampleRefIdeal := hSampleRefIdeal)
    ∧ quiescent_Gla (hGla := hGla)
    ∧ quiescent_GlaIdeal (hGlaIdeal := hGlaIdeal)
    ∧ quiescent_GlaRefIdeal (hGlaRefIdeal := hGlaRefIdeal)
    ∧ quiescent_GlaPrompt (hGlaPrompt := hGlaPrompt)
    ∧ quiescent_GlaPromptIdeal (hGlaPromptIdeal := hGlaPromptIdeal)
    ∧ quiescent_GlaPromptIdeal_pre_finite_gate (hGlaPromptIdeal := hGlaPromptIdeal) (hPre_finite_gate := hPre_finite_gate)
    ∧ quiescent_GlaPromptRefIdeal (hGlaPromptRefIdeal := hGlaPromptRefIdeal)
    ∧ quiescent_GlaPromptRefIdeal_pre_finite_gate (hGlaPromptRefIdeal := hGlaPromptRefIdeal) (hPre_finite_gate := hPre_finite_gate)
    ∧ preserves_Swa_SwaIdeal
    ∧ algebraic_SwaIdeal_SwaRefIdeal_pre_finite_scores (hSwaIdeal := hSwaIdeal) (hSwaRefIdeal := hSwaRefIdeal) (hPre_finite_scores := hPre_finite_scores)
    ∧ preserves_Inproj_InprojIdeal
    ∧ algebraic_InprojIdeal_InprojRefIdeal (hInprojIdeal := hInprojIdeal) (hInprojRefIdeal := hInprojRefIdeal)
    ∧ preserves_Post_PostIdeal
    ∧ algebraic_PostIdeal_PostRefIdeal (hPostIdeal := hPostIdeal) (hPostRefIdeal := hPostRefIdeal)
    ∧ preserves_Sample_SampleIdeal
    ∧ algebraic_SampleIdeal_SampleRefIdeal (hSampleIdeal := hSampleIdeal) (hSampleRefIdeal := hSampleRefIdeal)
    ∧ preserves_Gla_GlaIdeal
    ∧ algebraic_GlaIdeal_GlaRefIdeal (hGlaIdeal := hGlaIdeal) (hGlaRefIdeal := hGlaRefIdeal)
    ∧ preserves_GlaPrompt_GlaPromptIdeal
    ∧ algebraic_GlaPromptIdeal_GlaPromptRefIdeal_pre_finite_gate (hGlaPromptIdeal := hGlaPromptIdeal) (hGlaPromptRefIdeal := hGlaPromptRefIdeal) (hPre_finite_gate := hPre_finite_gate)
-- ==== Pre_finite_gate.lean ====
abbrev S32768x6784 : Shape := ⟨2, ![32768, 6784]⟩
abbrev S1x16x512 : Shape := ⟨3, ![1, 16, 512]⟩
abbrev S1x512 : Shape := ⟨2, ![1, 512]⟩
abbrev S1x256 : Shape := ⟨2, ![1, 256]⟩
abbrev S32768x16 : Shape := ⟨2, ![32768, 16]⟩
abbrev S_ : Shape := ⟨0, ![]⟩

class Facts : Prop where
  slices_S32768x6784_S32768x16_0_6656 : S32768x6784.Slices ![0, 6656] S32768x16
  bitsLt_bf16_f32 : FTy.bits .bf16 < FTy.bits .f32
  bcast_S_S32768x16 : S_.BroadcastsInDim S32768x16 (![] : Fin 0 → Fin S32768x16.rank)
  reducesTo_S32768x16_S_d0_1 : S32768x16.ReducesTo [0, 1] S_
  h_S_ : 0 < S_.numel
  bcast_S_S1x16x512 : S_.BroadcastsInDim S1x16x512 (![] : Fin 0 → Fin S1x16x512.rank)
  reducesTo_S1x16x512_S_d0_1_2 : S1x16x512.ReducesTo [0, 1, 2] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg2 : FVec F S1x512 .f32) (main_v14 : IVec S_ 1) (main_v16 : IVec S1x512 1) : IVec S_ 1 :=
  let main_cst_5 : FVec F S_ .f32 := constant S_ .f32 0x7F800000#32
  let main_v17 : FVec F S1x512 .f32 := broadcastInDim S1x512 ![] bcast_S_S1x512 main_cst_5
  let main_v18 : IVec S1x512 1 := cmpf .olt main_arg2 main_v17
  let main_v19 : IVec S1x512 1 := andi main_v16 main_v18
  let main_c_6 : IVec S_ 1 := constantI S_ 1 1#1
  let main_v20 : IVec S_ 1 := (fun x v => Host.reduce IntOp.andi x v reducesTo_S1x512_S_d0_1 h_S_) main_v19 main_c_6
  let main_v21 : IVec S_ 1 := andi main_v14 main_v20
  main_v21

def fn {F : FTy → Type} [FloatOps F] (main_arg0 : FVec F S32768x6784 .bf16) (main_arg1 : FVec F S1x16x512 .f32) (main_arg2 : FVec F S1x512 .f32) (main_arg3 : FVec F S1x256 .f32) : IVec S_ 1 :=
  let main_v0 : FVec F S32768x16 .bf16 := (extractStridedSlice S32768x16 ![0, 6656] · slices_S32768x6784_S32768x16_0_6656) main_arg0
  let main_v1 : FVec F S32768x16 .f32 := (extf .f32 · bitsLt_bf16_f32) main_v0
  let main_cst : FVec F S_ .f32 := constant S_ .f32 0xFF800000#32
  let main_v2 : FVec F S32768x16 .f32 := broadcastInDim S32768x16 ![] bcast_S_S32768x16 main_cst
  let main_v3 : IVec S32768x16 1 := cmpf .ogt main_v1 main_v2
  let main_cst_0 : FVec F S_ .f32 := constant S_ .f32 0x7F800000#32
  let main_v4 : FVec F S32768x16 .f32 := broadcastInDim S32768x16 ![] bcast_S_S32768x16 main_cst_0
  let main_v5 : IVec S32768x16 1 := cmpf .olt main_v1 main_v4
  let main_v6 : IVec S32768x16 1 := andi main_v3 main_v5
  let main_c : IVec S_ 1 := constantI S_ 1 1#1
  let main_v7 : IVec S_ 1 := (fun x v => Host.reduce IntOp.andi x v reducesTo_S32768x16_S_d0_1 h_S_) main_v6 main_c
  let main_cst_1 : FVec F S_ .f32 := constant S_ .f32 0xFF800000#32
  let main_v8 : FVec F S1x16x512 .f32 := broadcastInDim S1x16x512 ![] bcast_S_S1x16x512 main_cst_1
  let main_v9 : IVec S1x16x512 1 := cmpf .ogt main_arg1 main_v8
  let main_cst_2 : FVec F S_ .f32 := constant S_ .f32 0x7F800000#32
  let main_v10 : FVec F S1x16x512 .f32 := broadcastInDim S1x16x512 ![] bcast_S_S1x16x512 main_cst_2
  let main_v11 : IVec S1x16x512 1 := cmpf .olt main_arg1 main_v10
  let main_v12 : IVec S1x16x512 1 := andi main_v9 main_v11
  let main_c_3 : IVec S_ 1 := constantI S_ 1 1#1
  let main_v13 : IVec S_ 1 := (fun x v => Host.reduce IntOp.andi x v reducesTo_S1x16x512_S_d0_1_2 h_S_) main_v12 main_c_3
  let main_v14 : IVec S_ 1 := andi main_v7 main_v13
  let main_cst_4 : FVec F S_ .f32 := constant S_ .f32 0xFF800000#32
  let main_v15 : FVec F S1x512 .f32 := broadcastInDim S1x512 ![] bcast_S_S1x512 main_cst_4
  let main_v16 : IVec S1x512 1 := cmpf .ogt main_arg2 main_v15
  fn_part1 (F := F) main_arg2 main_v14 main_v16
-- ==== Pre_finite_scores.lean ====
abbrev S16 : Shape := ⟨1, ![16]⟩
abbrev S32768x6784 : Shape := ⟨2, ![32768, 6784]⟩
abbrev S32768x512 : Shape := ⟨2, ![32768, 512]⟩
abbrev S_ : Shape := ⟨0, ![]⟩
abbrev S32768x1024 : Shape := ⟨2, ![32768, 1024]⟩
abbrev S32768x256 : Shape := ⟨2, ![32768, 256]⟩

class Facts : Prop where
  bcast_S_S16 : S_.BroadcastsInDim S16 (![] : Fin 0 → Fin S16.rank)
  reducesTo_S16_S_d0 : S16.ReducesTo [0] S_
  h_S_ : 0 < S_.numel
  slices_S32768x6784_S32768x1024_0_0 : S32768x6784.Slices ![0, 0] S32768x1024
  bitsLt_bf16_f32 : FTy.bits .bf16 < FTy.bits .f32
  bcast_S_S32768x1024 : S_.BroadcastsInDim S32768x1024 (![] : Fin 0 → Fin S32768x1024.rank)
  reducesTo_S32768x1024_S_d0_1 : S32768x1024.ReducesTo [0, 1] S_
  slices_S32768x512_S32768x256_0_0 : S32768x512.Slices ![0, 0] S32768x256
  bcast_S_S32768x256 : S_.BroadcastsInDim S32768x256 (![] : Fin 0 → Fin S32768x256.rank)
  reducesTo_S32768x256_S_d0_1 : S32768x256.ReducesTo [0, 1] S_

variable [Facts]

def fn_part1 {F : FTy → Type} [FloatOps F] (main_v14 : IVec S_ 1) (main_v15 : FVec F S32768x256 .f32) (main_v16 : FVec F S32768x256 .f32) : IVec S_ 1 :=
  let main_v17 : IVec S32768x256 1 := cmpf .ogt main_v15 main_v16
  let main_cst_5 : FVec F S_ .f32 := constant S_ .f32 0x7F800000#32
  let main_v18 : FVec F S32768x256 .f32 := broadcastInDim S32768x256 ![] bcast_S_S32768x256 main_cst_5
  let main_v19 : IVec S32768x256 1 := cmpf .olt main_v15 main_v18
  let main_v20 : IVec S32768x256 1 := andi main_v17 main_v19
  let main_c_6 : IVec S_ 1 := constantI S_ 1 1#1
  let main_v21 : IVec S_ 1 := (fun x v => Host.reduce IntOp.andi x v reducesTo_S32768x256_S_d0_1 h_S_) main_v20 main_c_6
  let main_v22 : IVec S_ 1 := andi main_v14 main_v21
  main_v22

def fn {F : FTy → Type} [FloatOps F] (main_arg0 : FVec F S16 .f32) (main_arg1 : FVec F S32768x6784 .bf16) (main_arg2 : FVec F S32768x512 .f32) : IVec S_ 1 :=
  let main_cst : FVec F S_ .f32 := constant S_ .f32 0xFF800000#32
  let main_v0 : FVec F S16 .f32 := broadcastInDim S16 ![] bcast_S_S16 main_cst
  let main_v1 : IVec S16 1 := cmpf .ogt main_arg0 main_v0
  let main_cst_0 : FVec F S_ .f32 := constant S_ .f32 0x7F800000#32
  let main_v2 : FVec F S16 .f32 := broadcastInDim S16 ![] bcast_S_S16 main_cst_0
  let main_v3 : IVec S16 1 := cmpf .olt main_arg0 main_v2
  let main_v4 : IVec S16 1 := andi main_v1 main_v3
  let main_c : IVec S_ 1 := constantI S_ 1 1#1
  let main_v5 : IVec S_ 1 := (fun x v => Host.reduce IntOp.andi x v reducesTo_S16_S_d0 h_S_) main_v4 main_c
  let main_v6 : FVec F S32768x1024 .bf16 := (extractStridedSlice S32768x1024 ![0, 0] · slices_S32768x6784_S32768x1024_0_0) main_arg1
  let main_v7 : FVec F S32768x1024 .f32 := (extf .f32 · bitsLt_bf16_f32) main_v6
  let main_cst_1 : FVec F S_ .f32 := constant S_ .f32 0xFF800000#32
  let main_v8 : FVec F S32768x1024 .f32 := broadcastInDim S32768x1024 ![] bcast_S_S32768x1024 main_cst_1
  let main_v9 : IVec S32768x1024 1 := cmpf .ogt main_v7 main_v8
  let main_cst_2 : FVec F S_ .f32 := constant S_ .f32 0x7F800000#32
  let main_v10 : FVec F S32768x1024 .f32 := broadcastInDim S32768x1024 ![] bcast_S_S32768x1024 main_cst_2
  let main_v11 : IVec S32768x1024 1 := cmpf .olt main_v7 main_v10
  let main_v12 : IVec S32768x1024 1 := andi main_v9 main_v11
  let main_c_3 : IVec S_ 1 := constantI S_ 1 1#1
  let main_v13 : IVec S_ 1 := (fun x v => Host.reduce IntOp.andi x v reducesTo_S32768x1024_S_d0_1 h_S_) main_v12 main_c_3
  let main_v14 : IVec S_ 1 := andi main_v5 main_v13
  let main_v15 : FVec F S32768x256 .f32 := (extractStridedSlice S32768x256 ![0, 0] · slices_S32768x512_S32768x256_0_0) main_arg2
  let main_cst_4 : FVec F S_ .f32 := constant S_ .f32 0xFF800000#32
  let main_v16 : FVec F S32768x256 .f32 := broadcastInDim S32768x256 ![] bcast_S_S32768x256 main_cst_4
  fn_part1 (F := F) main_v14 main_v15 main_v16
-- ==== Swa.lean ====
abbrev S16 : Shape := ⟨1, ![16]⟩
abbrev S32768x6784 : Shape := ⟨2, ![32768, 6784]⟩
abbrev S32768x512 : Shape := ⟨2, ![32768, 512]⟩
abbrev S32768x1024 : Shape := ⟨2, ![32768, 1024]⟩
abbrev S128x1024 : Shape := ⟨2, ![128, 1024]⟩
abbrev S128x512 : Shape := ⟨2, ![128, 512]⟩
abbrev S128x256 : Shape := ⟨2, ![128, 256]⟩
abbrev S256x256 : Shape := ⟨2, ![256, 256]⟩
abbrev S128x64 : Shape := ⟨2, ![128, 64]⟩
abbrev S256x64 : Shape := ⟨2, ![256, 64]⟩
abbrev S1 : Shape := ⟨1, ![1]⟩
abbrev S128 : Shape := ⟨1, ![128]⟩
abbrev S128x1 : Shape := ⟨2, ![128, 1]⟩

abbrev nBuf : Space → Nat
  | .hbm => 4
  | .vmem => 8
  | .smem => 1
  | _ => 0

abbrev bufTy : (tb : Table) → Fin (tcTables nBuf tb) → BufTy
  | .hbm, ⟨0, _⟩ => ⟨S16, .f32⟩
  | .hbm, ⟨1, _⟩ => ⟨S32768x6784, .bf16⟩
  | .hbm, ⟨2, _⟩ => ⟨S32768x512, .f32⟩
  | .hbm, ⟨3, _⟩ => ⟨S32768x1024, .bf16⟩
  | .local _ .vmem, ⟨0, _⟩ => ⟨S128x1024, .bf16⟩
  | .local _ .vmem, ⟨1, _⟩ => ⟨S128x1024, .bf16⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x1024, .bf16⟩
  | .local _ .vmem, ⟨7, _⟩ => ⟨S128x1024, .bf16⟩
  | .local _ .smem, ⟨0, _⟩ => ⟨S16, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 64], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SwaIdeal.lean ====
variable {F : FTy → Type} [FloatOps F] [Named F]
def κ : String → Option EReal := fun
  | "log2e" => some (((Real.log 2)⁻¹ : ℝ) : EReal)
  | "scale_log2e" => some (((1 / 8) * (Real.log 2)⁻¹ : ℝ) : EReal)
  | "slope0_log2e" => some ((1 * ((Real.sqrt (1 / 2)) * (Real.log 2)⁻¹) : ℝ) : EReal)
  | "slope10_log2e" => some (((1 / 32) * ((Real.sqrt (1 / 2)) * (Real.log 2)⁻¹) : ℝ) : EReal)
  | "slope11_log2e" => some (((1 / 64) * (Real.log 2)⁻¹ : ℝ) : EReal)
  | "slope12_log2e" => some (((1 / 64) * ((Real.sqrt (1 / 2)) * (Real.log 2)⁻¹) : ℝ) : EReal)
  | "slope13_log2e" => some (((1 / 128) * (Real.log 2)⁻¹ : ℝ) : EReal)
  | "slope14_log2e" => some (((1 / 128) * ((Real.sqrt (1 / 2)) * (Real.log 2)⁻¹) : ℝ) : EReal)
  | "slope15_log2e" => some (((1 / 256) * (Real.log 2)⁻¹ : ℝ) : EReal)
  | "slope1_log2e" => some (((1 / 2) * (Real.log 2)⁻¹ : ℝ) : EReal)
  | "slope2_log2e" => some (((1 / 2) * ((Real.sqrt (1 / 2)) * (Real.log 2)⁻¹) : ℝ) : EReal)
  | "slope3_log2e" => some (((1 / 4) * (Real.log 2)⁻¹ : ℝ) : EReal)
  | "slope4_log2e" => some (((1 / 4) * ((Real.sqrt (1 / 2)) * (Real.log 2)⁻¹) : ℝ) : EReal)
  | "slope6_log2e" => some (((1 / 8) * ((Real.sqrt (1 / 2)) * (Real.log 2)⁻¹) : ℝ) : EReal)
  | "slope7_log2e" => some (((1 / 16) * (Real.log 2)⁻¹ : ℝ) : EReal)
  | "slope8_log2e" => some (((1 / 16) * ((Real.sqrt (1 / 2)) * (Real.log 2)⁻¹) : ℝ) : EReal)
  | "slope9_log2e" => some (((1 / 32) * (Real.log 2)⁻¹ : ℝ) : EReal)
  | _ => none
-- ==== SwaRefIdeal.lean ====
abbrev S16 : Shape := ⟨1, ![16]⟩
abbrev S32768x6784 : Shape := ⟨2, ![32768, 6784]⟩
abbrev S32768x512 : Shape := ⟨2, ![32768, 512]⟩
abbrev S32768x1024 : Shape := ⟨2, ![32768, 1024]⟩
abbrev S4x64x128x4x4x64 : Shape := ⟨6, ![4, 64, 128, 4, 4, 64]⟩
abbrev S32768x256 : Shape := ⟨2, ![32768, 256]⟩
abbrev S4x8192x4x64 : Shape := ⟨4, ![4, 8192, 4, 64]⟩
abbrev S_ : Shape := ⟨0, ![]⟩
abbrev S4x8320x4x64 : Shape := ⟨4, ![4, 8320, 4, 64]⟩
abbrev S4x65x128x4x64 : Shape := ⟨5, ![4, 65, 128, 4, 64]⟩
abbrev S4x64x128x4x64 : Shape := ⟨5, ![4, 64, 128, 4, 64]⟩
abbrev S4x64x256x4x64 : Shape := ⟨5, ![4, 64, 256, 4, 64]⟩
abbrev S64 : Shape := ⟨1, ![64]⟩
abbrev S64x1x1 : Shape := ⟨3, ![64, 1, 1]⟩
abbrev S128 : Shape := ⟨1, ![128]⟩
abbrev S1x128x1 : Shape := ⟨3, ![1, 128, 1]⟩
abbrev S64x128x1 : Shape := ⟨3, ![64, 128, 1]⟩
abbrev S256 : Shape := ⟨1, ![256]⟩
abbrev S1x1x256 : Shape := ⟨3, ![1, 1, 256]⟩
abbrev S64x1x256 : Shape := ⟨3, ![64, 1, 256]⟩
abbrev S4x64x4x256x128x4 : Shape := ⟨6, ![4, 64, 4, 256, 128, 4]⟩
abbrev S4x64x4x4x128x256 : Shape := ⟨6, ![4, 64, 4, 4, 128, 256]⟩
abbrev S64x128x256 : Shape := ⟨3, ![64, 128, 256]⟩
abbrev S4x4 : Shape := ⟨2, ![4, 4]⟩
abbrev S1x1x4x4x1x1 : Shape := ⟨6, ![1, 1, 4, 4, 1, 1]⟩
abbrev S1x64x1x1x128x256 : Shape := ⟨6, ![1, 64, 1, 1, 128, 256]⟩
abbrev S1x64x4x4x128x256 : Shape := ⟨6, ![1, 64, 4, 4, 128, 256]⟩
abbrev S4x64x4x4x128 : Shape := ⟨5, ![4, 64, 4, 4, 128]⟩
abbrev S4x64x4x4x128x1 : Shape := ⟨6, ![4, 64, 4, 4, 128, 1]⟩
abbrev S4x64x4x64x4x128 : Shape := ⟨6, ![4, 64, 4, 64, 4, 128]⟩

abbrev nBuf : Space → Nat
  | .hbm => 116
  | .vmem => 0
  | .smem => 0
  | _ => 0

abbrev bufTy : (tb : Table) → Fin (tcTables nBuf tb) → BufTy
  | .hbm, ⟨0, _⟩ => ⟨S16, .f32⟩
  | .hbm, ⟨1, _⟩ => ⟨S32768x6784, .bf16⟩
  | .hbm, ⟨2, _⟩ => ⟨S32768x512, .f32⟩
  | .hbm, ⟨3, _⟩ => ⟨S32768x1024, .bf16⟩
  | .hbm, ⟨4, _⟩ => ⟨S32768x1024, .f32⟩
  | .hbm, ⟨5, _⟩ => ⟨S4x64x128x4x4x64, .f32⟩
  | .hbm, ⟨6, _⟩ => ⟨S32768x256, .f32⟩
  | .hbm, ⟨7, _⟩ => ⟨S4x8192x4x64, .f32⟩
  | .hbm, ⟨8, _⟩ => ⟨S32768x256, .f32⟩
  | .hbm, ⟨9, _⟩ => ⟨S4x8192x4x64, .f32⟩
  | .hbm, ⟨10, _⟩ => ⟨S_, .i32⟩
  | .hbm, ⟨11, _⟩ => ⟨S_, .f32⟩
  | .hbm, ⟨12, _⟩ => ⟨S4x8320x4x64, .f32⟩
  | .hbm, ⟨13, _⟩ => ⟨S4x65x128x4x64, .f32⟩
  | .hbm, ⟨14, _⟩ => ⟨S4x64x128x4x64, .f32⟩
  | .hbm, ⟨15, _⟩ => ⟨S4x64x128x4x64, .f32⟩
  | .hbm, ⟨16, _⟩ => ⟨S4x64x256x4x64, .f32⟩
  | .hbm, ⟨17, _⟩ => ⟨S_, .i32⟩
  | .hbm, ⟨18, _⟩ => ⟨S_, .f32⟩
  | .hbm, ⟨19, _⟩ => ⟨S4x8320x4x64, .f32⟩
  | .hbm, ⟨20, _⟩ => ⟨S4x65x128x4x64, .f32⟩
  | .hbm, ⟨21, _⟩ => ⟨S4x64x128x4x64, .f32⟩
  | .hbm, ⟨22, _⟩ => ⟨S4x64x128x4x64, .f32⟩
  | .hbm, ⟨23, _⟩ => ⟨S4x64x256x4x64, .f32⟩
  | .hbm, ⟨24, _⟩ => ⟨S64, .i32⟩
  | .hbm, ⟨25, _⟩ => ⟨S64x1x1, .i32⟩
  | .hbm, ⟨26, _⟩ => ⟨S_, .i32⟩
  | .hbm, ⟨27, _⟩ => ⟨S64x1x1, .i32⟩
  | .hbm, ⟨28, _⟩ => ⟨S64x1x1, .i32⟩
  | .hbm, ⟨29, _⟩ => ⟨S128, .i32⟩
  | .hbm, ⟨30, _⟩ => ⟨S1x128x1, .i32⟩
  | .hbm, ⟨31, _⟩ => ⟨S64x128x1, .i32⟩
  | .hbm, ⟨32, _⟩ => ⟨S64x128x1, .i32⟩
  | .hbm, ⟨33, _⟩ => ⟨S64x128x1, .i32⟩
  | .hbm, ⟨34, _⟩ => ⟨S_, .i32⟩
  | .hbm, ⟨35, _⟩ => ⟨S64x1x1, .i32⟩
  | .hbm, ⟨36, _⟩ => ⟨S64x1x1, .i32⟩
  | .hbm, ⟨37, _⟩ => ⟨S_, .i32⟩
  | .hbm, ⟨38, _⟩ => ⟨S64x1x1, .i32⟩
  | .hbm, ⟨39, _⟩ => ⟨S64x1x1, .i32⟩
  | .hbm, ⟨40, _⟩ => ⟨S256, .i32⟩
  | .hbm, ⟨41, _⟩ => ⟨S1x1x256, .i32⟩
  | .hbm, ⟨42, _⟩ => ⟨S64x1x256, .i32⟩
  | .hbm, ⟨43, _⟩ => ⟨S64x1x256, .i32⟩
  | .hbm, ⟨44, _⟩ => ⟨S64x1x256, .i32⟩
  | .hbm, ⟨45, _⟩ => ⟨S4x64x4x256x128x4, .f32⟩
  | .hbm, ⟨46, _⟩ => ⟨S4x64x4x4x128x256, .f32⟩
  | .hbm, ⟨47, _⟩ => ⟨S_, .f32⟩
  | .hbm, ⟨48, _⟩ => ⟨S4x64x4x4x128x256, .f32⟩
  | .hbm, ⟨49, _⟩ => ⟨S4x64x4x4x128x256, .f32⟩
  | .hbm, ⟨50, _⟩ => ⟨S64x128x256, .i32⟩
  | .hbm, ⟨51, _⟩ => ⟨S64x128x256, .i32⟩
  | .hbm, ⟨52, _⟩ => ⟨S64x128x256, .i32⟩
  | .hbm, ⟨53, _⟩ => ⟨S_, .i32⟩
  | .hbm, ⟨54, _⟩ => ⟨S64x128x256, .i32⟩
  | .hbm, ⟨55, _⟩ => ⟨S64x128x256, .i1⟩
  | .hbm, ⟨56, _⟩ => ⟨S_, .i32⟩
  | .hbm, ⟨57, _⟩ => ⟨S64x128x256, .i32⟩
  | .hbm, ⟨58, _⟩ => ⟨S64x128x256, .i1⟩
  | .hbm, ⟨59, _⟩ => ⟨S64x128x256, .i1⟩
  | .hbm, ⟨60, _⟩ => ⟨S_, .i32⟩
  | .hbm, ⟨61, _⟩ => ⟨S64x1x256, .i32⟩
  | .hbm, ⟨62, _⟩ => ⟨S64x1x256, .i1⟩
  | .hbm, ⟨63, _⟩ => ⟨S64x128x256, .i1⟩
  | .hbm, ⟨64, _⟩ => ⟨S64x128x256, .i1⟩
  | .hbm, ⟨65, _⟩ => ⟨S16, .f32⟩
  | .hbm, ⟨66, _⟩ => ⟨S_, .f32⟩
  | .hbm, ⟨67, _⟩ => ⟨S16, .f32⟩
  | .hbm, ⟨68, _⟩ => ⟨S16, .f32⟩
  | .hbm, ⟨69, _⟩ => ⟨S_, .f32⟩
  | .hbm, ⟨70, _⟩ => ⟨S16, .f32⟩
  | .hbm, ⟨71, _⟩ => ⟨S16, .f32⟩
  | .hbm, ⟨72, _⟩ => ⟨S_, .f32⟩
  | .hbm, ⟨73, _⟩ => ⟨S16, .f32⟩
  | .hbm, ⟨74, _⟩ => ⟨S16, .f32⟩
  | .hbm, ⟨75, _⟩ => ⟨S_, .f32⟩
  | .hbm, ⟨76, _⟩ => ⟨S16, .f32⟩
  | .hbm, ⟨77, _⟩ => ⟨S16, .f32⟩
  | .hbm, ⟨78, _⟩ => ⟨S4x4, .f32⟩
  | .hbm, ⟨79, _⟩ => ⟨S1x1x4x4x1x1, .f32⟩
  | .hbm, ⟨80, _⟩ => ⟨S1x64x1x1x128x256, .i32⟩
  | .hbm, ⟨81, _⟩ => ⟨S1x64x1x1x128x256, .f32⟩
  | .hbm, ⟨82, _⟩ => ⟨S1x64x4x4x128x256, .f32⟩
  | .hbm, ⟨83, _⟩ => ⟨S1x64x4x4x128x256, .f32⟩
  | .hbm, ⟨84, _⟩ => ⟨S1x64x4x4x128x256, .f32⟩
  | .hbm, ⟨85, _⟩ => ⟨S4x64x4x4x128x256, .f32⟩
  | .hbm, ⟨86, _⟩ => ⟨S4x64x4x4x128x256, .f32⟩
  | .hbm, ⟨87, _⟩ => ⟨S1x64x1x1x128x256, .i1⟩
  | .hbm, ⟨88, _⟩ => ⟨S_, .f32⟩
  | .hbm, ⟨89, _⟩ => ⟨S_, .f32⟩
  | .hbm, ⟨90, _⟩ => ⟨S4x64x4x4x128x256, .i1⟩
  | .hbm, ⟨91, _⟩ => ⟨S4x64x4x4x128x256, .f32⟩
  | .hbm, ⟨92, _⟩ => ⟨S4x64x4x4x128x256, .f32⟩
  | .hbm, ⟨93, _⟩ => ⟨S4x4, .f32⟩
  | .hbm, ⟨94, _⟩ => ⟨S1x1x4x4x1x1, .f32⟩
  | .hbm, ⟨95, _⟩ => ⟨S_, .f32⟩
  | .hbm, ⟨96, _⟩ => ⟨S4x64x4x4x128, .f32⟩
  | .hbm, ⟨97, _⟩ => ⟨S4x64x4x4x128x1, .f32⟩
  | .hbm, ⟨98, _⟩ => ⟨S4x64x4x4x128x1, .f32⟩
  | .hbm, ⟨99, _⟩ => ⟨S4x64x4x4x128x1, .f32⟩
  | .hbm, ⟨100, _⟩ => ⟨S4x64x4x4x128x256, .f32⟩
  | .hbm, ⟨101, _⟩ => ⟨S4x64x4x4x128x256, .f32⟩
  | .hbm, ⟨102, _⟩ => ⟨S4x64x4x4x128x256, .f32⟩
  | .hbm, ⟨103, _⟩ => ⟨S_, .f32⟩
  | .hbm, ⟨104, _⟩ => ⟨S4x64x4x4x128, .f32⟩
  | .hbm, ⟨105, _⟩ => ⟨S4x64x4x4x128x1, .f32⟩
  | .hbm, ⟨106, _⟩ => ⟨S4x64x4x4x128x1, .f32⟩
  | .hbm, ⟨107, _⟩ => ⟨S4x64x4x4x128x1, .f32⟩
  | .hbm, ⟨108, _⟩ => ⟨S4x64x4x4x128x1, .f32⟩
  | .hbm, ⟨109, _⟩ => ⟨S4x64x4x4x128x1, .f32⟩
  | .hbm, ⟨110, _⟩ => ⟨S4x64x4x4x128x256, .f32⟩
  | .hbm, ⟨111, _⟩ => ⟨S4x64x4x4x128x256, .f32⟩
  | .hbm, ⟨112, _⟩ => ⟨S4x64x4x64x4x128, .f32⟩
  | .hbm, ⟨113, _⟩ => ⟨S4x64x128x4x4x64, .f32⟩
  | .hbm, ⟨114, _⟩ => ⟨S32768x1024, .f32⟩
  | .hbm, ⟨115, _⟩ => ⟨S32768x1024, .bf16⟩
  | _, _ => ⟨S16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_call1_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_2 : Ref sig .tc := ⟨.hbm, 34, rfl⟩
abbrev main_v26 : Ref sig .tc := ⟨.hbm, 35, rfl⟩
abbrev main_v27 : Ref sig .tc := ⟨.hbm, 36, rfl⟩
abbrev main_c_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_4 : Ref sig .tc := ⟨.hbm, 53, rfl⟩
abbrev main_v42 : Ref sig .tc := ⟨.hbm, 54, rfl⟩
abbrev main_v43 : Ref sig .tc := ⟨.hbm, 55, rfl⟩
abbrev main_c_5 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_6 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_7 : Ref sig .tc := ⟨.hbm, 66, rfl⟩
abbrev main_v52 : Ref sig .tc := ⟨.hbm, 67, rfl⟩
abbrev main_v53 : Ref sig .tc := ⟨.hbm, 68, rfl⟩
abbrev main_cst_8 : Ref sig .tc := ⟨.hbm, 69, rfl⟩
abbrev main_v54 : Ref sig .tc := ⟨.hbm, 70, rfl⟩
abbrev main_v55 : Ref sig .tc := ⟨.hbm, 71, rfl⟩
abbrev main_cst_9 : Ref sig .tc := ⟨.hbm, 72, rfl⟩
abbrev main_v56 : Ref sig .tc := ⟨.hbm, 73, rfl⟩
abbrev main_v57 : Ref sig .tc := ⟨.hbm, 74, rfl⟩
abbrev main_cst_10 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_11 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_12 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_13 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩

abbrev nD : Nat := 1
abbrev τ : Topo := Topo.v7x

variable {F : FTy → Type} [FloatOps F]
-- ==== Inproj.lean ====
abbrev S4x8192x1024 : Shape := ⟨3, ![4, 8192, 1024]⟩
abbrev S1x1024 : Shape := ⟨2, ![1, 1024]⟩
abbrev S1x1024x6672 : Shape := ⟨3, ![1, 1024, 6672]⟩
abbrev S1024x6672 : Shape := ⟨2, ![1024, 6672]⟩
abbrev S1024x1024 : Shape := ⟨2, ![1024, 1024]⟩
abbrev S1024x256 : Shape := ⟨2, ![1024, 256]⟩
abbrev S1024x512 : Shape := ⟨2, ![1024, 512]⟩
abbrev S1024x16 : Shape := ⟨2, ![1024, 16]⟩
abbrev S_ : Shape := ⟨0, ![]⟩
abbrev S1024x128 : Shape := ⟨2, ![1024, 128]⟩
abbrev S1024x6784 : Shape := ⟨2, ![1024, 6784]⟩
abbrev S32768x1024 : Shape := ⟨2, ![32768, 1024]⟩
abbrev S1024 : Shape := ⟨1, ![1024]⟩
abbrev S32768x6784 : Shape := ⟨2, ![32768, 6784]⟩
abbrev S32768x512 : Shape := ⟨2, ![32768, 512]⟩
abbrev S512x1024 : Shape := ⟨2, ![512, 1024]⟩
abbrev S512x6784 : Shape := ⟨2, ![512, 6784]⟩
abbrev S512x512 : Shape := ⟨2, ![512, 512]⟩
abbrev S512 : Shape := ⟨1, ![512]⟩
abbrev S512x1 : Shape := ⟨2, ![512, 1]⟩
abbrev S512x128 : Shape := ⟨2, ![512, 128]⟩
abbrev S4x8192x512 : Shape := ⟨3, ![4, 8192, 512]⟩
abbrev S4x128x512 : Shape := ⟨3, ![4, 128, 512]⟩
abbrev S4x128x256 : Shape := ⟨3, ![4, 128, 256]⟩
abbrev S1x4x128x4x64 : Shape := ⟨5, ![1, 4, 128, 4, 64]⟩

abbrev nBuf : Space → Nat
  | .hbm => 30
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x6672, .f32⟩
  | .hbm, ⟨3, _⟩ => ⟨S1024x6672, .f32⟩
  | .hbm, ⟨4, _⟩ => ⟨S1024x1024, .f32⟩
  | .hbm, ⟨5, _⟩ => ⟨S1024x256, .f32⟩
  | .hbm, ⟨6, _⟩ => ⟨S1024x256, .f32⟩
  | .hbm, ⟨7, _⟩ => ⟨S1024x512, .f32⟩
  | .hbm, ⟨8, _⟩ => ⟨S1024x512, .f32⟩
  | .hbm, ⟨9, _⟩ => ⟨S1024x1024, .f32⟩
  | .hbm, ⟨10, _⟩ => ⟨S1024x1024, .f32⟩
  | .hbm, ⟨11, _⟩ => ⟨S1024x16, .f32⟩
  | .hbm, ⟨12, _⟩ => ⟨S1024x1024, .f32⟩
  | .hbm, ⟨13, _⟩ => ⟨S1024x1024, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S1024x6784, .f32⟩
  | .hbm, ⟨18, _⟩ => ⟨S1024x6784, .bf16⟩
  | .hbm, ⟨19, _⟩ => ⟨S32768x1024, .f32⟩
  | .hbm, ⟨20, _⟩ => ⟨S1024, .f32⟩
  | .hbm, ⟨21, _⟩ => ⟨S1x1024, .f32⟩
  | .hbm, ⟨22, _⟩ => ⟨S32768x6784, .bf16⟩
  | .hbm, ⟨23, _⟩ => ⟨S32768x512, .f32⟩
  | .hbm, ⟨24, _⟩ => ⟨S4x8192x512, .f32⟩
  | .hbm, ⟨25, _⟩ => ⟨S4x128x512, .f32⟩
  | .hbm, ⟨26, _⟩ => ⟨S4x128x256, .f32⟩
  | .hbm, ⟨27, _⟩ => ⟨S1x4x128x4x64, .f32⟩
  | .hbm, ⟨28, _⟩ => ⟨S4x128x256, .f32⟩
  | .hbm, ⟨29, _⟩ => ⟨S1x4x128x4x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6784, .bf16⟩
  | .local _ .vmem, ⟨4, _⟩ => ⟨S512x6784, .bf16⟩
  | .local _ .vmem, ⟨5, _⟩ => ⟨S512x6784, .bf16⟩
  | .local _ .vmem, ⟨6, _⟩ => ⟨S512x512, .f32⟩
  | .local _ .vmem, ⟨7, _⟩ => ⟨S512x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_call0_v0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17_0 : Ref sig .tc := ⟨.hbm, 22, rfl⟩
abbrev main_v17_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6784 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x6784 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InprojRefIdeal.lean ====
abbrev S4x8192x1024 : Shape := ⟨3, ![4, 8192, 1024]⟩
abbrev S1x1024 : Shape := ⟨2, ![1, 1024]⟩
abbrev S1x1024x6672 : Shape := ⟨3, ![1, 1024, 6672]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x6672 : Shape := ⟨2, ![1024, 6672]⟩
abbrev S4x8192x6672 : Shape := ⟨3, ![4, 8192, 6672]⟩
abbrev S32768x6672 : Shape := ⟨2, ![32768, 6672]⟩
abbrev S32768x1024 : Shape := ⟨2, ![32768, 1024]⟩
abbrev S32768x256 : Shape := ⟨2, ![32768, 256]⟩
abbrev S32768x512 : Shape := ⟨2, ![32768, 512]⟩
abbrev S32768x16 : Shape := ⟨2, ![32768, 16]⟩
abbrev S32768x128 : Shape := ⟨2, ![32768, 128]⟩
abbrev S4x8192x4x64 : Shape := ⟨4, ![4, 8192, 4, 64]⟩
abbrev S32768x6784 : Shape := ⟨2, ![32768, 6784]⟩
abbrev S4x128x4x64 : Shape := ⟨4, ![4, 128, 4, 64]⟩
abbrev S1x4x128x4x64 : Shape := ⟨5, ![1, 4, 128, 4, 64]⟩

abbrev nBuf : Space → Nat
  | .hbm => 45
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x6672, .f32⟩
  | .hbm, ⟨3, _⟩ => ⟨S1024, .f32⟩
  | .hbm, ⟨4, _⟩ => ⟨S4x8192x1024, .f32⟩
  | .hbm, ⟨5, _⟩ => ⟨S_, .f32⟩
  | .hbm, ⟨6, _⟩ => ⟨S4x8192, .f32⟩
  | .hbm, ⟨7, _⟩ => ⟨S4x8192x1, .f32⟩
  | .hbm, ⟨8, _⟩ => ⟨S_, .f32⟩
  | .hbm, ⟨9, _⟩ => ⟨S4x8192x1, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S4x8192x1, .f32⟩
  | .hbm, ⟨15, _⟩ => ⟨S4x8192x1024, .f32⟩
  | .hbm, ⟨16, _⟩ => ⟨S4x8192x1024, .f32⟩
  | .hbm, ⟨17, _⟩ => ⟨S1x1x1024, .f32⟩
  | .hbm, ⟨18, _⟩ => ⟨S4x8192x1024, .f32⟩
  | .hbm, ⟨19, _⟩ => ⟨S4x8192x1024, .f32⟩
  | .hbm, ⟨20, _⟩ => ⟨S1024x6672, .f32⟩
  | .hbm, ⟨21, _⟩ => ⟨S4x8192x6672, .f32⟩
  | .hbm, ⟨22, _⟩ => ⟨S32768x6672, .f32⟩
  | .hbm, ⟨23, _⟩ => ⟨S32768x1024, .f32⟩
  | .hbm, ⟨24, _⟩ => ⟨S32768x256, .f32⟩
  | .hbm, ⟨25, _⟩ => ⟨S32768x256, .f32⟩
  | .hbm, ⟨26, _⟩ => ⟨S32768x512, .f32⟩
  | .hbm, ⟨27, _⟩ => ⟨S32768x512, .f32⟩
  | .hbm, ⟨28, _⟩ => ⟨S32768x1024, .f32⟩
  | .hbm, ⟨29, _⟩ => ⟨S32768x1024, .f32⟩
  | .hbm, ⟨30, _⟩ => ⟨S32768x16, .f32⟩
  | .hbm, ⟨31, _⟩ => ⟨S32768x1024, .f32⟩
  | .hbm, ⟨32, _⟩ => ⟨S32768x1024, .f32⟩
  | .hbm, ⟨33, _⟩ => ⟨S_, .i32⟩
  | .hbm, ⟨34, _⟩ => ⟨S_, .f32⟩
  | .hbm, ⟨35, _⟩ => ⟨S32768x128, .f32⟩
  | .hbm, ⟨36, _⟩ => ⟨S4x8192x4x64, .f32⟩
  | .hbm, ⟨37, _⟩ => ⟨S4x8192x4x64, .f32⟩
  | .hbm, ⟨38, _⟩ => ⟨S32768x6784, .f32⟩
  | .hbm, ⟨39, _⟩ => ⟨S32768x6784, .bf16⟩
  | .hbm, ⟨40, _⟩ => ⟨S32768x512, .f32⟩
  | .hbm, ⟨41, _⟩ => ⟨S4x128x4x64, .f32⟩
  | .hbm, ⟨42, _⟩ => ⟨S1x4x128x4x64, .f32⟩
  | .hbm, ⟨43, _⟩ => ⟨S4x128x4x64, .f32⟩
  | .hbm, ⟨44, _⟩ => ⟨S1x4x128x4x64, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c : Ref sig .tc := ⟨.hbm, 33, rfl⟩
abbrev main_call0_v0 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩

abbrev nD : Nat := 1
abbrev τ : Topo := Topo.v7x

variable {F : FTy → Type} [FloatOps F]
-- ==== Post.lean ====
abbrev S4x8192x1024 : Shape := ⟨3, ![4, 8192, 1024]⟩
abbrev S32768x1024 : Shape := ⟨2, ![32768, 1024]⟩
abbrev S32768x6784 : Shape := ⟨2, ![32768, 6784]⟩
abbrev S1x1024x1024 : Shape := ⟨3, ![1, 1024, 1024]⟩
abbrev S1x1024 : Shape := ⟨2, ![1, 1024]⟩
abbrev S1x1024x2048 : Shape := ⟨3, ![1, 1024, 2048]⟩
abbrev S1024x1024 : Shape := ⟨2, ![1024, 1024]⟩
abbrev S1024x2048 : Shape := ⟨2, ![1024, 2048]⟩
abbrev S1024 : Shape := ⟨1, ![1024]⟩
abbrev S32768x2048 : Shape := ⟨2, ![32768, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 17
  | .vmem => 19
  | .smem => 0
  | _ => 0

abbrev bufTy : (tb : Table) → Fin (tcTables nBuf tb) → BufTy
  | .hbm, ⟨0, _⟩ => ⟨S4x8192x1024, .f32⟩
  | .hbm, ⟨1, _⟩ => ⟨S32768x1024, .bf16⟩
  | .hbm, ⟨2, _⟩ => ⟨S32768x1024, .bf16⟩
  | .hbm, ⟨3, _⟩ => ⟨S32768x6784, .bf16⟩
  | .hbm, ⟨4, _⟩ => ⟨S1x1024x1024, .f32⟩
  | .hbm, ⟨5, _⟩ => ⟨S1x1024, .f32⟩
  | .hbm, ⟨6, _⟩ => ⟨S1x1024x2048, .f32⟩
  | .hbm, ⟨7, _⟩ => ⟨S1024x1024, .f32⟩
  | .hbm, ⟨8, _⟩ => ⟨S1024x1024, .bf16⟩
  | .hbm, ⟨9, _⟩ => ⟨S1024x2048, .f32⟩
  | .hbm, ⟨10, _⟩ => ⟨S1024x2048, .bf16⟩
  | .hbm, ⟨11, _⟩ => ⟨S32768x1024, .f32⟩
  | .hbm, ⟨12, _⟩ => ⟨S1024, .f32⟩
  | .hbm, ⟨13, _⟩ => ⟨S1x1024, .f32⟩
  | .hbm, ⟨14, _⟩ => ⟨S32768x1024, .f32⟩
  | .hbm, ⟨15, _⟩ => ⟨S32768x1024, .bf16⟩
  | .hbm, ⟨16, _⟩ => ⟨S32768x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x2048, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x2048, .bf16⟩
  | .local _ .vmem, ⟨18, _⟩ => ⟨S512x2048, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== PostRefIdeal.lean ====
abbrev S4x8192x1024 : Shape := ⟨3, ![4, 8192, 1024]⟩
abbrev S32768x1024 : Shape := ⟨2, ![32768, 1024]⟩
abbrev S32768x6784 : Shape := ⟨2, ![32768, 6784]⟩
abbrev S1x1024x1024 : Shape := ⟨3, ![1, 1024, 1024]⟩
abbrev S1x1024 : Shape := ⟨2, ![1, 1024]⟩
abbrev S1x1024x2048 : Shape := ⟨3, ![1, 1024, 2048]⟩
abbrev S_ : Shape := ⟨0, ![]⟩
abbrev S1024x1024 : Shape := ⟨2, ![1024, 1024]⟩
abbrev S1024 : Shape := ⟨1, ![1024]⟩
abbrev S32768 : Shape := ⟨1, ![32768]⟩
abbrev S32768x1 : Shape := ⟨2, ![32768, 1]⟩
abbrev S1024x2048 : Shape := ⟨2, ![1024, 2048]⟩
abbrev S32768x2048 : Shape := ⟨2, ![32768, 2048]⟩

abbrev nBuf : Space → Nat
  | .hbm => 57
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S32768x1024, .bf16⟩
  | .hbm, ⟨2, _⟩ => ⟨S32768x1024, .bf16⟩
  | .hbm, ⟨3, _⟩ => ⟨S32768x6784, .bf16⟩
  | .hbm, ⟨4, _⟩ => ⟨S1x1024x1024, .f32⟩
  | .hbm, ⟨5, _⟩ => ⟨S1x1024, .f32⟩
  | .hbm, ⟨6, _⟩ => ⟨S1x1024x2048, .f32⟩
  | .hbm, ⟨7, _⟩ => ⟨S32768x1024, .bf16⟩
  | .hbm, ⟨8, _⟩ => ⟨S32768x1024, .f32⟩
  | .hbm, ⟨9, _⟩ => ⟨S32768x1024, .bf16⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S_, .f32⟩
  | .hbm, ⟨14, _⟩ => ⟨S32768x1024, .f32⟩
  | .hbm, ⟨15, _⟩ => ⟨S32768x1024, .f32⟩
  | .hbm, ⟨16, _⟩ => ⟨S_, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S1024x1024, .f32⟩
  | .hbm, ⟨34, _⟩ => ⟨S32768x1024, .f32⟩
  | .hbm, ⟨35, _⟩ => ⟨S32768x1024, .f32⟩
  | .hbm, ⟨36, _⟩ => ⟨S1024, .f32⟩
  | .hbm, ⟨37, _⟩ => ⟨S32768x1024, .f32⟩
  | .hbm, ⟨38, _⟩ => ⟨S_, .f32⟩
  | .hbm, ⟨39, _⟩ => ⟨S32768, .f32⟩
  | .hbm, ⟨40, _⟩ => ⟨S32768x1, .f32⟩
  | .hbm, ⟨41, _⟩ => ⟨S_, .f32⟩
  | .hbm, ⟨42, _⟩ => ⟨S32768x1, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S32768x1, .f32⟩
  | .hbm, ⟨48, _⟩ => ⟨S32768x1024, .f32⟩
  | .hbm, ⟨49, _⟩ => ⟨S32768x1024, .f32⟩
  | .hbm, ⟨50, _⟩ => ⟨S1x1024, .f32⟩
  | .hbm, ⟨51, _⟩ => ⟨S32768x1024, .f32⟩
  | .hbm, ⟨52, _⟩ => ⟨S32768x1024, .f32⟩
  | .hbm, ⟨53, _⟩ => ⟨S32768x1024, .bf16⟩
  | .hbm, ⟨54, _⟩ => ⟨S1024x2048, .f32⟩
  | .hbm, ⟨55, _⟩ => ⟨S32768x2048, .f32⟩
  | .hbm, ⟨56, _⟩ => ⟨S32768x2048, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Sample.lean ====
abbrev S128x6784 : Shape := ⟨2, ![128, 6784]⟩
abbrev S128x512 : Shape := ⟨2, ![128, 512]⟩
abbrev S1x128x128x4x64 : Shape := ⟨5, ![1, 128, 128, 4, 64]⟩
abbrev S1x16 : Shape := ⟨2, ![1, 16]⟩
abbrev S16 : Shape := ⟨1, ![16]⟩
abbrev S128x1024 : Shape := ⟨2, ![128, 1024]⟩
abbrev S128x4x4x64 : Shape := ⟨4, ![128, 4, 4, 64]⟩
abbrev S128x4x1x256 : Shape := ⟨4, ![128, 4, 1, 256]⟩
abbrev S128x4x4x256 : Shape := ⟨4, ![128, 4, 4, 256]⟩
abbrev S128x16x256 : Shape := ⟨3, ![128, 16, 256]⟩
abbrev S_ : Shape := ⟨0, ![]⟩
abbrev S16x1 : Shape := ⟨2, ![16, 1]⟩
abbrev S128x128x4x64 : Shape := ⟨4, ![128, 128, 4, 64]⟩
abbrev S128x128x256 : Shape := ⟨3, ![128, 128, 256]⟩
abbrev S8x16x256 : Shape := ⟨3, ![8, 16, 256]⟩
abbrev S8x128x256 : Shape := ⟨3, ![8, 128, 256]⟩
abbrev S8x512 : Shape := ⟨2, ![8, 512]⟩
abbrev S128x256 : Shape := ⟨2, ![128, 256]⟩
abbrev S16x256 : Shape := ⟨2, ![16, 256]⟩
abbrev S16x128 : Shape := ⟨2, ![16, 128]⟩
abbrev S1x256 : Shape := ⟨2, ![1, 256]⟩
abbrev S1x128x256 : Shape := ⟨3, ![1, 128, 256]⟩
abbrev S1x16x256 : Shape := ⟨3, ![1, 16, 256]⟩

abbrev nBuf : Space → Nat
  | .hbm => 32
  | .vmem => 16
  | .smem => 0
  | _ => 0

abbrev bufTy : (tb : Table) → Fin (tcTables nBuf tb) → BufTy
  | .hbm, ⟨0, _⟩ => ⟨S128x6784, .bf16⟩
  | .hbm, ⟨1, _⟩ => ⟨S128x512, .f32⟩
  | .hbm, ⟨2, _⟩ => ⟨S1x128x128x4x64, .f32⟩
  | .hbm, ⟨3, _⟩ => ⟨S1x128x128x4x64, .f32⟩
  | .hbm, ⟨4, _⟩ => ⟨S1x16, .f32⟩
  | .hbm, ⟨5, _⟩ => ⟨S16, .i32⟩
  | .hbm, ⟨6, _⟩ => ⟨S16, .i1⟩
  | .hbm, ⟨7, _⟩ => ⟨S16, .f32⟩
  | .hbm, ⟨8, _⟩ => ⟨S128x1024, .bf16⟩
  | .hbm, ⟨9, _⟩ => ⟨S128x4x4x64, .bf16⟩
  | .hbm, ⟨10, _⟩ => ⟨S128x4x4x64, .bf16⟩
  | .hbm, ⟨11, _⟩ => ⟨S128x4x1x256, .bf16⟩
  | .hbm, ⟨12, _⟩ => ⟨S128x4x4x256, .bf16⟩
  | .hbm, ⟨13, _⟩ => ⟨S128x16x256, .bf16⟩
  | .hbm, ⟨14, _⟩ => ⟨S16, .f32⟩
  | .hbm, ⟨15, _⟩ => ⟨S_, .i32⟩
  | .hbm, ⟨16, _⟩ => ⟨S16, .i32⟩
  | .hbm, ⟨17, _⟩ => ⟨S16, .i32⟩
  | .hbm, ⟨18, _⟩ => ⟨S16, .i32⟩
  | .hbm, ⟨19, _⟩ => ⟨S16x1, .i32⟩
  | .hbm, ⟨20, _⟩ => ⟨S16, .f32⟩
  | .hbm, ⟨21, _⟩ => ⟨S16x1, .f32⟩
  | .hbm, ⟨22, _⟩ => ⟨S16x1, .f32⟩
  | .hbm, ⟨23, _⟩ => ⟨S128x128x4x64, .f32⟩
  | .hbm, ⟨24, _⟩ => ⟨S128x128x256, .f32⟩
  | .hbm, ⟨25, _⟩ => ⟨S128x128x4x64, .f32⟩
  | .hbm, ⟨26, _⟩ => ⟨S128x128x256, .f32⟩
  | .hbm, ⟨27, _⟩ => ⟨S128x128x256, .f32⟩
  | .hbm, ⟨28, _⟩ => ⟨S128x128x256, .f32⟩
  | .hbm, ⟨29, _⟩ => ⟨S128x16x256, .f32⟩
  | .hbm, ⟨30, _⟩ => ⟨S1x128x128x4x64, .f32⟩
  | .hbm, ⟨31, _⟩ => ⟨S1x128x128x4x64, .f32⟩
  | .local _ .vmem, ⟨0, _⟩ => ⟨S8x16x256, .bf16⟩
  | .local _ .vmem, ⟨1, _⟩ => ⟨S8x16x256, .bf16⟩
  | .local _ .vmem, ⟨2, _⟩ => ⟨S8x128x256, .f32⟩
  | .local _ .vmem, ⟨3, _⟩ => ⟨S8x128x256, .f32⟩
  | .local _ .vmem, ⟨4, _⟩ => ⟨S8x128x256, .f32⟩
  | .local _ .vmem, ⟨5, _⟩ => ⟨S8x128x256, .f32⟩
  | .local _ .vmem, ⟨6, _⟩ => ⟨S8x512, .f32⟩
  | .local _ .vmem, ⟨7, _⟩ => ⟨S8x512, .f32⟩
  | .local _ .vmem, ⟨8, _⟩ => ⟨S16x1, .f32⟩
  | .local _ .vmem, ⟨9, _⟩ => ⟨S16x1, .f32⟩
  | .local _ .vmem, ⟨10, _⟩ => ⟨S8x128x256, .f32⟩
  | .local _ .vmem, ⟨11, _⟩ => ⟨S8x128x256, .f32⟩
  | .local _ .vmem, ⟨12, _⟩ => ⟨S8x128x256, .f32⟩
  | .local _ .vmem, ⟨13, _⟩ => ⟨S8x128x256, .f32⟩
  | .local _ .vmem, ⟨14, _⟩ => ⟨S8x16x256, .f32⟩
  | .local _ .vmem, ⟨15, _⟩ => ⟨S8x16x256, .f32⟩
  | _, _ => ⟨S128x6784, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x16x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x16x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SampleRefIdeal.lean ====
abbrev S128x6784 : Shape := ⟨2, ![128, 6784]⟩
abbrev S128x512 : Shape := ⟨2, ![128, 512]⟩
abbrev S1x128x128x4x64 : Shape := ⟨5, ![1, 128, 128, 4, 64]⟩
abbrev S1x16 : Shape := ⟨2, ![1, 16]⟩
abbrev S128x128x4x64 : Shape := ⟨4, ![128, 128, 4, 64]⟩
abbrev S128x256 : Shape := ⟨2, ![128, 256]⟩
abbrev S128x1x4x64 : Shape := ⟨4, ![128, 1, 4, 64]⟩
abbrev S128x129x4x64 : Shape := ⟨4, ![128, 129, 4, 64]⟩

abbrev nBuf : Space → Nat
  | .hbm => 17
  | .vmem => 0
  | .smem => 0
  | _ => 0

abbrev bufTy : (tb : Table) → Fin (tcTables nBuf tb) → BufTy
  | .hbm, ⟨0, _⟩ => ⟨S128x6784, .bf16⟩
  | .hbm, ⟨1, _⟩ => ⟨S128x512, .f32⟩
  | .hbm, ⟨2, _⟩ => ⟨S1x128x128x4x64, .f32⟩
  | .hbm, ⟨3, _⟩ => ⟨S1x128x128x4x64, .f32⟩
  | .hbm, ⟨4, _⟩ => ⟨S1x16, .f32⟩
  | .hbm, ⟨5, _⟩ => ⟨S128x128x4x64, .f32⟩
  | .hbm, ⟨6, _⟩ => ⟨S128x256, .f32⟩
  | .hbm, ⟨7, _⟩ => ⟨S128x1x4x64, .f32⟩
  | .hbm, ⟨8, _⟩ => ⟨S128x129x4x64, .f32⟩
  | .hbm, ⟨9, _⟩ => ⟨S128x128x4x64, .f32⟩
  | .hbm, ⟨10, _⟩ => ⟨S128x256, .f32⟩
  | .hbm, ⟨11, _⟩ => ⟨S128x1x4x64, .f32⟩
  | .hbm, ⟨12, _⟩ => ⟨S128x129x4x64, .f32⟩
  | .hbm, ⟨13, _⟩ => ⟨S128x128x4x64, .f32⟩
  | .hbm, ⟨14, _⟩ => ⟨S1x128x128x4x64, .f32⟩
  | .hbm, ⟨15, _⟩ => ⟨S128x128x4x64, .f32⟩
  | .hbm, ⟨16, _⟩ => ⟨S1x128x128x4x64, .f32⟩
  | _, _ => ⟨S128x6784, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Gla.lean ====
abbrev S128x6784 : Shape := ⟨2, ![128, 6784]⟩
abbrev S1x16x512 : Shape := ⟨3, ![1, 16, 512]⟩
abbrev S1x512 : Shape := ⟨2, ![1, 512]⟩
abbrev S1x256 : Shape := ⟨2, ![1, 256]⟩
abbrev S1x128x4x128x256 : Shape := ⟨5, ![1, 128, 4, 128, 256]⟩
abbrev S56x8 : Shape := ⟨2, ![56, 8]⟩
abbrev S8x8 : Shape := ⟨2, ![8, 8]⟩
abbrev S16x512 : Shape := ⟨2, ![16, 512]⟩
abbrev S_ : Shape := ⟨0, ![]⟩
abbrev S128x512 : Shape := ⟨2, ![128, 512]⟩
abbrev S512 : Shape := ⟨1, ![512]⟩
abbrev S256 : Shape := ⟨1, ![256]⟩
abbrev S128x4x128x256 : Shape := ⟨4, ![128, 4, 128, 256]⟩
abbrev S128x1024 : Shape := ⟨2, ![128, 1024]⟩
abbrev S8x512 : Shape := ⟨2, ![8, 512]⟩
abbrev S8x1024 : Shape := ⟨2, ![8, 1024]⟩
abbrev S8x128 : Shape := ⟨2, ![8, 128]⟩
abbrev S8x4x128x256 : Shape := ⟨4, ![8, 4, 128, 256]⟩
abbrev S8x1 : Shape := ⟨2, ![8, 1]⟩
abbrev S8x256 : Shape := ⟨2, ![8, 256]⟩
abbrev S56x256 : Shape := ⟨2, ![56, 256]⟩
abbrev S56x128 : Shape := ⟨2, ![56, 128]⟩
abbrev S1x1x128x256 : Shape := ⟨4, ![1, 1, 128, 256]⟩
abbrev S128x256 : Shape := ⟨2, ![128, 256]⟩
abbrev S1x128 : Shape := ⟨2, ![1, 128]⟩
abbrev S128x128 : Shape := ⟨2, ![128, 128]⟩
abbrev S128x8 : Shape := ⟨2, ![128, 8]⟩
abbrev S8 : Shape := ⟨1, ![8]⟩

abbrev nBuf : Space → Nat
  | .hbm => 19
  | .vmem => 21
  | .smem => 0
  | _ => 0

abbrev bufTy : (tb : Table) → Fin (tcTables nBuf tb) → BufTy
  | .hbm, ⟨0, _⟩ => ⟨S128x6784, .bf16⟩
  | .hbm, ⟨1, _⟩ => ⟨S1x16x512, .f32⟩
  | .hbm, ⟨2, _⟩ => ⟨S1x512, .f32⟩
  | .hbm, ⟨3, _⟩ => ⟨S1x256, .f32⟩
  | .hbm, ⟨4, _⟩ => ⟨S1x128x4x128x256, .f32⟩
  | .hbm, ⟨5, _⟩ => ⟨S56x8, .bf16⟩
  | .hbm, ⟨6, _⟩ => ⟨S8x8, .i32⟩
  | .hbm, ⟨7, _⟩ => ⟨S16x512, .f32⟩
  | .hbm, ⟨8, _⟩ => ⟨S_, .i32⟩
  | .hbm, ⟨9, _⟩ => ⟨S_, .f32⟩
  | .hbm, ⟨10, _⟩ => ⟨S128x512, .f32⟩
  | .hbm, ⟨11, _⟩ => ⟨S128x512, .bf16⟩
  | .hbm, ⟨12, _⟩ => ⟨S512, .f32⟩
  | .hbm, ⟨13, _⟩ => ⟨S256, .f32⟩
  | .hbm, ⟨14, _⟩ => ⟨S128x4x128x256, .f32⟩
  | .hbm, ⟨15, _⟩ => ⟨S1x512, .f32⟩
  | .hbm, ⟨16, _⟩ => ⟨S1x256, .f32⟩
  | .hbm, ⟨17, _⟩ => ⟨S128x1024, .f32⟩
  | .hbm, ⟨18, _⟩ => ⟨S128x4x128x256, .f32⟩
  | .local _ .vmem, ⟨0, _⟩ => ⟨S8x512, .bf16⟩
  | .local _ .vmem, ⟨1, _⟩ => ⟨S8x512, .bf16⟩
  | .local _ .vmem, ⟨2, _⟩ => ⟨S8x512, .bf16⟩
  | .local _ .vmem, ⟨3, _⟩ => ⟨S8x512, .bf16⟩
  | .local _ .vmem, ⟨4, _⟩ => ⟨S8x1024, .bf16⟩
  | .local _ .vmem, ⟨5, _⟩ => ⟨S8x1024, .bf16⟩
  | .local _ .vmem, ⟨6, _⟩ => ⟨S8x1024, .bf16⟩
  | .local _ .vmem, ⟨7, _⟩ => ⟨S8x1024, .bf16⟩
  | .local _ .vmem, ⟨8, _⟩ => ⟨S8x128, .bf16⟩
  | .local _ .vmem, ⟨9, _⟩ => ⟨S8x128, .bf16⟩
  | .local _ .vmem, ⟨10, _⟩ => ⟨S128x512, .bf16⟩
  | .local _ .vmem, ⟨11, _⟩ => ⟨S1x512, .f32⟩
  | .local _ .vmem, ⟨12, _⟩ => ⟨S1x256, .f32⟩
  | .local _ .vmem, ⟨13, _⟩ => ⟨S56x8, .bf16⟩
  | .local _ .vmem, ⟨14, _⟩ => ⟨S8x8, .i32⟩
  | .local _ .vmem, ⟨15, _⟩ => ⟨S8x4x128x256, .f32⟩
  | .local _ .vmem, ⟨16, _⟩ => ⟨S8x4x128x256, .f32⟩
  | .local _ .vmem, ⟨17, _⟩ => ⟨S8x1024, .f32⟩
  | .local _ .vmem, ⟨18, _⟩ => ⟨S8x1024, .f32⟩
  | .local _ .vmem, ⟨19, _⟩ => ⟨S8x4x128x256, .f32⟩
  | .local _ .vmem, ⟨20, _⟩ => ⟨S8x4x128x256, .f32⟩
  | _, _ => ⟨S128x6784, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_c : Ref sig .tc := ⟨.hbm, 6, rfl⟩
abbrev main_v0 : Ref sig .tc := ⟨.hbm, 7, rfl⟩
abbrev main_c_0 : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, c10_i32.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let c0_i32 : BitVec 32 := 0#32
  ![arg0.toNat, c11_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let arg1 : BitVec 32 := BitVec.ofNat 32 (i 1).val
  let c52_i32 : BitVec 32 := 52#32
  let c0_i32 : BitVec 32 := 0#32
  ![arg0.toNat, c52_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S56x8 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x8 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S8x4x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S8x4x128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== GlaRefIdeal.lean ====
abbrev S128x6784 : Shape := ⟨2, ![128, 6784]⟩
abbrev S1x16x512 : Shape := ⟨3, ![1, 16, 512]⟩
abbrev S1x512 : Shape := ⟨2, ![1, 512]⟩
abbrev S1x256 : Shape := ⟨2, ![1, 256]⟩
abbrev S1x128x4x128x256 : Shape := ⟨5, ![1, 128, 4, 128, 256]⟩
abbrev S128x1024 : Shape := ⟨2, ![128, 1024]⟩
abbrev S128x512 : Shape := ⟨2, ![128, 512]⟩
abbrev S128x16 : Shape := ⟨2, ![128, 16]⟩
abbrev S16x512 : Shape := ⟨2, ![16, 512]⟩
abbrev S512 : Shape := ⟨1, ![512]⟩
abbrev S_ : Shape := ⟨0, ![]⟩
abbrev S128x1x4x128 : Shape := ⟨4, ![128, 1, 4, 128]⟩
abbrev S128x4x1x128 : Shape := ⟨4, ![128, 4, 1, 128]⟩
abbrev S128x1x4x256 : Shape := ⟨4, ![128, 1, 4, 256]⟩
abbrev S128x4x1x256 : Shape := ⟨4, ![128, 4, 1, 256]⟩
abbrev S128x4x128x256 : Shape := ⟨4, ![128, 4, 128, 256]⟩
abbrev S128x4x128 : Shape := ⟨3, ![128, 4, 128]⟩
abbrev S128x4x128x1 : Shape := ⟨4, ![128, 4, 128, 1]⟩

abbrev nBuf : Space → Nat
  | .hbm => 54
  | .vmem => 0
  | .smem => 0
  | _ => 0

abbrev bufTy : (tb : Table) → Fin (tcTables nBuf tb) → BufTy
  | .hbm, ⟨0, _⟩ => ⟨S128x6784, .bf16⟩
  | .hbm, ⟨1, _⟩ => ⟨S1x16x512, .f32⟩
  | .hbm, ⟨2, _⟩ => ⟨S1x512, .f32⟩
  | .hbm, ⟨3, _⟩ => ⟨S1x256, .f32⟩
  | .hbm, ⟨4, _⟩ => ⟨S1x128x4x128x256, .f32⟩
  | .hbm, ⟨5, _⟩ => ⟨S128x6784, .f32⟩
  | .hbm, ⟨6, _⟩ => ⟨S128x1024, .f32⟩
  | .hbm, ⟨7, _⟩ => ⟨S128x512, .f32⟩
  | .hbm, ⟨8, _⟩ => ⟨S128x16, .f32⟩
  | .hbm, ⟨9, _⟩ => ⟨S16x512, .f32⟩
  | .hbm, ⟨10, _⟩ => ⟨S128x512, .f32⟩
  | .hbm, ⟨11, _⟩ => ⟨S512, .f32⟩
  | .hbm, ⟨12, _⟩ => ⟨S1x512, .f32⟩
  | .hbm, ⟨13, _⟩ => ⟨S128x512, .f32⟩
  | .hbm, ⟨14, _⟩ => ⟨S128x512, .f32⟩
  | .hbm, ⟨15, _⟩ => ⟨S128x512, .f32⟩
  | .hbm, ⟨16, _⟩ => ⟨S_, .f32⟩
  | .hbm, ⟨17, _⟩ => ⟨S128x512, .f32⟩
  | .hbm, ⟨18, _⟩ => ⟨S128x512, .f32⟩
  | .hbm, ⟨19, _⟩ => ⟨S128x512, .f32⟩
  | .hbm, ⟨20, _⟩ => ⟨S128x512, .f32⟩
  | .hbm, ⟨21, _⟩ => ⟨S128x512, .i1⟩
  | .hbm, ⟨22, _⟩ => ⟨S128x512, .f32⟩
  | .hbm, ⟨23, _⟩ => ⟨S128x512, .f32⟩
  | .hbm, ⟨24, _⟩ => ⟨S128x512, .f32⟩
  | .hbm, ⟨25, _⟩ => ⟨S128x512, .f32⟩
  | .hbm, ⟨26, _⟩ => ⟨S128x512, .f32⟩
  | .hbm, ⟨27, _⟩ => ⟨S128x512, .f32⟩
  | .hbm, ⟨28, _⟩ => ⟨S128x512, .f32⟩
  | .hbm, ⟨29, _⟩ => ⟨S128x512, .f32⟩
  | .hbm, ⟨30, _⟩ => ⟨S128x512, .f32⟩
  | .hbm, ⟨31, _⟩ => ⟨S_, .f32⟩
  | .hbm, ⟨32, _⟩ => ⟨S128x512, .f32⟩
  | .hbm, ⟨33, _⟩ => ⟨S128x512, .f32⟩
  | .hbm, ⟨34, _⟩ => ⟨S128x1x4x128, .f32⟩
  | .hbm, ⟨35, _⟩ => ⟨S128x4x1x128, .f32⟩
  | .hbm, ⟨36, _⟩ => ⟨S128x1x4x128, .f32⟩
  | .hbm, ⟨37, _⟩ => ⟨S128x4x1x128, .f32⟩
  | .hbm, ⟨38, _⟩ => ⟨S128x1x4x256, .f32⟩
  | .hbm, ⟨39, _⟩ => ⟨S128x4x1x256, .f32⟩
  | .hbm, ⟨40, _⟩ => ⟨S128x4x128x256, .f32⟩
  | .hbm, ⟨41, _⟩ => ⟨S_, .f32⟩
  | .hbm, ⟨42, _⟩ => ⟨S_, .f32⟩
  | .hbm, ⟨43, _⟩ => ⟨S128x4x1x128, .f32⟩
  | .hbm, ⟨44, _⟩ => ⟨S128x4x128, .f32⟩
  | .hbm, ⟨45, _⟩ => ⟨S128x4x128, .f32⟩
  | .hbm, ⟨46, _⟩ => ⟨S128x4x128x1, .f32⟩
  | .hbm, ⟨47, _⟩ => ⟨S128x4x128x256, .f32⟩
  | .hbm, ⟨48, _⟩ => ⟨S128x4x128x256, .f32⟩
  | .hbm, ⟨49, _⟩ => ⟨S128x4x1x128, .f32⟩
  | .hbm, ⟨50, _⟩ => ⟨S128x4x1x128, .f32⟩
  | .hbm, ⟨51, _⟩ => ⟨S128x4x1x128, .f32⟩
  | .hbm, ⟨52, _⟩ => ⟨S128x4x128x256, .f32⟩
  | .hbm, ⟨53, _⟩ => ⟨S128x4x128x256, .f32⟩
  | _, _ => ⟨S128x6784, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_call1_call0_cst : Ref sig .tc := ⟨.hbm, 41, rfl⟩
abbrev main_call1_call0_v0 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩

abbrev nD : Nat := 1
abbrev τ : Topo := Topo.v7x

variable {F : FTy → Type} [FloatOps F]
-- ==== GlaPrompt.lean ====
abbrev S32768x6784 : Shape := ⟨2, ![32768, 6784]⟩
abbrev S1x16x512 : Shape := ⟨3, ![1, 16, 512]⟩
abbrev S1x512 : Shape := ⟨2, ![1, 512]⟩
abbrev S1x256 : Shape := ⟨2, ![1, 256]⟩
abbrev S1792x1 : Shape := ⟨2, ![1792, 1]⟩
abbrev S256x256 : Shape := ⟨2, ![256, 256]⟩
abbrev S16x512 : Shape := ⟨2, ![16, 512]⟩
abbrev S_ : Shape := ⟨0, ![]⟩
abbrev S128x512 : Shape := ⟨2, ![128, 512]⟩
abbrev S512 : Shape := ⟨1, ![512]⟩
abbrev S256 : Shape := ⟨1, ![256]⟩
abbrev S1792x256 : Shape := ⟨2, ![1792, 256]⟩
abbrev S32768x1024 : Shape := ⟨2, ![32768, 1024]⟩
abbrev S4x4x128x256 : Shape := ⟨4, ![4, 4, 128, 256]⟩
abbrev S256x512 : Shape := ⟨2, ![256, 512]⟩
abbrev S256x1024 : Shape := ⟨2, ![256, 1024]⟩
abbrev S256x128 : Shape := ⟨2, ![256, 128]⟩
abbrev S1x4x128x256 : Shape := ⟨4, ![1, 4, 128, 256]⟩
abbrev S4x128x256 : Shape := ⟨3, ![4, 128, 256]⟩
abbrev S1792x128 : Shape := ⟨2, ![1792, 128]⟩
abbrev S8x128 : Shape := ⟨2, ![8, 128]⟩
abbrev S1x128 : Shape := ⟨2, ![1, 128]⟩
abbrev S16x128 : Shape := ⟨2, ![16, 128]⟩
abbrev S32x128 : Shape := ⟨2, ![32, 128]⟩
abbrev S64x128 : Shape := ⟨2, ![64, 128]⟩
abbrev S128x128 : Shape := ⟨2, ![128, 128]⟩
abbrev S1x128x256 : Shape := ⟨3, ![1, 128, 256]⟩
abbrev S128x256 : Shape := ⟨2, ![128, 256]⟩
abbrev S256x1 : Shape := ⟨2, ![256, 1]⟩

abbrev nBuf : Space → Nat
  | .hbm => 25
  | .vmem => 20
  | .smem => 0
  | _ => 0

abbrev bufTy : (tb : Table) → Fin (tcTables nBuf tb) → BufTy
  | .hbm, ⟨0, _⟩ => ⟨S32768x6784, .bf16⟩
  | .hbm, ⟨1, _⟩ => ⟨S1x16x512, .f32⟩
  | .hbm, ⟨2, _⟩ => ⟨S1x512, .f32⟩
  | .hbm, ⟨3, _⟩ => ⟨S1x256, .f32⟩
  | .hbm, ⟨4, _⟩ => ⟨S1792x1, .i32⟩
  | .hbm, ⟨5, _⟩ => ⟨S1792x1, .i32⟩
  | .hbm, ⟨6, _⟩ => ⟨S256x256, .i32⟩
  | .hbm, ⟨7, _⟩ => ⟨S16x512, .f32⟩
  | .hbm, ⟨8, _⟩ => ⟨S_, .i32⟩
  | .hbm, ⟨9, _⟩ => ⟨S_, .f32⟩
  | .hbm, ⟨10, _⟩ => ⟨S128x512, .f32⟩
  | .hbm, ⟨11, _⟩ => ⟨S128x512, .bf16⟩
  | .hbm, ⟨12, _⟩ => ⟨S512, .f32⟩
  | .hbm, ⟨13, _⟩ => ⟨S256, .f32⟩
  | .hbm, ⟨14, _⟩ => ⟨S1792x256, .i32⟩
  | .hbm, ⟨15, _⟩ => ⟨S1792x256, .i32⟩
  | .hbm, ⟨16, _⟩ => ⟨S1792x256, .i1⟩
  | .hbm, ⟨17, _⟩ => ⟨S1792x256, .i32⟩
  | .hbm, ⟨18, _⟩ => ⟨S1792x256, .i1⟩
  | .hbm, ⟨19, _⟩ => ⟨S1792x256, .i1⟩
  | .hbm, ⟨20, _⟩ => ⟨S1792x256, .bf16⟩
  | .hbm, ⟨21, _⟩ => ⟨S1x512, .f32⟩
  | .hbm, ⟨22, _⟩ => ⟨S1x256, .f32⟩
  | .hbm, ⟨23, _⟩ => ⟨S32768x1024, .bf16⟩
  | .hbm, ⟨24, _⟩ => ⟨S4x4x128x256, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x128, .bf16⟩
  | .local _ .vmem, ⟨9, _⟩ => ⟨S256x128, .bf16⟩
  | .local _ .vmem, ⟨10, _⟩ => ⟨S128x512, .bf16⟩
  | .local _ .vmem, ⟨11, _⟩ => ⟨S1x512, .f32⟩
  | .local _ .vmem, ⟨12, _⟩ => ⟨S1x256, .f32⟩
  | .local _ .vmem, ⟨13, _⟩ => ⟨S1792x256, .bf16⟩
  | .local _ .vmem, ⟨14, _⟩ => ⟨S256x256, .i32⟩
  | .local _ .vmem, ⟨15, _⟩ => ⟨S256x1024, .bf16⟩
  | .local _ .vmem, ⟨16, _⟩ => ⟨S256x1024, .bf16⟩
  | .local _ .vmem, ⟨17, _⟩ => ⟨S1x4x128x256, .f32⟩
  | .local _ .vmem, ⟨18, _⟩ => ⟨S1x4x128x256, .f32⟩
  | .local _ .vmem, ⟨19, _⟩ => ⟨S4x128x256, .f32⟩
  | _, _ => ⟨S32768x6784, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v0 : Ref sig .tc := ⟨.hbm, 7, rfl⟩
abbrev main_c_2 : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v1832 : BitVec 1 := Scalar.cmpi .eq arg1 c31_i32
  let v1833 : BitVec 32 := Scalar.extui v1832
  let c0_i32_238 : BitVec 32 := 0#32
  let v1834 : BitVec 1 := Scalar.cmpi .ne v1833 c0_i32_238
  v1834

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c10_i32 : BitVec 32 := 10#32
  let c0_i32 : BitVec 32 := 0#32
  ![v1.toNat, c10_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c11_i32 : BitVec 32 := 11#32
  let c0_i32 : BitVec 32 := 0#32
  ![v1.toNat, c11_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c52_i32 : BitVec 32 := 52#32
  let c0_i32 : BitVec 32 := 0#32
  ![v1.toNat, c52_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1792x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== GlaPromptRefIdeal.lean ====
abbrev S32768x6784 : Shape := ⟨2, ![32768, 6784]⟩
abbrev S1x16x512 : Shape := ⟨3, ![1, 16, 512]⟩
abbrev S1x512 : Shape := ⟨2, ![1, 512]⟩
abbrev S1x256 : Shape := ⟨2, ![1, 256]⟩
abbrev S32768x1024 : Shape := ⟨2, ![32768, 1024]⟩
abbrev S32768x512 : Shape := ⟨2, ![32768, 512]⟩
abbrev S32768x16 : Shape := ⟨2, ![32768, 16]⟩
abbrev S16x512 : Shape := ⟨2, ![16, 512]⟩
abbrev S512 : Shape := ⟨1, ![512]⟩
abbrev S_ : Shape := ⟨0, ![]⟩
abbrev S4x8192x4x128 : Shape := ⟨4, ![4, 8192, 4, 128]⟩
abbrev S4x4x8192x128 : Shape := ⟨4, ![4, 4, 8192, 128]⟩
abbrev S4x8192x4x256 : Shape := ⟨4, ![4, 8192, 4, 256]⟩
abbrev S4x4x8192x256 : Shape := ⟨4, ![4, 4, 8192, 256]⟩
abbrev S4x4x128x256 : Shape := ⟨4, ![4, 4, 128, 256]⟩
abbrev S4x4x1x128 : Shape := ⟨4, ![4, 4, 1, 128]⟩
abbrev S4x4x128 : Shape := ⟨3, ![4, 4, 128]⟩
abbrev S4x4x128x1 : Shape := ⟨4, ![4, 4, 128, 1]⟩

abbrev nBuf : Space → Nat
  | .hbm => 56
  | .vmem => 0
  | .smem => 0
  | _ => 0

abbrev bufTy : (tb : Table) → Fin (tcTables nBuf tb) → BufTy
  | .hbm, ⟨0, _⟩ => ⟨S32768x6784, .bf16⟩
  | .hbm, ⟨1, _⟩ => ⟨S1x16x512, .f32⟩
  | .hbm, ⟨2, _⟩ => ⟨S1x512, .f32⟩
  | .hbm, ⟨3, _⟩ => ⟨S1x256, .f32⟩
  | .hbm, ⟨4, _⟩ => ⟨S32768x6784, .f32⟩
  | .hbm, ⟨5, _⟩ => ⟨S32768x1024, .f32⟩
  | .hbm, ⟨6, _⟩ => ⟨S32768x512, .f32⟩
  | .hbm, ⟨7, _⟩ => ⟨S32768x16, .f32⟩
  | .hbm, ⟨8, _⟩ => ⟨S16x512, .f32⟩
  | .hbm, ⟨9, _⟩ => ⟨S32768x512, .f32⟩
  | .hbm, ⟨10, _⟩ => ⟨S512, .f32⟩
  | .hbm, ⟨11, _⟩ => ⟨S1x512, .f32⟩
  | .hbm, ⟨12, _⟩ => ⟨S32768x512, .f32⟩
  | .hbm, ⟨13, _⟩ => ⟨S32768x512, .f32⟩
  | .hbm, ⟨14, _⟩ => ⟨S32768x512, .f32⟩
  | .hbm, ⟨15, _⟩ => ⟨S_, .f32⟩
  | .hbm, ⟨16, _⟩ => ⟨S32768x512, .f32⟩
  | .hbm, ⟨17, _⟩ => ⟨S32768x512, .f32⟩
  | .hbm, ⟨18, _⟩ => ⟨S32768x512, .f32⟩
  | .hbm, ⟨19, _⟩ => ⟨S32768x512, .f32⟩
  | .hbm, ⟨20, _⟩ => ⟨S32768x512, .i1⟩
  | .hbm, ⟨21, _⟩ => ⟨S32768x512, .f32⟩
  | .hbm, ⟨22, _⟩ => ⟨S32768x512, .f32⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S32768x512, .f32⟩
  | .hbm, ⟨30, _⟩ => ⟨S_, .f32⟩
  | .hbm, ⟨31, _⟩ => ⟨S32768x512, .f32⟩
  | .hbm, ⟨32, _⟩ => ⟨S32768x512, .f32⟩
  | .hbm, ⟨33, _⟩ => ⟨S4x8192x4x128, .f32⟩
  | .hbm, ⟨34, _⟩ => ⟨S4x4x8192x128, .f32⟩
  | .hbm, ⟨35, _⟩ => ⟨S4x8192x4x128, .f32⟩
  | .hbm, ⟨36, _⟩ => ⟨S4x4x8192x128, .f32⟩
  | .hbm, ⟨37, _⟩ => ⟨S4x8192x4x256, .f32⟩
  | .hbm, ⟨38, _⟩ => ⟨S4x4x8192x256, .f32⟩
  | .hbm, ⟨39, _⟩ => ⟨S_, .f32⟩
  | .hbm, ⟨40, _⟩ => ⟨S4x4x128x256, .f32⟩
  | .hbm, ⟨41, _⟩ => ⟨S_, .f32⟩
  | .hbm, ⟨42, _⟩ => ⟨S_, .f32⟩
  | .hbm, ⟨43, _⟩ => ⟨S4x4x8192x128, .f32⟩
  | .hbm, ⟨44, _⟩ => ⟨S4x4x1x128, .f32⟩
  | .hbm, ⟨45, _⟩ => ⟨S4x4x128, .f32⟩
  | .hbm, ⟨46, _⟩ => ⟨S4x4x128, .f32⟩
  | .hbm, ⟨47, _⟩ => ⟨S4x4x128x1, .f32⟩
  | .hbm, ⟨48, _⟩ => ⟨S4x4x128x256, .f32⟩
  | .hbm, ⟨49, _⟩ => ⟨S4x4x128x256, .f32⟩
  | .hbm, ⟨50, _⟩ => ⟨S4x4x8192x128, .f32⟩
  | .hbm, ⟨51, _⟩ => ⟨S4x4x8192x128, .f32⟩
  | .hbm, ⟨52, _⟩ => ⟨S4x4x8192x128, .f32⟩
  | .hbm, ⟨53, _⟩ => ⟨S4x4x8192x128, .f32⟩
  | .hbm, ⟨54, _⟩ => ⟨S4x4x128x256, .f32⟩
  | .hbm, ⟨55, _⟩ => ⟨S4x4x128x256, .f32⟩
  | _, _ => ⟨S32768x6784, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_0 : Ref sig .tc := ⟨.hbm, 39, rfl⟩
abbrev main_v19 : Ref sig .tc := ⟨.hbm, 40, rfl⟩
abbrev main_call1_call0_cst : Ref sig .tc := ⟨.hbm, 41, rfl⟩
abbrev main_call1_call0_v0 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩

abbrev nD : Nat := 1
abbrev τ : Topo := Topo.v7x

variable {F : FTy → Type} [FloatOps F]
-- ==== Proof.Frames.lean ====
module

public import proofs.«01_k».proof.Defs
public import proofs.«01_k».proof.Proof.Gen.Pre_finite_scores
public import proofs.«01_k».proof.Proof.Gen.Pre_finite_gate
public import proofs.«01_k».proof.Proof.Gen.Swa.Frame
public import proofs.«01_k».proof.Proof.Gen.SwaIdeal.Frame
public import proofs.«01_k».proof.Proof.Gen.SwaRefIdeal.Run
public import proofs.«01_k».proof.Proof.Gen.Inproj.Frame
public import proofs.«01_k».proof.Proof.Gen.InprojIdeal.Frame
public import proofs.«01_k».proof.Proof.Gen.InprojRefIdeal.Run
public import proofs.«01_k».proof.Proof.Gen.Sample.Frame
public import proofs.«01_k».proof.Proof.Gen.SampleIdeal.Frame
public import proofs.«01_k».proof.Proof.Gen.SampleRefIdeal.Run
public import proofs.«01_k».proof.Proof.Gen.Gla.Frame
public import proofs.«01_k».proof.Proof.Gen.GlaIdeal.Frame
public import proofs.«01_k».proof.Proof.Gen.GlaRefIdeal.Run
public import proofs.«01_k».proof.Proof.Gen.GlaPrompt.Frame
public import proofs.«01_k».proof.Proof.Gen.GlaPromptIdeal.Frame
public import proofs.«01_k».proof.Proof.Gen.GlaPromptRefIdeal.Run
public import proofs.«01_k».proof.Proof.Gen.Post.Frame
public import proofs.«01_k».proof.Proof.Gen.PostIdeal.Frame
public import proofs.«01_k».proof.Proof.Gen.PostRefIdeal.Run

@[expose] public section

set_option maxRecDepth 16384

noncomputable section

/-! Every program runs to its end, leaves its arguments unchanged and its counters at zero; the named constants of the
    attention kernel denote the numbers their names say. -/

namespace Cert.Proof

open Idealize.ShloMosaic Idealize.SL.Sem

/-- The attention kernel. -/
theorem frame_Swa : Cert.quiescent_Swa := fun m g _ => Cert.Swa.Gen.frame m g
/-- The attention kernel at the real numbers. -/
theorem frame_SwaIdeal : Cert.quiescent_SwaIdeal := fun m g _ => Cert.SwaIdeal.Gen.frame m g
/-- The same from the inputs the value claim speaks of. -/
theorem frame_SwaIdeal_pre : Cert.quiescent_SwaIdeal_pre_finite_scores := fun m g _ => Cert.SwaIdeal.Gen.frame m g
/-- The input projection kernel. -/
theorem frame_Inproj : Cert.quiescent_Inproj := fun m g _ => Cert.Inproj.Gen.frame m g
/-- The input projection kernel at the real numbers. -/
theorem frame_InprojIdeal : Cert.quiescent_InprojIdeal := fun m g _ => Cert.InprojIdeal.Gen.frame m g
/-- The merge and output projection kernel. -/
theorem frame_Post : Cert.quiescent_Post := fun m g _ => Cert.Post.Gen.frame m g
/-- The merge and output projection kernel at the real numbers. -/
theorem frame_PostIdeal : Cert.quiescent_PostIdeal := fun m g _ => Cert.PostIdeal.Gen.frame m g

/-- The sample's attention kernel. -/
theorem frame_Sample : Cert.quiescent_Sample := fun m g _ => Cert.Sample.Gen.frame m g
/-- The sample's attention kernel at the real numbers. -/
theorem frame_SampleIdeal : Cert.quiescent_SampleIdeal := fun m g _ => Cert.SampleIdeal.Gen.frame m g
/-- The sample's linear attention kernel. -/
theorem frame_Gla : Cert.quiescent_Gla := fun m g _ => Cert.Gla.Gen.frame m g
/-- The sample's linear attention kernel at the real numbers. -/
theorem frame_GlaIdeal : Cert.quiescent_GlaIdeal := fun m g _ => Cert.GlaIdeal.Gen.frame m g
/-- The prompt's linear attention kernel. -/
theorem frame_GlaPrompt : Cert.quiescent_GlaPrompt := fun m g _ => Cert.GlaPrompt.Gen.frame m g
/-- The prompt's linear attention kernel at the real numbers. -/
theorem frame_GlaPromptIdeal : Cert.quiescent_GlaPromptIdeal := fun m g _ => Cert.GlaPromptIdeal.Gen.frame m g
/-- The same from the inputs the value claim speaks of. -/
theorem frame_GlaPromptIdeal_pre : Cert.quiescent_GlaPromptIdeal_pre_finite_gate := fun m g _ => Cert.GlaPromptIdeal.Gen.frame m g
/-- The attention reference. -/
theorem frame_SwaRef : Cert.quiescent_SwaRefIdeal := fun m g _ =>
  (θ_run Cert.SwaRefIdeal.defs _ _).mono (fun r h => ⟨fun c => (h c).2, sem_eq_zero_of_no_sems (by decide) r.2⟩)
    (Cert.SwaRefIdeal.Value.run (F := Ideal) m g)

/-- The same from the inputs the value claim speaks of. -/
theorem frame_SwaRef_pre : Cert.quiescent_SwaRefIdeal_pre_finite_scores := fun m g _ =>
  (θ_run Cert.SwaRefIdeal.defs _ _).mono (fun r h => ⟨fun c => (h c).2, sem_eq_zero_of_no_sems (by decide) r.2⟩)
    (Cert.SwaRefIdeal.Value.run (F := Ideal) m g)

/-- The input projection reference. -/
theorem frame_InprojRef : Cert.quiescent_InprojRefIdeal := fun m g _ =>
  (θ_run Cert.InprojRefIdeal.defs _ _).mono
    (fun r h => ⟨fun c => (h c).2.2.2.2, sem_eq_zero_of_no_sems (by decide) r.2⟩)
    (Cert.InprojRefIdeal.Value.run (F := Ideal) m g)

/-- The sample's attention reference. -/
theorem frame_SampleRef : Cert.quiescent_SampleRefIdeal := fun m g _ =>
  (θ_run Cert.SampleRefIdeal.defs _ _).mono (fun r h => ⟨fun c => (h c).2.2, sem_eq_zero_of_no_sems (by decide) r.2⟩)
    (Cert.SampleRefIdeal.Value.run (F := Ideal) m g)

/-- The sample's linear attention reference. -/
theorem frame_GlaRef : Cert.quiescent_GlaRefIdeal := fun m g _ =>
  (θ_run Cert.GlaRefIdeal.defs _ _).mono (fun r h => ⟨fun c => (h c).2, sem_eq_zero_of_no_sems (by decide) r.2⟩)
    (Cert.GlaRefIdeal.Value.run (F := Ideal) m g)

/-- The prompt's linear attention reference. -/
theorem frame_GlaPromptRef : Cert.quiescent_GlaPromptRefIdeal := fun m g _ =>
  (θ_run Cert.GlaPromptRefIdeal.defs _ _).mono (fun r h => ⟨fun c => (h c).2, sem_eq_zero_of_no_sems (by decide) r.2⟩)
    (Cert.GlaPromptRefIdeal.Value.run (F := Ideal) m g)

/-- The same from the inputs the value claim speaks of. -/
theorem frame_GlaPromptRef_pre : Cert.quiescent_GlaPromptRefIdeal_pre_finite_gate := fun m g _ =>
  (θ_run Cert.GlaPromptRefIdeal.defs _ _).mono (fun r h => ⟨fun c => (h c).2, sem_eq_zero_of_no_sems (by decide) r.2⟩)
    (Cert.GlaPromptRefIdeal.Value.run (F := Ideal) m g)

/-- The merge and output projection reference. -/
theorem frame_PostRef : Cert.quiescent_PostRefIdeal := fun m g _ =>
  (θ_run Cert.PostRefIdeal.defs _ _).mono
    (fun r h => ⟨fun c => (h c).2.2.2, sem_eq_zero_of_no_sems (by decide) r.2⟩)
    (Cert.PostRefIdeal.Value.run (F := Ideal) m g)

/-- Each named constant denotes its real number. -/
theorem preserves_Swa : Cert.preserves_Swa_SwaIdeal := by
  refine ⟨?_, ?_, ?_, ?_, ?_, ?_, ?_, ?_, ?_, ?_, ?_, ?_, ?_, ?_, ?_, ?_, ?_⟩ <;>
    exact IdealRules.named_const.statement _ _ _ _ _ rfl

/-- The projection names no constant. -/
theorem preserves_Inproj : Cert.preserves_Inproj_InprojIdeal := trivial
/-- The sample's attention names no constant. -/
theorem preserves_Sample : Cert.preserves_Sample_SampleIdeal := trivial
/-- The sample's linear attention names no constant. -/
theorem preserves_Gla : Cert.preserves_Gla_GlaIdeal := trivial
/-- The prompt's linear attention names no constant. -/
theorem preserves_GlaPrompt : Cert.preserves_GlaPrompt_GlaPromptIdeal := trivial
/-- The merge names no constant. -/
theorem preserves_Post : Cert.preserves_Post_PostIdeal := trivial

end Cert.Proof
-- ==== Proof.SwaMath.lean ====
module

public import Idealize.ShloMosaic.PureOps.Ideal

@[expose] public section

noncomputable section

/-! The arithmetic of a softmax over the extended reals: exponentials base 2 of scores multiplied by `log2 e` against
    exponentials base e of the scores, and a division after the product with the values against a division before it. -/

namespace Cert.SwaMath

open Idealize.ShloMosaic

/-- `log2 e`. -/
def log2e : ℝ := (Real.log 2)⁻¹

theorem log2e_pos : 0 < log2e := inv_pos.mpr (Real.log_pos (by norm_num))

/-- Two to the power `x log2 e` is `e` to the power `x`. -/
theorem exp2_scaled (x : ℝ) : Ideal.exp2 ((log2e * x : ℝ) : EReal) = Ideal.exp (x : EReal) := by
  rw [Ideal.exp2_coe, Ideal.exp_coe]
  congr 1
  show (2 : ℝ) ^ (log2e * x) = _
  rw [Real.rpow_def_of_pos (by norm_num), log2e, ← mul_assoc, mul_inv_cancel₀ (Real.log_pos (by norm_num)).ne', one_mul]

/-- A score `x` and its multiple `y` by `log2 e`: both minus infinity, or both real. -/
def Scaled (x y : EReal) : Prop := (x = ⊥ ∧ y = ⊥) ∨ ∃ r : ℝ, x = r ∧ y = ((log2e * r : ℝ) : EReal)

/-- The larger of two scores is scaled as the scores are. -/
theorem Scaled.max {x y x' y' : EReal} (h : Scaled x y) (h' : Scaled x' y') : Scaled (x ⊔ x') (y ⊔ y') := by
  rcases h with ⟨rfl, rfl⟩ | ⟨r, rfl, rfl⟩
  · rwa [bot_sup_eq, bot_sup_eq]
  · rcases h' with ⟨rfl, rfl⟩ | ⟨r', rfl, rfl⟩
    · rw [sup_bot_eq, sup_bot_eq]; exact .inr ⟨r, rfl, rfl⟩
    · refine .inr ⟨r ⊔ r', ?_, ?_⟩
      · exact (EReal.coe_strictMono.monotone.map_max).symm
      · rw [← EReal.coe_strictMono.monotone.map_max, mul_max_of_nonneg _ _ log2e_pos.le]

/-- The largest of a family of scores is scaled as the scores are. -/
theorem Scaled.fold {ι : Type*} (S : Finset ι) (f g : ι → EReal) (h : ∀ i, Scaled (f i) (g i)) :
    Scaled (S.fold Max.max ⊥ f) (S.fold Max.max ⊥ g) := by
  classical
  induction S using Finset.induction_on with
  | empty => exact .inl ⟨rfl, rfl⟩
  | insert a S ha ih => rw [Finset.fold_insert ha, Finset.fold_insert ha]; exact (h a).max ih

/-- The exponentials of a score below a real bound agree, and are a nonnegative real. -/
theorem Scaled.exp {x y : EReal} (h : Scaled x y) (m : ℝ) :
    Ideal.exp2 (y - ((log2e * m : ℝ) : EReal)) = Ideal.exp (x - m) ∧ ∃ r : ℝ, 0 ≤ r ∧ Ideal.exp (x - m) = r := by
  rcases h with ⟨rfl, rfl⟩ | ⟨r, rfl, rfl⟩
  · rw [EReal.bot_sub, EReal.bot_sub]
    exact ⟨rfl, 0, le_rfl, rfl⟩
  · rw [← EReal.coe_sub, ← EReal.coe_sub, ← mul_sub, exp2_scaled]
    exact ⟨rfl, _, (Real.exp_pos _).le, Ideal.exp_coe _⟩

/-- A sum of nonnegative reals is a nonnegative real. -/
theorem sum_real {ι : Type*} (S : Finset ι) (p : ι → EReal) (h : ∀ i, ∃ r : ℝ, 0 ≤ r ∧ p i = r) :
    ∃ r : ℝ, 0 ≤ r ∧ ∑ i ∈ S, p i = r := by
  classical
  induction S using Finset.induction_on with
  | empty => exact ⟨0, le_rfl, by simp⟩
  | insert a S ha ih =>
    obtain ⟨r, hr, e⟩ := h a
    obtain ⟨r', hr', e'⟩ := ih
    exact ⟨r + r', by positivity, by rw [Finset.sum_insert ha, e, e', EReal.coe_add]⟩

/-- A positive real factor goes under a sum. -/
theorem sum_mul_real {ι : Type*} (S : Finset ι) (f : ι → EReal) (c : ℝ) (hc : 0 ≤ c) :
    (∑ i ∈ S, f i) * (c : EReal) = ∑ i ∈ S, f i * (c : EReal) := by
  classical
  induction S using Finset.induction_on with
  | empty => simp
  | insert a S ha ih =>
    rw [Finset.sum_insert ha, Finset.sum_insert ha, ← ih, mul_comm, mul_comm (f a), mul_comm (∑ i ∈ S, f i)]
    exact EReal.left_distrib_of_nonneg_of_ne_top (EReal.coe_nonneg.mpr hc) (EReal.coe_ne_top c) _ _

/-- THE EQUATION of one row of the attention. -/
theorem attention_eq {n : ℕ} (sr sk vr vk : Fin n → EReal) (sink : ℝ)
    (h : ∀ i, (sr i = ⊥ ∧ sk i = ⊥) ∨ ((∃ r : ℝ, sr i = r ∧ sk i = ((log2e * r : ℝ) : EReal)) ∧ vr i = vk i)) :
    Ideal.div (∑ i, Ideal.exp2 (sk i - Max.max (Finset.univ.fold Max.max ⊥ sk) ((log2e * sink : ℝ) : EReal)) * vk i)
        (∑ i, Ideal.exp2 (sk i - Max.max (Finset.univ.fold Max.max ⊥ sk) ((log2e * sink : ℝ) : EReal))
          + Ideal.exp2 (((log2e * sink : ℝ) : EReal) - Max.max (Finset.univ.fold Max.max ⊥ sk) ((log2e * sink : ℝ) : EReal)))
      = ∑ i, vr i * Ideal.div (Ideal.exp (sr i - Max.max (Finset.univ.fold Max.max ⊥ sr) (sink : EReal)))
          (∑ i, Ideal.exp (sr i - Max.max (Finset.univ.fold Max.max ⊥ sr) (sink : EReal))
            + Ideal.exp ((sink : EReal) - Max.max (Finset.univ.fold Max.max ⊥ sr) (sink : EReal))) := by
  have hs : ∀ i, Scaled (sr i) (sk i) := fun i => (h i).imp id fun h => h.1
  have hsink : Scaled (sink : EReal) ((log2e * sink : ℝ) : EReal) := .inr ⟨sink, rfl, rfl⟩
  obtain ⟨m, em, em'⟩ : ∃ m : ℝ, Max.max (Finset.univ.fold Max.max ⊥ sr) (sink : EReal) = m
      ∧ Max.max (Finset.univ.fold Max.max ⊥ sk) ((log2e * sink : ℝ) : EReal) = ((log2e * m : ℝ) : EReal) := by
    rcases (Scaled.fold Finset.univ sr sk hs).max hsink with ⟨e, -⟩ | h
    · exact absurd (le_sup_right.trans e.le) (not_le.mpr (EReal.bot_lt_coe sink))
    · exact h
  rw [em, em']
  obtain ⟨D, hD, eD⟩ := sum_real Finset.univ (fun i => Ideal.exp (sr i - m)) fun i => ((hs i).exp m).2
  have hden : ∑ i, Ideal.exp (sr i - m) + Ideal.exp ((sink : EReal) - m) = ((D + Real.exp (sink - m) : ℝ) : EReal) := by
    rw [eD, ← EReal.coe_sub, Ideal.exp_coe, EReal.coe_add]
  have hpos : 0 < D + Real.exp (sink - m) := add_pos_of_nonneg_of_pos hD (Real.exp_pos _)
  simp only [((hs _).exp m).1, (hsink.exp m).1]
  rw [hden, Ideal.div_coe hpos.ne', sum_mul_real _ _ _ (one_div_pos.mpr hpos).le]
  refine Finset.sum_congr rfl fun i _ => ?_
  rw [Ideal.div_coe hpos.ne']
  rcases h i with ⟨e, -⟩ | ⟨-, e⟩
  · rw [e, EReal.bot_sub]
    show (0 : EReal) * _ * _ = _ * ((0 : EReal) * _)
    simp
  · rw [e, mul_comm (Ideal.exp _) (vk i), mul_assoc]

/-- A sum of products of reals is a real. -/
theorem sum_mul_coe {ι : Type*} (S : Finset ι) (a b : ι → ℝ) :
    ∑ i ∈ S, (a i : EReal) * (b i : EReal) = ((∑ i ∈ S, a i * b i : ℝ) : EReal) := by
  classical
  induction S using Finset.induction_on with
  | empty => simp
  | insert a S ha ih => rw [Finset.sum_insert ha, Finset.sum_insert ha, ih, EReal.coe_add, EReal.coe_mul]

/-- Whether key slot `s` of block `n` is attended from the block's row `t`: not after it, fewer than 128 rows before it,
    and inside the sequence. Slots count from the first row of the block before. -/
def Attended (n t s : ℕ) : Prop := s ≤ 128 + t ∧ t < s ∧ (n = 0 → 128 ≤ s)

instance (n t s : ℕ) : Decidable (Attended n t s) := by unfold Attended; infer_instance

/-- The slope of head `h`: two to the power minus `(h + 1) / 2`. -/
def slope (h : ℕ) : ℝ := (2 : ℝ) ^ (-(((h : ℝ) + 1) / 2))

/-- The slope of an odd head is a power of two. -/
theorem slope_odd (k : ℕ) : slope (2 * k + 1) = 1 / 2 ^ (k + 1) := by
  unfold slope
  rw [show (((2 * k + 1 : ℕ) : ℝ) + 1) / 2 = ((k + 1 : ℕ) : ℝ) by push_cast; ring, Real.rpow_neg (by norm_num), Real.rpow_natCast, one_div]

/-- The slope of an even head is a power of two times the square root of a half. -/
theorem slope_even (k : ℕ) : slope (2 * k) = 1 / 2 ^ k * Real.sqrt (1 / 2) := by
  unfold slope
  rw [show (-((((2 * k : ℕ) : ℝ) + 1) / 2)) = -((k : ℕ) : ℝ) + (-(1 / 2)) by push_cast; ring, Real.rpow_add (by norm_num), Real.rpow_neg (by norm_num),
    Real.rpow_natCast, ← one_div, Real.sqrt_eq_rpow, one_div 2, Real.inv_rpow (by norm_num), ← Real.rpow_neg (by norm_num)]

end Cert.SwaMath
-- ==== Proof.SwaHead.lean ====
module

public import proofs.«01_k».proof.Proof.Gen.SwaIdeal.Value
public import proofs.«01_k».proof.Proof.SwaMath
public import Idealize.ShloMosaic.Lib.Pipeline.ValueKit
public import Idealize.ShloMosaic.Lib.Tactic.WordOmega

@[expose] public section

set_option maxRecDepth 16384

noncomputable section

/-! One head of one block as the kernel computes it, read at a row and a column. -/

namespace Cert.SwaIdeal.Value

open Idealize.ShloMosaic Idealize.ShloMosaic.TcCoe Idealize.SL.Sem
open Cert.SwaIdeal Cert.SwaIdeal.Gen Cert.SwaMath

/-- The pattern of minus infinity. -/
theorem ofBits_bot : Ideal.ofBits .f32 0xFF800000#32 = (⊥ : EReal) := by simp [Ideal.ofBits, Ideal.ieee]

/-- The masked scores of one head: scaled products minus scaled distances, in units of `log2 e`. -/
def headScores (cs cl : Ideal .f32) (q : FVec Ideal S128x64 .bf16) (k : FVec Ideal S256x64 .bf16) (valid : IVec S128x256 1)
    (dist : FVec Ideal S128x256 .f32) : FVec Ideal S128x256 .f32 :=
  select valid
    (subf (mulf (matmul dot_S128x64_S256x64_S128x256_1_1_0_0_n_n none q k (constant S128x256 .f32 0x00000000#32)) (broadcast S128x256 cs))
      (mulf (broadcast S128x256 cl) dist))
    (broadcast S128x256 (Scalar.ofBits .f32 0xFF800000#32))

/-- The largest score of each row, the sink among them. -/
def headMax (s : FVec Ideal S128x256 .f32) (sk : Ideal .f32) : FVec Ideal S128x1 .f32 :=
  maximumf (shapeCast S128x1 (multiReduction .maximumf [1] S128 s 0xFF800000#32 reduces_S128x256_S128 (.inl rfl) rfl) shapeCasts_S128_S128x1)
    (broadcast S128x1 sk)

/-- The exponentials of the scores below their row's largest. -/
def headWeights (s : FVec Ideal S128x256 .f32) (sk : Ideal .f32) : FVec Ideal S128x256 .f32 :=
  exp2 (subf s (broadcastTo S128x256 (headMax s sk) broadcasts_S128x1_S128x256))

/-- The output of one head from its scores, its values and its sink. -/
def headOut (s : FVec Ideal S128x256 .f32) (v : FVec Ideal S256x64 .bf16) (sk : Ideal .f32) : FVec Ideal S128x64 .bf16 :=
  truncf .bf16 (divf
    (matmul dot_S128x256_S256x64_S128x64_1_0_0_1_n_n none (truncf .bf16 (headWeights s sk) bitsLt_bf16_f32) v (constant S128x64 .f32 0x00000000#32))
    (broadcastTo S128x64 (addf
      (shapeCast S128x1 (multiReduction .add [1] S128 (headWeights s sk) 0x00000000#32 reduces_S128x256_S128 (.inl rfl) rfl) shapeCasts_S128_S128x1)
      (exp2 (subf (broadcast S128x1 sk) (headMax s sk)))) broadcasts_S128x1_S128x64)) bitsLt_bf16_f32

/-- A score of one head. -/
theorem headScores_at (cs cl : Ideal .f32) (q : FVec Ideal S128x64 .bf16) (k : FVec Ideal S256x64 .bf16) (valid : IVec S128x256 1)
    (dist : FVec Ideal S128x256 .f32) (r : Fin 128) (s : Fin 256) : headScores cs cl q k valid dist (ix2 r s)
      = if valid (ix2 r s) = 1 then (∑ x, q (ix2 r x) * k (ix2 s x)) * cs - cl * dist (ix2 r s) else (⊥ : EReal) := by
  pointwise [headScores]
  rw [ofBits_bot]
  rfl

/-- One head's output at a row and a column. -/
theorem headOut_at (s : FVec Ideal S128x256 .f32) (v : FVec Ideal S256x64 .bf16) (sk : Ideal .f32) (r : Fin 128) (d : Fin 64) :
    headOut s v sk (ix2 r d) = Ideal.div
      (∑ i, Ideal.exp2 (s (ix2 r i) - max (Finset.univ.fold max ⊥ fun i => s (ix2 r i)) sk) * v (ix2 i d))
      (∑ i, Ideal.exp2 (s (ix2 r i) - max (Finset.univ.fold max ⊥ fun i => s (ix2 r i)) sk)
        + Ideal.exp2 (sk - max (Finset.univ.fold max ⊥ fun i => s (ix2 r i)) sk)) := by
  pointwise [headOut, headWeights, headMax]
  rw [ofBits_bot]
  rfl

/-- The distance from a row to a key slot, as the kernel computes it. -/
theorem word_distance (r s : ℕ) (hr : r < 128) (hs : s < 256) :
    (IntOp.subi (IntOp.addi 128#32 (BitVec.ofNat 32 r)) (BitVec.ofNat 32 s)).toInt = 128 + (r : ℤ) - (s : ℤ) := by
  have er : (128#32 + BitVec.ofNat 32 r).toInt = 128 + (r : ℤ) := by word_omega
  have es : (BitVec.ofNat 32 s).toInt = (s : ℤ) := by word_omega
  show (128#32 + BitVec.ofNat 32 r - BitVec.ofNat 32 s).toInt = _
  rw [BitVec.toInt_sub, er, es, Int.bmod_eq_of_le (by omega) (by omega)]

/-- The distance from a row to a key slot. -/
theorem dist_at (r : Fin 128) (s : Fin 256) : k0_pay6 (F := Ideal) (ix2 r s) = ((128 + (r : ℝ) - (s : ℝ) : ℝ) : EReal) := by
  pointwise [k0_pay6, k0_pay4]
  show (((IntOp.subi (IntOp.addi 128#32 (BitVec.ofNat 32 r)) (BitVec.ofNat 32 s)).toInt : ℝ) : EReal) = _
  rw [word_distance r s r.isLt s.isLt]
  push_cast
  rfl

/-- The mask of a block holds exactly on the attended slots. -/
theorem valid_at (t : Fin cfg0.N) (r : Fin 128) (s : Fin 256) :
    k0_pay5 (grid0.coords t) (ix2 r s) = 1 ↔ Attended (t.val % 64) r s := by
  pointwise [k0_pay5, k0_pay4]
  have hd := word_distance r s r.isLt s.isLt
  have hj : (grid0.coords t 1 : ℕ) = t.val % 64 := (by decide +kernel : ∀ t : Fin grid0.N, (grid0.coords t 1 : ℕ) = t.val % 64) t
  rw [hj]
  have hb : t.val % 64 < 64 := Nat.mod_lt _ (by norm_num)
  generalize t.val % 64 = n at *
  generalize IntOp.subi (IntOp.addi 128#32 (BitVec.ofNat 32 r)) (BitVec.ofNat 32 s) = D at *
  unfold Attended
  word_omega

/-- A block's keys: the block before, then the block itself. -/
theorem keys_at (v0 v1 : Vec Ideal S128x512 .f32) (s : Fin 256) (x : Fin 256) : k0_pay2 v0 v1 (ix2 s x)
    = if h : (s : ℕ) < 128 then v1 (ix2 ⟨s, h⟩ ⟨x, by omega⟩) else v0 (ix2 ⟨s - 128, by omega⟩ ⟨x, by omega⟩) := by
  pointwise [k0_pay2]

/-- A block's values: the block before, then the block itself. -/
theorem values_at (v0 v1 : Vec Ideal S128x512 .f32) (s : Fin 256) (x : Fin 256) : k0_pay3 v0 v1 (ix2 s x)
    = if h : (s : ℕ) < 128 then v1 (ix2 ⟨s, h⟩ ⟨256 + x, by omega⟩) else v0 (ix2 ⟨s - 128, by omega⟩ ⟨256 + x, by omega⟩) := by
  pointwise [k0_pay3]

end Cert.SwaIdeal.Value
-- ==== Proof.SwaRef.lean ====
module

public import proofs.«01_k».proof.Proof.Gen.SwaRefIdeal.Run
public import Idealize.ShloMosaic.Lib.Pointwise

@[expose] public section

set_option maxRecDepth 16384

noncomputable section

/-! The sliding window attention as the reference computes it, stage by stage: each stage a term over the argument
    arrays (`sinks` one per head, `proj` the projection's rows, `kv` the keys' and the values' rows). -/

namespace Cert.SwaRefIdeal.Value

open Idealize.ShloMosaic Idealize.ShloMosaic.TcCoe Idealize.SL.Sem
open Cert.SwaRefIdeal Cert.SwaRefIdeal.Gen

/-- The position of each key slot of each block: the block before, then the block itself. -/
def kpos : IVec S64x1x256 32 :=
  addi (broadcastInDim S64x1x256 ![0, 1, 2] bcast_S64x1x1_S64x1x256_0_1_2 (muli (subi (broadcastInDim S64x1x1 ![0] bcast_S64_S64x1x1_0 (iotaInDim S64 32 0)) (broadcastInDim S64x1x1 ![] bcast_S_S64x1x1 (constantI S_ 32 1#32))) (broadcastInDim S64x1x1 ![] bcast_S_S64x1x1 (constantI S_ 32 128#32)))) (broadcastInDim S64x1x256 ![0, 1, 2] bcast_S1x1x256_S64x1x256_0_1_2 (broadcastInDim S1x1x256 ![2] bcast_S256_S1x1x256_2 (iotaInDim S256 32 0)))

/-- Query position minus key position, per block, query and key slot. -/
def dist : IVec S64x128x256 32 :=
  subi (broadcastInDim S64x128x256 ![0, 1, 2] bcast_S64x128x1_S64x128x256_0_1_2 (addi (broadcastInDim S64x128x1 ![0, 1, 2] bcast_S64x1x1_S64x128x1_0_1_2 (muli (broadcastInDim S64x1x1 ![0] bcast_S64_S64x1x1_0 (iotaInDim S64 32 0)) (broadcastInDim S64x1x1 ![] bcast_S_S64x1x1 (constantI S_ 32 128#32)))) (broadcastInDim S64x128x1 ![0, 1, 2] bcast_S1x128x1_S64x128x1_0_1_2 (broadcastInDim S1x128x1 ![1] bcast_S128_S1x128x1_1 (iotaInDim S128 32 0))))) (broadcastInDim S64x128x256 ![0, 1, 2] bcast_S64x1x256_S64x128x256_0_1_2 kpos)

/-- Where a key slot is attended: not after the query, inside the window, inside the sequence. -/
def valid : IVec S64x128x256 1 :=
  andi (andi (cmpi .sge dist (broadcastInDim S64x128x256 ![] bcast_S_S64x128x256 (constantI S_ 32 0#32))) (cmpi .slt dist (broadcastInDim S64x128x256 ![] bcast_S_S64x128x256 (constantI S_ 32 128#32)))) (broadcastInDim S64x128x256 ![0, 1, 2] bcast_S64x1x256_S64x128x256_0_1_2 (cmpi .sge kpos (broadcastInDim S64x1x256 ![] bcast_S_S64x1x256 (constantI S_ 32 0#32))))

/-- The slopes of the heads. -/
def slopes : FVec Ideal S16 .f32 :=
  Host.powf (broadcastInDim S16 ![] bcast_S_S16 (constant S_ .f32 0x40000000#32)) (Host.divf (mulf (broadcastInDim S16 ![] bcast_S_S16 (constant S_ .f32 0xC1000000#32)) (addf (broadcastInDim S16 ![] bcast_S_S16 (constant S_ .f32 0x3F800000#32)) (sitofp .f32 (iotaInDim S16 32 0)))) (broadcastInDim S16 ![] bcast_S_S16 (constant S_ .f32 0x41800000#32)))

/-- The values of every key slot, zero before the sequence. -/
def values (kv : FVec Ideal S32768x512 .f32) : FVec Ideal S4x64x256x4x64 .f32 :=
  concatenate S4x64x256x4x64 2 [⟨S4x64x128x4x64, (extractStridedSlice S4x64x128x4x64 ![0, 0, 0, 0, 0] (shapeCast _ (pad S4x8320x4x64 ![0, 128, 0, 0] ![0, 0, 0, 0] ![0, 0, 0, 0] (shapeCast _ (extractStridedSlice S32768x256 ![0, 256] kv slices_S32768x512_S32768x256_0_256) shapeCasts_S32768x256_S4x8192x4x64) (sitofp .f32 (constantI S_ 32 0#32)) pads_S4x8192x4x64_S4x8320x4x64_000_12800_000_000 h_S_) shapeCasts_S4x8320x4x64_S4x65x128x4x64) slices_S4x65x128x4x64_S4x64x128x4x64_0_0_0_0_0)⟩, ⟨S4x64x128x4x64, (extractStridedSlice S4x64x128x4x64 ![0, 1, 0, 0, 0] (shapeCast _ (pad S4x8320x4x64 ![0, 128, 0, 0] ![0, 0, 0, 0] ![0, 0, 0, 0] (shapeCast _ (extractStridedSlice S32768x256 ![0, 256] kv slices_S32768x512_S32768x256_0_256) shapeCasts_S32768x256_S4x8192x4x64) (sitofp .f32 (constantI S_ 32 0#32)) pads_S4x8192x4x64_S4x8320x4x64_000_12800_000_000 h_S_) shapeCasts_S4x8320x4x64_S4x65x128x4x64) slices_S4x65x128x4x64_S4x64x128x4x64_0_1_0_0_0)⟩] concatenates_S4x64x128x4x64_S4x64x128x4x64_S4x64x256x4x64_d2

/-- The keys of every key slot, zero before the sequence. -/
def keys (kv : FVec Ideal S32768x512 .f32) : FVec Ideal S4x64x256x4x64 .f32 :=
  concatenate S4x64x256x4x64 2 [⟨S4x64x128x4x64, (extractStridedSlice S4x64x128x4x64 ![0, 0, 0, 0, 0] (shapeCast _ (pad S4x8320x4x64 ![0, 128, 0, 0] ![0, 0, 0, 0] ![0, 0, 0, 0] (shapeCast _ (extractStridedSlice S32768x256 ![0, 0] kv slices_S32768x512_S32768x256_0_0) shapeCasts_S32768x256_S4x8192x4x64) (sitofp .f32 (constantI S_ 32 0#32)) pads_S4x8192x4x64_S4x8320x4x64_000_12800_000_000 h_S_) shapeCasts_S4x8320x4x64_S4x65x128x4x64) slices_S4x65x128x4x64_S4x64x128x4x64_0_0_0_0_0)⟩, ⟨S4x64x128x4x64, (extractStridedSlice S4x64x128x4x64 ![0, 1, 0, 0, 0] (shapeCast _ (pad S4x8320x4x64 ![0, 128, 0, 0] ![0, 0, 0, 0] ![0, 0, 0, 0] (shapeCast _ (extractStridedSlice S32768x256 ![0, 0] kv slices_S32768x512_S32768x256_0_0) shapeCasts_S32768x256_S4x8192x4x64) (sitofp .f32 (constantI S_ 32 0#32)) pads_S4x8192x4x64_S4x8320x4x64_000_12800_000_000 h_S_) shapeCasts_S4x8320x4x64_S4x65x128x4x64) slices_S4x65x128x4x64_S4x64x128x4x64_0_1_0_0_0)⟩] concatenates_S4x64x128x4x64_S4x64x128x4x64_S4x64x256x4x64_d2

/-- The queries, by batch, block, position in the block, key head, head of the group and column. -/
def queries (proj : FVec Ideal S32768x6784 .bf16) : FVec Ideal S4x64x128x4x4x64 .f32 :=
  shapeCast _ (extf .f32 (extractStridedSlice S32768x1024 ![0, 0] proj slices_S32768x6784_S32768x1024_0_0) bitsLt_bf16_f32) shapeCasts_S32768x1024_S4x64x128x4x4x64

/-- The masked scores. -/
def scores (proj : FVec Ideal S32768x6784 .bf16) (kv : FVec Ideal S32768x512 .f32) : FVec Ideal S4x64x4x4x128x256 .f32 :=
  select (broadcastInDim S4x64x4x4x128x256 ![0, 1, 2, 3, 4, 5] bcast_S1x64x1x1x128x256_S4x64x4x4x128x256_0_1_2_3_4_5 (broadcastInDim S1x64x1x1x128x256 ![1, 4, 5] bcast_S64x128x256_S1x64x1x1x128x256_1_4_5 valid)) (subf (mulf (transpose S4x64x4x4x128x256 [0, 1, 2, 5, 4, 3] (Host.dotGeneral dot_S4x64x256x4x64_S4x64x128x4x4x64_S4x64x4x256x128x4_4_5_2_24_013_013 none (keys kv) (queries proj)) transposes_S4x64x4x256x128x4_S4x64x4x4x128x256_0_1_2_5_4_3) (broadcastInDim S4x64x4x4x128x256 ![] bcast_S_S4x64x4x4x128x256 (constant S_ .f32 0x3E000000#32))) (broadcastInDim S4x64x4x4x128x256 ![0, 1, 2, 3, 4, 5] bcast_S1x64x4x4x128x256_S4x64x4x4x128x256_0_1_2_3_4_5 (mulf (broadcastInDim S1x64x4x4x128x256 ![0, 1, 2, 3, 4, 5] bcast_S1x1x4x4x1x1_S1x64x4x4x128x256_0_1_2_3_4_5 (broadcastInDim S1x1x4x4x1x1 ![2, 3] bcast_S4x4_S1x1x4x4x1x1_2_3 (shapeCast _ slopes shapeCasts_S16_S4x4))) (broadcastInDim S1x64x4x4x128x256 ![0, 1, 2, 3, 4, 5] bcast_S1x64x1x1x128x256_S1x64x4x4x128x256_0_1_2_3_4_5 (sitofp .f32 (broadcastInDim S1x64x1x1x128x256 ![1, 4, 5] bcast_S64x128x256_S1x64x1x1x128x256_1_4_5 dist)))))) (broadcastInDim S4x64x4x4x128x256 ![] bcast_S_S4x64x4x4x128x256 (id (constant S_ .f32 0xFF800000#32)))

/-- The largest score of a row. -/
def scoreMax (proj : FVec Ideal S32768x6784 .bf16) (kv : FVec Ideal S32768x512 .f32) : FVec Ideal S4x64x4x4x128 .f32 :=
  Host.reduce FloatOps.maximumf (scores proj kv) (constant S_ .f32 0xFF800000#32) reducesTo_S4x64x4x4x128x256_S4x64x4x4x128_d5 h_S_

/-- The largest score of a row, the sink among them. -/
def rowMax (sinks : FVec Ideal S16 .f32) (proj : FVec Ideal S32768x6784 .bf16) (kv : FVec Ideal S32768x512 .f32) : FVec Ideal S4x64x4x4x128x1 .f32 :=
  maximumf (broadcastInDim S4x64x4x4x128x1 ![0, 1, 2, 3, 4] bcast_S4x64x4x4x128_S4x64x4x4x128x1_0_1_2_3_4 (scoreMax proj kv)) (broadcastInDim S4x64x4x4x128x1 ![0, 1, 2, 3, 4, 5] bcast_S1x1x4x4x1x1_S4x64x4x4x128x1_0_1_2_3_4_5 (broadcastInDim S1x1x4x4x1x1 ![2, 3] bcast_S4x4_S1x1x4x4x1x1_2_3 (shapeCast _ sinks shapeCasts_S16_S4x4)))

/-- The exponentials of the scores. -/
def weights (sinks : FVec Ideal S16 .f32) (proj : FVec Ideal S32768x6784 .bf16) (kv : FVec Ideal S32768x512 .f32) : FVec Ideal S4x64x4x4x128x256 .f32 :=
  Host.exp (subf (scores proj kv) (broadcastInDim S4x64x4x4x128x256 ![0, 1, 2, 3, 4, 5] bcast_S4x64x4x4x128x1_S4x64x4x4x128x256_0_1_2_3_4_5 (rowMax sinks proj kv)))

/-- The sum of a row of exponentials. -/
def weightSum (sinks : FVec Ideal S16 .f32) (proj : FVec Ideal S32768x6784 .bf16) (kv : FVec Ideal S32768x512 .f32) : FVec Ideal S4x64x4x4x128 .f32 :=
  Host.reduceAdd (weights sinks proj kv) (constant S_ .f32 0x00000000#32) reducesTo_S4x64x4x4x128x256_S4x64x4x4x128_d5 h_S_

/-- The sum of a row of exponentials, the sink among them. -/
def denom (sinks : FVec Ideal S16 .f32) (proj : FVec Ideal S32768x6784 .bf16) (kv : FVec Ideal S32768x512 .f32) : FVec Ideal S4x64x4x4x128x1 .f32 :=
  addf (broadcastInDim S4x64x4x4x128x1 ![0, 1, 2, 3, 4] bcast_S4x64x4x4x128_S4x64x4x4x128x1_0_1_2_3_4 (weightSum sinks proj kv)) (Host.exp (subf (broadcastInDim S4x64x4x4x128x1 ![0, 1, 2, 3, 4, 5] bcast_S1x1x4x4x1x1_S4x64x4x4x128x1_0_1_2_3_4_5 (broadcastInDim S1x1x4x4x1x1 ![2, 3] bcast_S4x4_S1x1x4x4x1x1_2_3 (shapeCast _ sinks shapeCasts_S16_S4x4))) (rowMax sinks proj kv)))

/-- The attention of every row: the values weighted by the exponentials over their sum. -/
def attention (sinks : FVec Ideal S16 .f32) (proj : FVec Ideal S32768x6784 .bf16) (kv : FVec Ideal S32768x512 .f32) : FVec Ideal S32768x1024 .bf16 :=
  truncf .bf16 (shapeCast _ (transpose S4x64x128x4x4x64 [0, 1, 5, 2, 4, 3] (Host.dotGeneral dot_S4x64x256x4x64_S4x64x4x4x128x256_S4x64x4x64x4x128_2_5_4_34_013_012 none (values kv) (Host.divf (weights sinks proj kv) (broadcastInDim S4x64x4x4x128x256 ![0, 1, 2, 3, 4, 5] bcast_S4x64x4x4x128x1_S4x64x4x4x128x256_0_1_2_3_4_5 (denom sinks proj kv)))) transposes_S4x64x4x64x4x128_S4x64x128x4x4x64_0_1_5_2_4_3) shapeCasts_S4x64x128x4x4x64_S32768x1024) bitsLt_bf16_f32

variable (m : (ℓ : Loc nD τ sig) → Buf (Elt Ideal) ℓ) (ρ : Dev nD → PrngReg)

/-- The reference ends with its result at that term and its arguments unchanged. -/
theorem run_terms : θ_run defs (onTc (τ := τ) (main (F := Ideal))) ⟨m, fun _ => 0, ρ⟩ fun r => ∀ c : Dev nD,
      r.2.mem ((c.tc : Thread nD τ).loc main_v91) = attention (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

end Cert.SwaRefIdeal.Value
-- ==== Proof.SwaRefAt.lean ====
module

public import proofs.«01_k».proof.Proof.SwaRef
public import proofs.«01_k».proof.Proof.SwaMath
public import Idealize.ShloMosaic.Lib.Pipeline.ValueKit
public import Idealize.ShloMosaic.Lib.Tactic.WordOmega

@[expose] public section

set_option maxRecDepth 16384

noncomputable section

/-! The reference's attention read at one row and one column, stage by stage. -/

namespace Cert.SwaRefIdeal.Value

open Idealize.ShloMosaic Idealize.ShloMosaic.TcCoe Idealize.SL.Sem
open Cert.SwaRefIdeal Cert.SwaRefIdeal.Gen Cert.SwaMath

/-- The first row of a block. -/
theorem block_row (n : Fin 64) : (IntOp.muli (BitVec.ofNat 32 n) 128#32).toInt = (n : ℤ) * 128 := by
  revert n; decide

/-- The first row of the block before. -/
theorem block_row_before (n : Fin 64) : (IntOp.muli (IntOp.subi (BitVec.ofNat 32 n) 1#32) 128#32).toInt = ((n : ℤ) - 1) * 128 := by
  revert n; decide

/-- The difference of two positions given by their blocks' first rows. -/
theorem word_distance (A B : BitVec 32) (n t s : ℕ) (hn : n < 64) (ht : t < 128) (hs : s < 256) (hA : A.toInt = (n : ℤ) * 128)
    (hB : B.toInt = ((n : ℤ) - 1) * 128) : (A + BitVec.ofNat 32 t - (B + BitVec.ofNat 32 s)).toInt = 128 + (t : ℤ) - (s : ℤ) := by
  have et : (BitVec.ofNat 32 t).toInt = (t : ℤ) := by word_omega
  have es : (BitVec.ofNat 32 s).toInt = (s : ℤ) := by word_omega
  have e1 : (A + BitVec.ofNat 32 t).toInt = n * 128 + t := by
    rw [BitVec.toInt_add, hA, et]
    exact Int.bmod_eq_of_le (by omega) (by omega)
  have e2 : (B + BitVec.ofNat 32 s).toInt = (n - 1) * 128 + s := by
    rw [BitVec.toInt_add, hB, es]
    exact Int.bmod_eq_of_le (by omega) (by omega)
  rw [BitVec.toInt_sub, e1, e2, Int.bmod_eq_of_le (by omega) (by omega)]
  ring

/-- The distance from a query to a key slot is 128 plus the query's row in the block minus the slot. -/
theorem dist_at (n : Fin 64) (t : Fin 128) (s : Fin 256) : (dist (ix3 n t s)).toInt = 128 + (t : ℤ) - (s : ℤ) := by
  pointwise [dist, kpos]
  have h := block_row n
  have h' := block_row_before n
  generalize IntOp.muli (BitVec.ofNat 32 n) 128#32 = A at *
  generalize IntOp.muli (IntOp.subi (BitVec.ofNat 32 n) 1#32) 128#32 = B at *
  exact word_distance A B n t s n.isLt t.isLt s.isLt h h'

/-- The mask holds exactly on the attended slots. -/
theorem valid_at (n : Fin 64) (t : Fin 128) (s : Fin 256) : valid (ix3 n t s) = 1 ↔ Attended n t s := by
  have hd := dist_at n t s
  have hk : (IntOp.addi (IntOp.muli (IntOp.subi (BitVec.ofNat 32 n) 1#32) 128#32) (BitVec.ofNat 32 s)).toInt = ((n : ℤ) - 1) * 128 + s := by
    have h' := block_row_before n
    generalize IntOp.muli (IntOp.subi (BitVec.ofNat 32 n) 1#32) 128#32 = B at *
    word_omega
  unfold Attended
  pointwise [valid, kpos]
  generalize dist (ix3 n t s) = D at *
  generalize IntOp.addi (IntOp.muli (IntOp.subi (BitVec.ofNat 32 n) 1#32) 128#32) (BitVec.ofNat 32 s) = K at *
  word_omega

/-- The slope of a head. -/
theorem slopes_at (h : Fin 16) : slopes (ix1 h) = ((slope h : ℝ) : EReal) := by
  pointwise [slopes]
  have e2 : Ideal.ofBits .f32 0x40000000#32 = ((2 : ℝ) : EReal) := by simp [Ideal.ofBits, Ideal.ieee, -EReal.coe_mul]; norm_num
  have e8 : Ideal.ofBits .f32 0xC1000000#32 = ((-8 : ℝ) : EReal) := by simp [Ideal.ofBits, Ideal.ieee, -EReal.coe_mul]; norm_num
  have e16 : Ideal.ofBits .f32 0x41800000#32 = ((16 : ℝ) : EReal) := by simp [Ideal.ofBits, Ideal.ieee, -EReal.coe_mul]; norm_num
  have eh : (FloatOps.sitofp (F := Ideal) .f32 (BitVec.ofNat 32 h) : EReal) = ((h : ℝ) : EReal) := by
    show (((BitVec.ofNat 32 h).toInt : ℝ) : EReal) = _
    rw [show (BitVec.ofNat 32 h).toInt = ((h : ℕ) : ℤ) by word_omega]
    norm_cast
  rw [e2, e8, e16, eh, ← EReal.coe_one, ← EReal.coe_add, ← EReal.coe_mul, Ideal.div_coe (by norm_num), ← EReal.coe_mul, Ideal.pow_coe_coe]
  unfold SwaMath.slope
  refine congrArg (fun x : ℝ => (((2 : ℝ) ^ x : ℝ) : EReal)) ?_
  ring

variable (sinks : FVec Ideal S16 .f32) (proj : FVec Ideal S32768x6784 .bf16) (kv : FVec Ideal S32768x512 .f32)

/-- A key slot inside the sequence holds the key of its row. -/
theorem keys_at (b : Fin 4) (n : Fin 64) (s : Fin 256) (k : Fin 4) (d : Fin 64) (R : Fin 32768) (C : Fin 512) (h : 128 ≤ (n : ℕ) * 128 + s)
    (hR : (R : ℕ) = b * 8192 + n * 128 + s - 128) (hC : (C : ℕ) = k * 64 + d) : keys kv (ix5 b n s k d) = kv (ix2 R C) := by
  pointwise [keys]
  by_cases h1 : (s : ℕ) < 128
  · rw [dif_pos h1, dif_pos (by omega)]
    blk_ext
  · rw [dif_neg h1, dif_pos (by omega)]
    blk_ext

/-- A value slot inside the sequence holds the value of its row. -/
theorem values_at (b : Fin 4) (n : Fin 64) (s : Fin 256) (k : Fin 4) (d : Fin 64) (R : Fin 32768) (C : Fin 512) (h : 128 ≤ (n : ℕ) * 128 + s)
    (hR : (R : ℕ) = b * 8192 + n * 128 + s - 128) (hC : (C : ℕ) = 256 + k * 64 + d) : values kv (ix5 b n s k d) = kv (ix2 R C) := by
  pointwise [values]
  by_cases h1 : (s : ℕ) < 128
  · rw [dif_pos h1, dif_pos (by omega)]
    blk_ext
  · rw [dif_neg h1, dif_pos (by omega)]
    blk_ext

/-- The query of a row and a head. -/
theorem queries_at (b : Fin 4) (n : Fin 64) (t : Fin 128) (k g : Fin 4) (d : Fin 64) (R : Fin 32768) (C : Fin 6784)
    (hR : (R : ℕ) = b * 8192 + n * 128 + t) (hC : (C : ℕ) = k * 256 + g * 64 + d) : queries proj (ix6 b n t k g d) = proj (ix2 R C) := by
  pointwise [queries]
  blk_ext

/-- A score: minus infinity where the slot is not attended, else the scaled product minus the slope times the distance. -/
theorem scores_at (b : Fin 4) (n : Fin 64) (k g : Fin 4) (t : Fin 128) (s : Fin 256) : scores proj kv (ix6 b n k g t s)
    = if Attended n t s then (∑ x, keys kv (ix5 b n s k x) * queries proj (ix6 b n t k g x)) * ((1 / 8 : ℝ) : EReal)
        - ((slope (k * 4 + g : ℕ) : ℝ) : EReal) * ((128 + (t : ℝ) - (s : ℝ) : ℝ) : EReal) else ⊥ := by
  have e8 : Ideal.ofBits .f32 0x3E000000#32 = ((1 / 8 : ℝ) : EReal) := by simp [Ideal.ofBits, Ideal.ieee, -EReal.coe_mul]; norm_num
  have eb : Ideal.ofBits .f32 0xFF800000#32 = (⊥ : EReal) := by simp [Ideal.ofBits, Ideal.ieee]
  have ed : (FloatOps.sitofp (F := Ideal) .f32 (dist (ix3 n t s)) : EReal) = ((128 + (t : ℝ) - (s : ℝ) : ℝ) : EReal) := by
    show (((dist (ix3 n t s)).toInt : ℝ) : EReal) = _
    rw [dist_at]
    push_cast
    rfl
  have hv := valid_at n t s
  pointwise [scores]
  rw [e8, ed, slopes_at]
  unfold Scalar.select
  simp only [hv, id]
  refine if_congr Iff.rfl ?_ ?_
  · rfl
  · exact eb

/-- A row of the scores is one axis of them. -/
theorem reduces_slots : S4x64x4x4x128x256.Reduces [5] S4x64x4x4x128 := by decide

/-- The entry of a row at a slot. -/
theorem lift_slot (b : Fin 4) (n : Fin 64) (k g : Fin 4) (t : Fin 128) (s : Fin 256) :
    reduces_slots.lift (ix5 b n k g t) s = ix6 b n k g t s := by
  funext a
  fin_cases a <;> rfl

/-- The largest score of a row. -/
theorem scoreMax_at (b : Fin 4) (n : Fin 64) (k g : Fin 4) (t : Fin 128) :
    scoreMax proj kv (ix5 b n k g t) = Finset.univ.fold max (⊥ : EReal) fun s : Fin 256 => scores proj kv (ix6 b n k g t s) := by
  have eb : Ideal.ofBits .f32 0xFF800000#32 = (⊥ : EReal) := by simp [Ideal.ofBits, Ideal.ieee]
  unfold scoreMax
  generalize scores proj kv = S
  rw [Host.reduce_eq_fold_single _ _ _ _ reduces_slots]
  refine (congrArg (fun e : EReal => Finset.univ.fold max e (S ∘ reduces_slots.lift (ix5 b n k g t))) eb).trans ?_
  exact congrArg (fun f : Fin 256 → EReal => Finset.univ.fold max ⊥ f) (funext fun s => congrArg S (lift_slot b n k g t s))

/-- The sum of a row of exponentials. -/
theorem weightSum_at (b : Fin 4) (n : Fin 64) (k g : Fin 4) (t : Fin 128) :
    weightSum sinks proj kv (ix5 b n k g t) = ∑ s : Fin 256, weights sinks proj kv (ix6 b n k g t s) := by
  unfold weightSum
  generalize weights sinks proj kv = W
  show (_ : EReal) + ∑ i ∈ Finset.univ.filter (fun i => _ = _), _ = _
  rw [Shape.ReducesTo.drop_eq_drop reducesTo_S4x64x4x4x128x256_S4x64x4x4x128_d5 reduces_slots]
  rw [Shape.Reduces.sum_filter_drop_single reduces_slots W (ix5 b n k g t)]
  have e0 : constant (F := Ideal) S_ .f32 0x00000000#32 (Shape.Idx.first h_S_) = (0 : EReal) := by pointwise []
  rw [e0, zero_add]
  exact Finset.sum_congr rfl fun s _ => congrArg W (lift_slot b n k g t s)

/-- The exponential of a score below its row's largest. -/
theorem weights_at (b : Fin 4) (n : Fin 64) (k g : Fin 4) (t : Fin 128) (s : Fin 256) : weights sinks proj kv (ix6 b n k g t s)
    = Ideal.exp (scores proj kv (ix6 b n k g t s) - rowMax sinks proj kv (ix6 b n k g t 0)) := by
  unfold weights
  generalize rowMax sinks proj kv = M
  generalize scores proj kv = S
  pointwise []

/-- The larger of two arrays' entries. -/
theorem maximumf_at {s : Shape} (A B : FVec Ideal s .f32) (i : s.Idx) (a b : EReal) (hA : A i = a) (hB : B i = b) : maximumf A B i = max a b := by
  subst hA hB; rfl

/-- The largest score of a row and its head's sink. -/
theorem rowMax_at (b : Fin 4) (n : Fin 64) (k g : Fin 4) (t : Fin 128) (h : Fin 16) (hh : (h : ℕ) = k * 4 + g) :
    rowMax sinks proj kv (ix6 b n k g t 0) = max (scoreMax proj kv (ix5 b n k g t)) (sinks (ix1 h)) := by
  unfold rowMax
  generalize scoreMax proj kv = M
  refine maximumf_at _ _ _ _ _ ?_ ?_
  · pointwise []
  · pointwise []
    blk_ext

/-- The sum of a row of exponentials and the sink's. -/
theorem denom_at (b : Fin 4) (n : Fin 64) (k g : Fin 4) (t : Fin 128) (h : Fin 16) (hh : (h : ℕ) = k * 4 + g) :
    denom sinks proj kv (ix6 b n k g t 0) = weightSum sinks proj kv (ix5 b n k g t)
      + Ideal.exp (sinks (ix1 h) - rowMax sinks proj kv (ix6 b n k g t 0)) := by
  unfold denom
  generalize weightSum sinks proj kv = W
  generalize rowMax sinks proj kv = M
  pointwise []
  rw [show (⟨k * 4 + g, by omega⟩ : Fin 16) = h from Fin.ext hh.symm]

/-- The attention of a row and a column. -/
theorem attention_at (r : Fin 32768) (l : Fin 1024) (b : Fin 4) (n : Fin 64) (k g : Fin 4) (t : Fin 128) (d : Fin 64)
    (hr : (r : ℕ) = b * 8192 + n * 128 + t) (hl : (l : ℕ) = k * 256 + g * 64 + d) : attention sinks proj kv (ix2 r l)
      = ∑ s, values kv (ix5 b n s k d) * Ideal.div (weights sinks proj kv (ix6 b n k g t s)) (denom sinks proj kv (ix6 b n k g t 0)) := by
  unfold attention
  generalize values kv = V
  generalize weights sinks proj kv = W
  generalize denom sinks proj kv = D
  pointwise []
  refine Finset.sum_congr rfl fun s _ => Ideal.mul_congr (congrArg V ?_) (congrArg₂ Ideal.div (congrArg W ?_) (congrArg D ?_)) <;> blk_ext

end Cert.SwaRefIdeal.Value
-- ==== Proof.SwaPre.lean ====
module

public import proofs.«01_k».proof.Proof.Gen.Pre_finite_scores
public import proofs.«01_k».proof.Proof.SwaRef
public import Idealize.ShloMosaic.Lib.ReduceAll
public import Idealize.ShloMosaic.Lib.Pointwise

@[expose] public section

set_option maxRecDepth 16384

noncomputable section

/-! What the precondition says: the sinks, the queries and the keys are real numbers. -/

namespace Cert.SwaPre

open Idealize.ShloMosaic Idealize.ShloMosaic.TcCoe Idealize.SL.Sem
open Cert.Pre_finite_scores Cert.Pre_finite_scores.Gen

/-- The sinks, the queries (columns 0 to 1023 of the projection) and the keys (columns 0 to 255 of the keys' and the values'
    rows) are real numbers. -/
structure Finite (sinks : FVec Ideal S16 .f32) (proj : FVec Ideal S32768x6784 .bf16) (kv : FVec Ideal S32768x512 .f32) : Prop where
  sink : ∀ h : Fin 16, ∃ r : ℝ, sinks (ix1 h) = (r : EReal)
  query : ∀ (R : Fin 32768) (C : Fin 6784), (C : ℕ) < 1024 → ∃ r : ℝ, proj (ix2 R C) = (r : EReal)
  key : ∀ (R : Fin 32768) (C : Fin 512), (C : ℕ) < 256 → ∃ r : ℝ, kv (ix2 R C) = (r : EReal)

/-- The result of a reduction over every axis has one index. -/
instance : Subsingleton S_.Idx := ⟨fun a b => funext fun i => i.elim0⟩

/-- A number above minus infinity and below plus infinity is real. -/
theorem real_of_cmpf {s : Shape} (x lo hi : FVec Ideal s .f32) (i : s.Idx) (hlo : lo i = (⊥ : EReal)) (hhi : hi i = (⊤ : EReal))
    (h : andi (cmpf .ogt x lo) (cmpf .olt x hi) i = 1#1) : ∃ r : ℝ, x i = (r : EReal) := by
  obtain ⟨h1, h2⟩ := IntOp.andi_eq_one.1 h
  have h1 : (⊥ : EReal) < x i := by
    by_contra hn
    rw [← hlo] at hn
    have e : cmpf .ogt x lo i = 0#1 := by
      show BitVec.ofBool (decide (lo i < x i)) = 0#1
      rw [decide_eq_false hn]; rfl
    rw [e] at h1
    exact absurd h1 (by decide)
  have h2 : x i < (⊤ : EReal) := by
    by_contra hn
    rw [← hhi] at hn
    have e : cmpf .olt x hi i = 0#1 := by
      show BitVec.ofBool (decide (x i < hi i)) = 0#1
      rw [decide_eq_false hn]; rfl
    rw [e] at h2
    exact absurd h2 (by decide)
  exact ⟨EReal.toReal (x i), (EReal.coe_toReal h2.ne h1.ne').symm⟩

/-- The precondition makes them so. -/
theorem finite_of_pre [Facts] (sinks : FVec Ideal S16 .f32) (proj : FVec Ideal S32768x6784 .bf16) (kv : FVec Ideal S32768x512 .f32)
    (h : ∀ j, fn (F := Ideal) sinks proj kv j = 1#1) : Finite sinks proj kv := by
  have h := h ix0
  unfold fn fn_part1 at h
  obtain ⟨h12, h3⟩ := IntOp.andi_eq_one.1 h
  obtain ⟨h1, h2⟩ := IntOp.andi_eq_one.1 h12
  have elo : ∀ x : EReal, x = Ideal.ofBits .f32 0xFF800000#32 → x = ⊥ := by rintro x rfl; simp [Ideal.ofBits, Ideal.ieee]
  have ehi : ∀ x : EReal, x = Ideal.ofBits .f32 0x7F800000#32 → x = ⊤ := by rintro x rfl; simp [Ideal.ofBits, Ideal.ieee]
  refine ⟨fun k => ?_, fun R C hC => ?_, fun R C hC => ?_⟩
  · exact real_of_cmpf _ _ _ _ (elo _ rfl) (ehi _ rfl) (Host.reduce_andi_all _ _ _ _ _ h1 (ix1 k))
  · obtain ⟨r, e⟩ := real_of_cmpf _ _ _ _ (elo _ rfl) (ehi _ rfl) (Host.reduce_andi_all _ _ _ _ _ h2 (ix2 R (⟨C, hC⟩ : Fin 1024)))
    refine ⟨r, Eq.trans ?_ e⟩
    symm
    pointwise []
  · obtain ⟨r, e⟩ := real_of_cmpf _ _ _ _ (elo _ rfl) (ehi _ rfl) (Host.reduce_andi_all _ _ _ _ _ h3 (ix2 R (⟨C, hC⟩ : Fin 256)))
    refine ⟨r, Eq.trans ?_ e⟩
    symm
    pointwise []

end Cert.SwaPre
-- ==== Proof.SwaBlock.lean ====
module

public import proofs.«01_k».proof.Proof.SwaHead
public import proofs.«01_k».proof.Proof.SwaRefAt
public import proofs.«01_k».proof.Proof.SwaPre

@[expose] public section

set_option maxRecDepth 16384

noncomputable section

/-! One head of one block: what the kernel computes from its staged blocks is the reference's attention at the block's rows. -/

namespace Cert.SwaIdeal.Value

open Idealize.ShloMosaic Idealize.ShloMosaic.TcCoe Idealize.SL.Sem
open Idealize.ShloMosaic.Pipeline (Dat)
open Cert.SwaIdeal Cert.SwaIdeal.Gen Cert.SwaMath
open Cert.SwaRefIdeal.Value (attention)

variable (m : (ℓ : Loc nD τ sig) → Buf (Elt Ideal) ℓ)

/-- Which block of its array each window stages at a point. -/
theorem idx_at : ∀ t : Fin cfg0.N, win0_0.index t = ![0] ∧ win0_1.index t = ![t.val, 0] ∧ win0_2.index t = ![t.val, 0]
    ∧ win0_3.index t = ![t.val / 64 * 64 + (t.val % 64 - 1), 0] ∧ win0_4.index t = ![t.val, 0] :=
  (by decide +kernel : ∀ t : Fin grid0.N, _)

/-- The sinks, at this program's buffer. -/
abbrev sinks (c : Dev nD) : FVec Ideal S16 .f32 := m ((c : Thread nD τ).loc main_arg0)
/-- The projection's rows, at this program's buffer. -/
abbrev proj (c : Dev nD) : FVec Ideal S32768x6784 .bf16 := m ((c : Thread nD τ).loc main_arg1)
/-- The keys' and the values' rows, at this program's buffer. -/
abbrev kv (c : Dev nD) : FVec Ideal S32768x512 .f32 := m ((c : Thread nD τ).loc main_arg2)

/-- The staged sinks are the sinks. -/
theorem sinks_at (c : Dev nD) (t : Fin cfg0.N) (h : Fin 16) : iblk m c 0 t (ix1 h) = sinks m c (ix1 h) := by
  blk_point [iblk, V, idx_at t]

/-- The block of queries. -/
theorem queries_at (c : Dev nD) (t : Fin cfg0.N) (r : Fin 128) (x : Fin 1024) (R : Fin 32768) (C : Fin 6784)
    (hR : (R : ℕ) = 128 * t.val + r) (hC : (C : ℕ) = x) : X0_1 m c t (ix2 r x) = proj m c (ix2 R C) := by
  unfold X0_1 Pipeline.Window.fill
  rw [dif_pos (moved0_1 t _)]
  blk_ext [iblk, V, idx_at t]

/-- The block's own keys and values. -/
theorem kv_at (c : Dev nD) (t : Fin cfg0.N) (r : Fin 128) (x : Fin 512) (R : Fin 32768) (hR : (R : ℕ) = 128 * t.val + r) :
    iblk m c 2 t (ix2 r x) = kv m c (ix2 R x) := by
  blk_point [iblk, V, idx_at t]

/-- The keys and the values of the block before, in a block that is not a sequence's first. -/
theorem kv_before_at (c : Dev nD) (t : Fin cfg0.N) (r : Fin 128) (x : Fin 512) (R : Fin 32768) (h0 : t.val % 64 ≠ 0)
    (hR : (R : ℕ) = 128 * (t.val - 1) + r) : iblk m c 3 t (ix2 r x) = kv m c (ix2 R x) := by
  blk_point [iblk, V, idx_at t]

/-- A key slot inside the sequence holds its row of the array. -/
theorem slot_at (c : Dev nD) (t : Fin cfg0.N) (s : Fin 256) (x : Fin 512) (R : Fin 32768) (h : 128 ≤ t.val % 64 * 128 + s)
    (hR : (R : ℕ) = 128 * t.val + s - 128) (a : EReal)
    (ha : a = if h : (s : ℕ) < 128 then iblk m c 3 t (ix2 ⟨s, h⟩ x) else iblk m c 2 t (ix2 ⟨s - 128, by omega⟩ x)) :
    a = kv m c (ix2 R x) := by
  subst ha
  split_ifs with hs
  · exact kv_before_at m c t _ x R (by omega) (by simp only []; omega)
  · exact kv_at m c t _ x R (by simp only []; omega)

/-- The key of an attended slot is one real number in both programs. -/
theorem key_real (c : Dev nD) (t : Fin cfg0.N) (s : Fin 256) (b : Fin 4) (n : Fin 64) (kh : Fin 4) (x : Fin 64) (y : Fin 256)
    (ht : t.val = b * 64 + n) (hs : 128 ≤ (n : ℕ) * 128 + s) (hy : (y : ℕ) = kh * 64 + x) (hf : SwaPre.Finite (sinks m c) (proj m c) (kv m c)) :
    ∃ e : ℝ, Cert.SwaRefIdeal.Value.keys (kv m c) (ix5 b n s kh x) = (e : EReal)
      ∧ k0_pay2 (F := Ideal) (iblk m c 2 t) (iblk m c 3 t) (ix2 s y) = (e : EReal) := by
  obtain ⟨R, hR⟩ : ∃ R : Fin 32768, (R : ℕ) = b * 8192 + n * 128 + s - 128 := ⟨⟨b * 8192 + n * 128 + s - 128, by omega⟩, rfl⟩
  obtain ⟨C, hC⟩ : ∃ C : Fin 512, (C : ℕ) = y := ⟨⟨y, by omega⟩, rfl⟩
  obtain ⟨e, he⟩ := hf.key R C (by omega)
  refine ⟨e, ?_, ?_⟩
  · rw [Cert.SwaRefIdeal.Value.keys_at (kv m c) b n s kh x R C hs hR (by omega), he]
  · rw [← he]
    refine slot_at m c t s C R (by omega) (by omega) _ ?_
    rw [keys_at, show (⟨y, by omega⟩ : Fin 512) = C from Fin.ext hC.symm]

/-- The value of an attended slot is the same in both programs. -/
theorem value_eq (c : Dev nD) (t : Fin cfg0.N) (s : Fin 256) (b : Fin 4) (n : Fin 64) (kh : Fin 4) (x : Fin 64) (y : Fin 256)
    (ht : t.val = b * 64 + n) (hs : 128 ≤ (n : ℕ) * 128 + s) (hy : (y : ℕ) = kh * 64 + x) :
    Cert.SwaRefIdeal.Value.values (kv m c) (ix5 b n s kh x) = k0_pay3 (F := Ideal) (iblk m c 2 t) (iblk m c 3 t) (ix2 s y) := by
  obtain ⟨R, hR⟩ : ∃ R : Fin 32768, (R : ℕ) = b * 8192 + n * 128 + s - 128 := ⟨⟨b * 8192 + n * 128 + s - 128, by omega⟩, rfl⟩
  obtain ⟨C, hC⟩ : ∃ C : Fin 512, (C : ℕ) = 256 + y := ⟨⟨256 + y, by omega⟩, rfl⟩
  rw [Cert.SwaRefIdeal.Value.values_at (kv m c) b n s kh x R C hs hR (by omega)]
  symm
  refine slot_at m c t s C R (by omega) (by omega) _ ?_
  rw [values_at, show (⟨256 + y, by omega⟩ : Fin 512) = C from Fin.ext hC.symm]

/-- A query is one real number in both programs. -/
theorem query_real (c : Dev nD) (t : Fin cfg0.N) (r : Fin 128) (b : Fin 4) (n : Fin 64) (kh g : Fin 4) (x : Fin 64) (y : Fin 1024)
    (ht : t.val = b * 64 + n) (hy : (y : ℕ) = kh * 256 + g * 64 + x) (hf : SwaPre.Finite (sinks m c) (proj m c) (kv m c)) :
    ∃ e : ℝ, Cert.SwaRefIdeal.Value.queries (proj m c) (ix6 b n r kh g x) = (e : EReal) ∧ X0_1 m c t (ix2 r y) = (e : EReal) := by
  obtain ⟨R, hR⟩ : ∃ R : Fin 32768, (R : ℕ) = b * 8192 + n * 128 + r := ⟨⟨b * 8192 + n * 128 + r, by omega⟩, rfl⟩
  obtain ⟨C, hC⟩ : ∃ C : Fin 6784, (C : ℕ) = y := ⟨⟨y, by omega⟩, rfl⟩
  obtain ⟨e, he⟩ := hf.query R C (by omega)
  refine ⟨e, ?_, ?_⟩
  · rw [Cert.SwaRefIdeal.Value.queries_at (proj m c) b n r kh g x R C hR (by omega), he]
  · rw [← he]
    exact queries_at m c t r y R C (by omega) hC

/-- The scores of an attended slot: a real number in the reference, its multiple by `log2 e` in the kernel. -/
theorem score_real (kr kk qr qk : Fin 64 → EReal) (hk : ∀ x, ∃ e : ℝ, kr x = (e : EReal) ∧ kk x = (e : EReal))
    (hq : ∀ x, ∃ e : ℝ, qr x = (e : EReal) ∧ qk x = (e : EReal)) (sl D : ℝ) :
    ∃ e : ℝ, (∑ x, kr x * qr x) * ((1 / 8 : ℝ) : EReal) - (sl : EReal) * (D : EReal) = (e : EReal)
      ∧ (∑ x, qk x * kk x) * ((1 / 8 * log2e : ℝ) : EReal) - ((sl * log2e : ℝ) : EReal) * (D : EReal) = ((log2e * e : ℝ) : EReal) := by
  choose k hk1 hk2 using hk
  choose q hq1 hq2 using hq
  simp only [hk1, hk2, hq1, hq2]
  rw [sum_mul_coe, sum_mul_coe]
  refine ⟨(∑ x, k x * q x) * (1 / 8) - sl * D, ?_, ?_⟩
  · rw [← EReal.coe_mul, ← EReal.coe_mul, ← EReal.coe_sub]
  · rw [← EReal.coe_mul, ← EReal.coe_mul, ← EReal.coe_sub, Finset.sum_congr rfl fun x _ => mul_comm (q x) (k x)]
    congr 1
    ring

/-- THE HEAD'S EQUATION: the kernel's output of head `h = 4 kh + g` at row `r` of block `t` is the reference's attention
    there. The hypotheses say what the head's operands are: two constants, its columns of the queries, of the keys, of the
    values, its sink. -/
theorem head_eq (c : Dev nD) (t : Fin cfg0.N) (r : Fin 128) (d : Fin 64) (h : Fin 16) (kh g : Fin 4) (R : Fin 32768) (C : Fin 1024)
    (hR : (R : ℕ) = 128 * t.val + r) (hC : (C : ℕ) = 64 * h + d) (hh : (h : ℕ) = kh * 4 + g) (hf : SwaPre.Finite (sinks m c) (proj m c) (kv m c))
    (cs cl sk : EReal) (q : FVec Ideal S128x64 .bf16) (k v : FVec Ideal S256x64 .bf16)
    (hcs : cs = ((1 / 8 * log2e : ℝ) : EReal)) (hcl : cl = ((SwaMath.slope h * log2e : ℝ) : EReal)) (hsk : sk = sinks m c (ix1 h) * ((log2e : ℝ) : EReal))
    (hq : ∀ (x : Fin 64) (y : Fin 1024), (y : ℕ) = 64 * h + x → q (ix2 r x) = X0_1 m c t (ix2 r y))
    (hk : ∀ (s : Fin 256) (x : Fin 64) (y : Fin 256), (y : ℕ) = 64 * kh + x → k (ix2 s x) = k0_pay2 (F := Ideal) (iblk m c 2 t) (iblk m c 3 t) (ix2 s y))
    (hv : ∀ (s : Fin 256) (y : Fin 256), (y : ℕ) = 64 * kh + d → v (ix2 s d) = k0_pay3 (F := Ideal) (iblk m c 2 t) (iblk m c 3 t) (ix2 s y)) :
    headOut (headScores cs cl q k (k0_pay5 (grid0.coords t)) (k0_pay6 (F := Ideal))) v sk (ix2 r d)
      = attention (sinks m c) (proj m c) (kv m c) (ix2 R C) := by
  have ht : t.val < 256 := lt_of_lt_of_eq t.isLt N_0
  obtain ⟨b, n, hp⟩ : ∃ (b : Fin 4) (n : Fin 64), t.val = b * 64 + n := ⟨⟨t.val / 64, by omega⟩, ⟨t.val % 64, by omega⟩, by simp only []; omega⟩
  have hn : t.val % 64 = n := by omega
  obtain ⟨z, hz⟩ := hf.sink h
  have hval := valid_at t r
  rw [hn] at hval
  rw [headOut_at, Cert.SwaRefIdeal.Value.attention_at (sinks m c) (proj m c) (kv m c) R C b n kh g r d (by omega) (by omega)]
  simp only [Cert.SwaRefIdeal.Value.weights_at, Cert.SwaRefIdeal.Value.denom_at (sinks m c) (proj m c) (kv m c) _ _ _ _ _ h hh,
    Cert.SwaRefIdeal.Value.rowMax_at (sinks m c) (proj m c) (kv m c) _ _ _ _ _ h hh, Cert.SwaRefIdeal.Value.scoreMax_at, Cert.SwaRefIdeal.Value.weightSum_at]
  rw [hsk, hz, ← EReal.coe_mul, mul_comm z]
  refine attention_eq (fun s => Cert.SwaRefIdeal.Value.scores (proj m c) (kv m c) (ix6 b n kh g r s))
    (fun s => headScores cs cl q k (k0_pay5 (grid0.coords t)) (k0_pay6 (F := Ideal)) (ix2 r s))
    (fun s => Cert.SwaRefIdeal.Value.values (kv m c) (ix5 b n s kh d))
    (fun s => v (ix2 s d)) z fun s => ?_
  rw [Cert.SwaRefIdeal.Value.scores_at, headScores_at]
  by_cases ha : Attended n r s
  · right
    rw [if_pos ha, if_pos ((hval s).2 ha)]
    have hs : 128 ≤ (n : ℕ) * 128 + s := by
      obtain ⟨-, -, h0⟩ := ha
      by_cases h1 : (n : ℕ) = 0
      · have := h0 h1; omega
      · omega
    refine ⟨?_, ?_⟩
    · rw [hcs, hcl, dist_at, ← hh]
      refine score_real _ (fun x => k (ix2 s x)) _ (fun x => q (ix2 r x)) (fun x => ?_) (fun x => ?_) _ _
      · rw [hk s x ⟨64 * kh + x, by omega⟩ rfl]
        exact key_real m c t s b n kh x _ hp hs (by simp only []; omega) hf
      · rw [hq x ⟨64 * h + x, by omega⟩ rfl]
        exact query_real m c t r b n kh g x _ hp (by simp only []; omega) hf
    · rw [hv s ⟨64 * kh + d, by omega⟩ rfl]
      exact value_eq m c t s b n kh d _ hp hs (by simp only []; omega)
  · left
    rw [if_neg ha, if_neg (fun e => ha ((hval s).1 e))]
    exact ⟨rfl, rfl⟩

end Cert.SwaIdeal.Value
-- ==== Proof.SwaClaim.lean ====
module

public import proofs.«01_k».proof.Proof.SwaBlock
public import proofs.«01_k».proof.Defs

@[expose] public section

set_option maxRecDepth 16384

noncomputable section

/-! The claim about the sliding window attention. -/

namespace Cert.SwaIdeal.Value

open Idealize.ShloMosaic Idealize.ShloMosaic.TcCoe Idealize.SL.Sem
open Idealize.ShloMosaic.Pipeline (Dat)
open Cert.SwaIdeal Cert.SwaIdeal.Gen Cert.SwaMath
open Cert.SwaRefIdeal.Value (attention)

variable (m : (ℓ : Loc nD τ sig) → Buf (Elt Ideal) ℓ)

/-- The constant `log2 e`. -/
theorem named_log2e : Named.named (F := Ideal) κ "log2e" (φ := .f32) 0x3FB8AA3B#32 = ((log2e : ℝ) : EReal) :=
  IdealRules.named_const.ideal_named_scalar κ _ _ _ rfl

/-- The constant `log2 e / 8`. -/
theorem named_scale : Named.named (F := Ideal) κ "scale_log2e" (φ := .f32) 0x3E38AA3B#32 = ((1 / 8 * log2e : ℝ) : EReal) :=
  IdealRules.named_const.ideal_named_scalar κ _ _ _ rfl

/-- What an even head's constant is worth. -/
theorem even_slope (k : ℕ) (a : ℝ) (ha : a = 1 / 2 ^ k) (e : EReal)
    (he : e = ((a * (Real.sqrt (1 / 2) * (Real.log 2)⁻¹) : ℝ) : EReal)) : e = ((SwaMath.slope (2 * k : ℕ) * log2e : ℝ) : EReal) := by
  rw [he, slope_even, ha, log2e, mul_assoc]

/-- What an odd head's constant is worth. -/
theorem odd_slope (k : ℕ) (a : ℝ) (ha : a = 1 / 2 ^ (k + 1)) (e : EReal)
    (he : e = ((a * (Real.log 2)⁻¹ : ℝ) : EReal)) : e = ((SwaMath.slope (2 * k + 1 : ℕ) * log2e : ℝ) : EReal) := by
  rw [he, slope_odd, ha, log2e]

set_option maxHeartbeats 2000000 in
/-- Block `t` of the result array holds rows `128 t` to `128 t + 127` of the reference's attention. -/
theorem block_eq (c : Dev nD) (hf : SwaPre.Finite (sinks m c) (proj m c) (kv m c)) (t : Fin cfg0.N) (y : S128x1024.Idx) (R : Fin 32768)
    (hR : (R : ℕ) = 128 * t.val + (y 0 : Fin 128)) :
    (dats m 0 c).after 4 t y = attention (sinks m c) (proj m c) (kv m c) (ix2 R (y 1)) := by
  rw [after0_4]
  unfold outsAt0
  frame_out
  canon_tiles x h
  all_goals obtain ⟨r, d, rfl⟩ : ∃ (r : Fin 128) (d : Fin 64), x = ix2 r d := ⟨x 0, x 1, eq_ix2 x⟩
  case piece0 =>
    refine head_eq m c t r d 15 3 3 R (y 1) (hR.trans (congrArg (128 * t.val + ·) h0)) h1 rfl hf _ _ _ _ _ _ named_scale
      (odd_slope 7 (1 / 256) (by norm_num) _ (IdealRules.named_const.ideal_named_scalar κ _ _ _ rfl))
      (Ideal.mul_congr (Eq.trans ?_ (sinks_at m c t 15)) named_log2e) (fun x y hy => ?_) (fun s x y hy => ?_) (fun s y hy => ?_)
    all_goals (pointwise [k0_pay7, k0_pay11, k0_pay19, k0_pay21, k0_pay24, k0_pay33, k0_pay36, k0_pay44, k0_pay47, k0_pay52]; blk_ext)
  case piece1 =>
    refine head_eq m c t r d 14 3 2 R (y 1) (hR.trans (congrArg (128 * t.val + ·) h0)) h1 rfl hf _ _ _ _ _ _ named_scale
      (even_slope 7 (1 / 128) (by norm_num) _ (IdealRules.named_const.ideal_named_scalar κ _ _ _ rfl))
      (Ideal.mul_congr (Eq.trans ?_ (sinks_at m c t 14)) named_log2e) (fun x y hy => ?_) (fun s x y hy => ?_) (fun s y hy => ?_)
    all_goals (pointwise [k0_pay7, k0_pay11, k0_pay19, k0_pay21, k0_pay24, k0_pay33, k0_pay36, k0_pay44, k0_pay47, k0_pay52]; blk_ext)
  case piece2 =>
    refine head_eq m c t r d 13 3 1 R (y 1) (hR.trans (congrArg (128 * t.val + ·) h0)) h1 rfl hf _ _ _ _ _ _ named_scale
      (odd_slope 6 (1 / 128) (by norm_num) _ (IdealRules.named_const.ideal_named_scalar κ _ _ _ rfl))
      (Ideal.mul_congr (Eq.trans ?_ (sinks_at m c t 13)) named_log2e) (fun x y hy => ?_) (fun s x y hy => ?_) (fun s y hy => ?_)
    all_goals (pointwise [k0_pay7, k0_pay11, k0_pay19, k0_pay21, k0_pay24, k0_pay33, k0_pay36, k0_pay44, k0_pay47, k0_pay52]; blk_ext)
  case piece3 =>
    refine head_eq m c t r d 12 3 0 R (y 1) (hR.trans (congrArg (128 * t.val + ·) h0)) h1 rfl hf _ _ _ _ _ _ named_scale
      (even_slope 6 (1 / 64) (by norm_num) _ (IdealRules.named_const.ideal_named_scalar κ _ _ _ rfl))
      (Ideal.mul_congr (Eq.trans ?_ (sinks_at m c t 12)) named_log2e) (fun x y hy => ?_) (fun s x y hy => ?_) (fun s y hy => ?_)
    all_goals (pointwise [k0_pay7, k0_pay11, k0_pay19, k0_pay21, k0_pay24, k0_pay33, k0_pay36, k0_pay44, k0_pay47, k0_pay52]; blk_ext)
  case piece4 =>
    refine head_eq m c t r d 11 2 3 R (y 1) (hR.trans (congrArg (128 * t.val + ·) h0)) h1 rfl hf _ _ _ _ _ _ named_scale
      (odd_slope 5 (1 / 64) (by norm_num) _ (IdealRules.named_const.ideal_named_scalar κ _ _ _ rfl))
      (Ideal.mul_congr (Eq.trans ?_ (sinks_at m c t 11)) named_log2e) (fun x y hy => ?_) (fun s x y hy => ?_) (fun s y hy => ?_)
    all_goals (pointwise [k0_pay7, k0_pay11, k0_pay19, k0_pay21, k0_pay24, k0_pay33, k0_pay36, k0_pay44, k0_pay47, k0_pay52]; blk_ext)
  case piece5 =>
    refine head_eq m c t r d 10 2 2 R (y 1) (hR.trans (congrArg (128 * t.val + ·) h0)) h1 rfl hf _ _ _ _ _ _ named_scale
      (even_slope 5 (1 / 32) (by norm_num) _ (IdealRules.named_const.ideal_named_scalar κ _ _ _ rfl))
      (Ideal.mul_congr (Eq.trans ?_ (sinks_at m c t 10)) named_log2e) (fun x y hy => ?_) (fun s x y hy => ?_) (fun s y hy => ?_)
    all_goals (pointwise [k0_pay7, k0_pay11, k0_pay19, k0_pay21, k0_pay24, k0_pay33, k0_pay36, k0_pay44, k0_pay47, k0_pay52]; blk_ext)
  case piece6 =>
    refine head_eq m c t r d 9 2 1 R (y 1) (hR.trans (congrArg (128 * t.val + ·) h0)) h1 rfl hf _ _ _ _ _ _ named_scale
      (odd_slope 4 (1 / 32) (by norm_num) _ (IdealRules.named_const.ideal_named_scalar κ _ _ _ rfl))
      (Ideal.mul_congr (Eq.trans ?_ (sinks_at m c t 9)) named_log2e) (fun x y hy => ?_) (fun s x y hy => ?_) (fun s y hy => ?_)
    all_goals (pointwise [k0_pay7, k0_pay11, k0_pay19, k0_pay21, k0_pay24, k0_pay33, k0_pay36, k0_pay44, k0_pay47, k0_pay52]; blk_ext)
  case piece7 =>
    refine head_eq m c t r d 8 2 0 R (y 1) (hR.trans (congrArg (128 * t.val + ·) h0)) h1 rfl hf _ _ _ _ _ _ named_scale
      (even_slope 4 (1 / 16) (by norm_num) _ (IdealRules.named_const.ideal_named_scalar κ _ _ _ rfl))
      (Ideal.mul_congr (Eq.trans ?_ (sinks_at m c t 8)) named_log2e) (fun x y hy => ?_) (fun s x y hy => ?_) (fun s y hy => ?_)
    all_goals (pointwise [k0_pay7, k0_pay11, k0_pay19, k0_pay21, k0_pay24, k0_pay33, k0_pay36, k0_pay44, k0_pay47, k0_pay52]; blk_ext)
  case piece8 =>
    refine head_eq m c t r d 7 1 3 R (y 1) (hR.trans (congrArg (128 * t.val + ·) h0)) h1 rfl hf _ _ _ _ _ _ named_scale
      (odd_slope 3 (1 / 16) (by norm_num) _ (IdealRules.named_const.ideal_named_scalar κ _ _ _ rfl))
      (Ideal.mul_congr (Eq.trans ?_ (sinks_at m c t 7)) named_log2e) (fun x y hy => ?_) (fun s x y hy => ?_) (fun s y hy => ?_)
    all_goals (pointwise [k0_pay7, k0_pay11, k0_pay19, k0_pay21, k0_pay24, k0_pay33, k0_pay36, k0_pay44, k0_pay47, k0_pay52]; blk_ext)
  case piece9 =>
    refine head_eq m c t r d 6 1 2 R (y 1) (hR.trans (congrArg (128 * t.val + ·) h0)) h1 rfl hf _ _ _ _ _ _ named_scale
      (even_slope 3 (1 / 8) (by norm_num) _ (IdealRules.named_const.ideal_named_scalar κ _ _ _ rfl))
      (Ideal.mul_congr (Eq.trans ?_ (sinks_at m c t 6)) named_log2e) (fun x y hy => ?_) (fun s x y hy => ?_) (fun s y hy => ?_)
    all_goals (pointwise [k0_pay7, k0_pay11, k0_pay19, k0_pay21, k0_pay24, k0_pay33, k0_pay36, k0_pay44, k0_pay47, k0_pay52]; blk_ext)
  case piece10 =>
    refine head_eq m c t r d 5 1 1 R (y 1) (hR.trans (congrArg (128 * t.val + ·) h0)) h1 rfl hf _ _ _ _ _ _ named_scale
      (odd_slope 2 (1 / 8) (by norm_num) _ (IdealRules.named_const.ideal_named_scalar κ _ _ _ rfl))
      (Ideal.mul_congr (Eq.trans ?_ (sinks_at m c t 5)) named_log2e) (fun x y hy => ?_) (fun s x y hy => ?_) (fun s y hy => ?_)
    all_goals (pointwise [k0_pay7, k0_pay11, k0_pay19, k0_pay21, k0_pay24, k0_pay33, k0_pay36, k0_pay44, k0_pay47, k0_pay52]; blk_ext)
  case piece11 =>
    refine head_eq m c t r d 4 1 0 R (y 1) (hR.trans (congrArg (128 * t.val + ·) h0)) h1 rfl hf _ _ _ _ _ _ named_scale
      (even_slope 2 (1 / 4) (by norm_num) _ (IdealRules.named_const.ideal_named_scalar κ _ _ _ rfl))
      (Ideal.mul_congr (Eq.trans ?_ (sinks_at m c t 4)) named_log2e) (fun x y hy => ?_) (fun s x y hy => ?_) (fun s y hy => ?_)
    all_goals (pointwise [k0_pay7, k0_pay11, k0_pay19, k0_pay21, k0_pay24, k0_pay33, k0_pay36, k0_pay44, k0_pay47, k0_pay52]; blk_ext)
  case piece12 =>
    refine head_eq m c t r d 3 0 3 R (y 1) (hR.trans (congrArg (128 * t.val + ·) h0)) h1 rfl hf _ _ _ _ _ _ named_scale
      (odd_slope 1 (1 / 4) (by norm_num) _ (IdealRules.named_const.ideal_named_scalar κ _ _ _ rfl))
      (Ideal.mul_congr (Eq.trans ?_ (sinks_at m c t 3)) named_log2e) (fun x y hy => ?_) (fun s x y hy => ?_) (fun s y hy => ?_)
    all_goals (pointwise [k0_pay7, k0_pay11, k0_pay19, k0_pay21, k0_pay24, k0_pay33, k0_pay36, k0_pay44, k0_pay47, k0_pay52]; blk_ext)
  case piece13 =>
    refine head_eq m c t r d 2 0 2 R (y 1) (hR.trans (congrArg (128 * t.val + ·) h0)) h1 rfl hf _ _ _ _ _ _ named_scale
      (even_slope 1 (1 / 2) (by norm_num) _ (IdealRules.named_const.ideal_named_scalar κ _ _ _ rfl))
      (Ideal.mul_congr (Eq.trans ?_ (sinks_at m c t 2)) named_log2e) (fun x y hy => ?_) (fun s x y hy => ?_) (fun s y hy => ?_)
    all_goals (pointwise [k0_pay7, k0_pay11, k0_pay19, k0_pay21, k0_pay24, k0_pay33, k0_pay36, k0_pay44, k0_pay47, k0_pay52]; blk_ext)
  case piece14 =>
    refine head_eq m c t r d 1 0 1 R (y 1) (hR.trans (congrArg (128 * t.val + ·) h0)) h1 rfl hf _ _ _ _ _ _ named_scale
      (odd_slope 0 (1 / 2) (by norm_num) _ (IdealRules.named_const.ideal_named_scalar κ _ _ _ rfl))
      (Ideal.mul_congr (Eq.trans ?_ (sinks_at m c t 1)) named_log2e) (fun x y hy => ?_) (fun s x y hy => ?_) (fun s y hy => ?_)
    all_goals (pointwise [k0_pay7, k0_pay11, k0_pay19, k0_pay21, k0_pay24, k0_pay33, k0_pay36, k0_pay44, k0_pay47, k0_pay52]; blk_ext)
  case piece15 =>
    refine head_eq m c t r d 0 0 0 R (y 1) (hR.trans (congrArg (128 * t.val + ·) h0)) (h1.trans (Nat.zero_add _).symm) rfl hf _ _ _ _ _ _ named_scale
      (even_slope 0 1 (by norm_num) _ (IdealRules.named_const.ideal_named_scalar κ _ _ _ rfl))
      (Ideal.mul_congr (Eq.trans ?_ (sinks_at m c t 0)) named_log2e) (fun x y hy => ?_) (fun s x y hy => ?_) (fun s y hy => ?_)
    all_goals (pointwise [k0_pay7, k0_pay11, k0_pay19, k0_pay21, k0_pay24, k0_pay33, k0_pay36, k0_pay44, k0_pay47, k0_pay52]; blk_ext)

/-- The result array is the reference's attention. -/
theorem final4 (c : Dev nD) (hf : SwaPre.Finite (sinks m c) (proj m c) (kv m c)) :
    (dats m 0 c).arrAt 4 (cfgs 0).N = attention (sinks m c) (proj m c) (kv m c) := by
  refine (dats m 0 c).arrAt_eq_of_covers 4 _ (by decide +kernel) fun t _ y => ?_
  have ht : t.val < 256 := lt_of_lt_of_eq t.isLt N_0
  blk_simp
  obtain ⟨r, d, rfl⟩ : ∃ (r : Fin 128) (d : Fin 1024), y = ix2 r d := ⟨y 0, y 1, eq_ix2 y⟩
  have he : (((View.whole main_v0).slice (win0_4.rect t)).emb (ix2 r d)) = ix2 ⟨128 * t.val + r.val, by omega⟩ d := by
    blk_ext [idx_at t]
  rw [he]
  exact block_eq m c hf t (ix2 r d) _ rfl

end Cert.SwaIdeal.Value

namespace Cert.Proof

open Idealize.ShloMosaic Idealize.SL.Sem

/-- At the real numbers the kernel's result is the reference's, where the sinks, the queries and the keys are finite. -/
theorem algebraic_Swa : Cert.algebraic_SwaIdeal_SwaRefIdeal_pre_finite_scores := by
  pair_intro
  · run_from Cert.SwaIdeal.Gen.run_main m g
  · run_from Cert.SwaRefIdeal.Value.run_terms m' g'
    · exact (Cert.SwaIdeal.Value.final4 m c (Cert.SwaPre.finite_of_pre _ _ _ fun j => congrFun (hpre c) j)).symm

end Cert.Proof
-- ==== Proof.InprojRef.lean ====
module

public import proofs.«01_k».proof.Proof.Gen.InprojRefIdeal.Run
public import Idealize.ShloMosaic.Lib.Pointwise

@[expose] public section

set_option maxRecDepth 16384

noncomputable section

/-! The first norm and the input projection as the reference computes them, each result a term over the argument
    arrays. -/

namespace Cert.InprojRefIdeal.Value

open Idealize.ShloMosaic Idealize.ShloMosaic.TcCoe Idealize.SL.Sem
open Cert.InprojRefIdeal Cert.InprojRefIdeal.Gen

/-- The rows of `x` divided by their root mean square and scaled by `g`. -/
def normed (x : FVec Ideal S4x8192x1024 .f32) (g : FVec Ideal S1x1024 .f32) : FVec Ideal S4x8192x1024 .f32 :=
  mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ g shapeCasts_S1x1024_S1024)))

/-- The projection of the normed rows, one row per token: `normed x g @ w`. -/
def projected (x : FVec Ideal S4x8192x1024 .f32) (g : FVec Ideal S1x1024 .f32) (w : FVec Ideal S1x1024x6672 .f32) :
    FVec Ideal S32768x6672 .f32 :=
  shapeCast _ (Host.dotGeneral dot_S4x8192x1024_S1024x6672_S4x8192x6672_2_0_01_1_n_n none (normed x g) (shapeCast _ w shapeCasts_S1x1024x6672_S1024x6672)) shapeCasts_S4x8192x6672_S32768x6672

/-- The projection's columns in the order the later calls read them, 112 zero columns at the end, in the storage
    format. -/
def packed (p : FVec Ideal S32768x6672 .f32) : FVec Ideal S32768x6784 .bf16 :=
  truncf .bf16 ((concatenate S32768x6784 1 [⟨S32768x1024, (extractStridedSlice S32768x1024 ![0, 0] p slices_S32768x6672_S32768x1024_0_0)⟩, ⟨S32768x1024, (extractStridedSlice S32768x1024 ![0, 2560] p slices_S32768x6672_S32768x1024_0_2560)⟩, ⟨S32768x1024, (extractStridedSlice S32768x1024 ![0, 3584] p slices_S32768x6672_S32768x1024_0_3584)⟩, ⟨S32768x1024, (extractStridedSlice S32768x1024 ![0, 4624] p slices_S32768x6672_S32768x1024_0_4624)⟩, ⟨S32768x1024, (extractStridedSlice S32768x1024 ![0, 5648] p slices_S32768x6672_S32768x1024_0_5648)⟩, ⟨S32768x512, (extractStridedSlice S32768x512 ![0, 1536] p slices_S32768x6672_S32768x512_0_1536)⟩, ⟨S32768x512, (extractStridedSlice S32768x512 ![0, 2048] p slices_S32768x6672_S32768x512_0_2048)⟩, ⟨S32768x256, (extractStridedSlice S32768x256 ![0, 1024] p slices_S32768x6672_S32768x256_0_1024)⟩, ⟨S32768x256, (extractStridedSlice S32768x256 ![0, 1280] p slices_S32768x6672_S32768x256_0_1280)⟩, ⟨S32768x128, (pad S32768x128 ![0, 0] ![0, 112] ![0, 0] (extractStridedSlice S32768x16 ![0, 4608] p slices_S32768x6672_S32768x16_0_4608) (sitofp .f32 (constantI S_ 32 0#32)) pads_S32768x16_S32768x128_000_01120 h_S_)⟩] concatenates_S32768x1024_S32768x1024_S32768x1024_S32768x1024_S32768x1024_S32768x512_S32768x512_S32768x256_S32768x256_S32768x128_S32768x6784_d1)) bitsLt_bf16_f32

/-- The local attention's keys and values side by side. -/
def keysValues (p : FVec Ideal S32768x6672 .f32) : FVec Ideal S32768x512 .f32 :=
  concatenate S32768x512 1 [⟨S32768x256, (extractStridedSlice S32768x256 ![0, 1024] p slices_S32768x6672_S32768x256_0_1024)⟩, ⟨S32768x256, (extractStridedSlice S32768x256 ![0, 1280] p slices_S32768x6672_S32768x256_0_1280)⟩] concatenates_S32768x256_S32768x256_S32768x512_d1

/-- The keys of the last 128 tokens of each sequence. -/
def keyWindow (p : FVec Ideal S32768x6672 .f32) : FVec Ideal S1x4x128x4x64 .f32 :=
  broadcastInDim S1x4x128x4x64 ![1, 2, 3, 4] bcast_S4x128x4x64_S1x4x128x4x64_1_2_3_4 (extractStridedSlice S4x128x4x64 ![0, 8064, 0, 0] (shapeCast _ (extractStridedSlice S32768x256 ![0, 1024] p slices_S32768x6672_S32768x256_0_1024) shapeCasts_S32768x256_S4x8192x4x64) slices_S4x8192x4x64_S4x128x4x64_0_8064_0_0)

/-- The values of the last 128 tokens of each sequence. -/
def valueWindow (p : FVec Ideal S32768x6672 .f32) : FVec Ideal S1x4x128x4x64 .f32 :=
  broadcastInDim S1x4x128x4x64 ![1, 2, 3, 4] bcast_S4x128x4x64_S1x4x128x4x64_1_2_3_4 (extractStridedSlice S4x128x4x64 ![0, 8064, 0, 0] (shapeCast _ (extractStridedSlice S32768x256 ![0, 1280] p slices_S32768x6672_S32768x256_0_1280) shapeCasts_S32768x256_S4x8192x4x64) slices_S4x8192x4x64_S4x128x4x64_0_8064_0_0)

section Run
variable (m : (ℓ : Loc nD τ sig) → Buf (Elt Ideal) ℓ) (ρ : Dev nD → PrngReg)

/-- The reference ends with the four results at these terms and its arguments unchanged. -/
theorem run_terms : θ_run defs (onTc (τ := τ) (main (F := Ideal))) ⟨m, fun _ => 0, ρ⟩ fun r => ∀ c : Dev nD,
      r.2.mem ((c.tc : Thread nD τ).loc main_v31) = packed (projected (m ((c.tc : Thread nD τ).loc main_arg0)) (m ((c.tc : Thread nD τ).loc main_arg1)) (m ((c.tc : Thread nD τ).loc main_arg2)))
      ∧ r.2.mem ((c.tc : Thread nD τ).loc main_v32) = keysValues (projected (m ((c.tc : Thread nD τ).loc main_arg0)) (m ((c.tc : Thread nD τ).loc main_arg1)) (m ((c.tc : Thread nD τ).loc main_arg2)))
      ∧ r.2.mem ((c.tc : Thread nD τ).loc main_v34) = keyWindow (projected (m ((c.tc : Thread nD τ).loc main_arg0)) (m ((c.tc : Thread nD τ).loc main_arg1)) (m ((c.tc : Thread nD τ).loc main_arg2)))
      ∧ r.2.mem ((c.tc : Thread nD τ).loc main_v36) = valueWindow (projected (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

end Run

/-- One entry of the projection: token `8192 b + n`'s normed row times a column of the weights. -/
theorem projected_at (x : FVec Ideal S4x8192x1024 .f32) (g : FVec Ideal S1x1024 .f32) (w : FVec Ideal S1x1024x6672 .f32)
    (b : Fin 4) (n : Fin 8192) (R : Fin 32768) (hR : (R : ℕ) = 8192 * b + n) (j : Fin 6672) :
    projected x g w (ix2 R j) = ∑ k : Fin 1024, normed x g (ix3 b n k) * w (ix3 0 k j) := by
  have hb : (R : ℕ) / 8192 = b := by omega
  have hn : (R : ℕ) % 8192 = n := by omega
  unfold projected
  generalize normed x g = h
  pointwise []
  exact Finset.sum_congr rfl fun k _ => congrArg (fun i => h i * _) (by rw [Fin.ext (a := ⟨(R : ℕ) / 8192, _⟩) (b := b) hb, Fin.ext (a := ⟨(R : ℕ) % 8192, _⟩) (b := n) hn])

end Cert.InprojRefIdeal.Value
-- ==== Proof.InprojWeights.lean ====
module

public import proofs.«01_k».proof.Proof.Gen.InprojIdeal.Frame
public import proofs.«01_k».proof.Proof.InprojRef
public import Idealize.ShloMosaic.Lib.Pipeline.ValueKit

@[expose] public section

set_option maxRecDepth 16384

noncomputable section

/-! The weights the kernel multiplies by: the columns of the layer's weights in the order of the packed projection,
    112 zero columns at the end. The packed projection is the normed rows times these weights. -/

namespace Cert.InprojIdeal.Value

open Idealize.ShloMosaic Idealize.ShloMosaic.TcCoe Idealize.SL.Sem
open Idealize.ShloMosaic.Pipeline (Dat)
open Cert.InprojIdeal Cert.InprojIdeal.Gen
open Cert.InprojRefIdeal.Value (normed projected packed keysValues keyWindow valueWindow projected_at)

/-- The columns of a two-axis weight array in the packed order. -/
def reordered (v : FVec Ideal S1024x6672 .f32) : FVec Ideal S1024x6784 .f32 :=
  concatenate S1024x6784 1 [⟨S1024x1024, (extractStridedSlice S1024x1024 ![0, 0] v slices_S1024x6672_S1024x1024_0_0)⟩, ⟨S1024x1024, (extractStridedSlice S1024x1024 ![0, 2560] v slices_S1024x6672_S1024x1024_0_2560)⟩, ⟨S1024x1024, (extractStridedSlice S1024x1024 ![0, 3584] v slices_S1024x6672_S1024x1024_0_3584)⟩, ⟨S1024x1024, (extractStridedSlice S1024x1024 ![0, 4624] v slices_S1024x6672_S1024x1024_0_4624)⟩, ⟨S1024x1024, (extractStridedSlice S1024x1024 ![0, 5648] v slices_S1024x6672_S1024x1024_0_5648)⟩, ⟨S1024x512, (extractStridedSlice S1024x512 ![0, 1536] v slices_S1024x6672_S1024x512_0_1536)⟩, ⟨S1024x512, (extractStridedSlice S1024x512 ![0, 2048] v slices_S1024x6672_S1024x512_0_2048)⟩, ⟨S1024x256, (extractStridedSlice S1024x256 ![0, 1024] v slices_S1024x6672_S1024x256_0_1024)⟩, ⟨S1024x256, (extractStridedSlice S1024x256 ![0, 1280] v slices_S1024x6672_S1024x256_0_1280)⟩, ⟨S1024x128, (pad S1024x128 ![0, 0] ![0, 112] ![0, 0] (extractStridedSlice S1024x16 ![0, 4608] v slices_S1024x6672_S1024x16_0_4608) (sitofp .f32 (constantI S_ 32 0#32)) pads_S1024x16_S1024x128_000_01120 h_S_)⟩] concatenates_S1024x1024_S1024x1024_S1024x1024_S1024x1024_S1024x1024_S1024x512_S1024x512_S1024x256_S1024x256_S1024x128_S1024x6784_d1

/-- The packed weights in the storage format. -/
def packedWeights (w : FVec Ideal S1x1024x6672 .f32) : FVec Ideal S1024x6784 .bf16 :=
  truncf .bf16 (reordered (shapeCast _ w shapeCasts_S1x1024x6672_S1024x6672)) bitsLt_bf16_f32

/-- A choice between two sums with common first factors is the sum with the choice made in each term. -/
theorem sum_dite {P : Prop} [Decidable P] (u : Fin 1024 → EReal) {a : P → EReal} {b : ¬P → EReal} {f : P → Fin 1024 → EReal}
    {e : ¬P → Fin 1024 → EReal} (hf : ∀ p, a p = ∑ x, u x * f p x) (he : ∀ p, b p = ∑ x, u x * e p x) :
    dite P a b = ∑ x, u x * dite P (fun p => f p x) (fun p => e p x) := by
  by_cases p : P
  · simp only [dif_pos p]; exact hf p
  · simp only [dif_neg p]; exact he p

/-- The packed projection is the normed rows times the packed weights. -/
theorem packed_at (x : FVec Ideal S4x8192x1024 .f32) (g : FVec Ideal S1x1024 .f32) (w : FVec Ideal S1x1024x6672 .f32)
    (b : Fin 4) (n : Fin 8192) (R : Fin 32768) (hR : (R : ℕ) = 8192 * b + n) (j : Fin 6784) :
    packed (projected x g w) (ix2 R j) = ∑ k : Fin 1024, normed x g (ix3 b n k) * packedWeights w (ix2 k j) := by
  have hp := projected_at x g w b n R hR
  generalize projected x g w = p at *
  generalize normed x g = h at *
  pointwise [packed, packedWeights, reordered]
  iterate 10 refine sum_dite _ (fun _ => hp _) fun _ => ?_
  have hz : FloatOps.sitofp (F := Ideal) FTy.f32 (0#32) = (0 : EReal) := by
    show (((0#32 : BitVec 32).toInt : ℝ) : EReal) = 0
    simp
  simp only [hz]
  exact (Finset.sum_eq_zero fun k _ => mul_zero (M₀ := EReal) _).symm

/-- The keys and values are columns 6144 to 6655 of the packed projection. -/
theorem keysValues_at (p : FVec Ideal Cert.InprojRefIdeal.S32768x6672 .f32) (R : Fin 32768) (d : Fin 512) (j : Fin 6784) (hj : (j : ℕ) = 6144 + d) :
    keysValues p (ix2 R d) = packed p (ix2 R j) := by
  pointwise [keysValues, packed]
  symm
  iterate 7 refine (dif_neg (by omega)).trans ?_
  by_cases h : (d : ℕ) < 256
  · refine (dif_pos (by omega)).trans (Eq.trans ?_ (dif_pos h).symm)
    exact congrArg (fun i => p (ix2 R i)) (Fin.ext (by simp only []; omega))
  · refine (dif_neg (by omega)).trans ((dif_pos (by omega)).trans (Eq.trans ?_ (dif_neg h).symm))
    exact congrArg (fun i => p (ix2 R i)) (Fin.ext (by simp only []; omega))

/-- Row `8192 b + n` of the flattened input is token `n` of sequence `b`. -/
theorem flat_at (x : FVec Ideal S4x8192x1024 .f32) (R : Fin 32768) (b : Fin 4) (n : Fin 8192) (k : Fin 1024) (hR : (R : ℕ) = 8192 * b + n) :
    shapeCast S32768x1024 x shapeCasts_S4x8192x1024_S32768x1024 (ix2 R k) = x (ix3 b n k) := by
  have hb : (R : ℕ) / 8192 = b := by omega
  have hn : (R : ℕ) % 8192 = n := by omega
  pointwise []
  exact congrArg x (by rw [Fin.ext (a := ⟨(R : ℕ) / 8192, _⟩) (b := b) hb, Fin.ext (a := ⟨(R : ℕ) % 8192, _⟩) (b := n) hn])

/-- The scale row, flattened and given its leading axis again, is itself. -/
theorem scale_at (g : FVec Ideal S1x1024 .f32) (k : Fin 1024) :
    shapeCast S1x1024 (shapeCast S1024 g shapeCasts_S1x1024_S1024) shapeCasts_S1024_S1x1024 (ix2 0 k) = g (ix2 0 k) := by
  pointwise []

variable (m : (ℓ : Loc nD τ sig) → Buf (Elt Ideal) ℓ)

/-- The kernel's weight array at entry is the packed weights. -/
theorem V_weights (c : Dev nD) : V m c main_v13 = packedWeights (m ((c : Thread nD τ).loc main_arg2)) := by
  entry_read
  rfl

/-- The kernel's rows at entry are the input's rows. -/
theorem V_rows (c : Dev nD) : V m c main_v14 = shapeCast _ (m ((c : Thread nD τ).loc main_arg0)) shapeCasts_S4x8192x1024_S32768x1024 := by
  entry_read
  rfl

/-- The kernel's scale row at entry. -/
theorem V_scale (c : Dev nD) : V m c main_v16 = shapeCast _ (shapeCast _ (m ((c : Thread nD τ).loc main_arg1)) shapeCasts_S1x1024_S1024) shapeCasts_S1024_S1x1024 := by
  entry_read
  rfl

end Cert.InprojIdeal.Value
-- ==== Proof.InprojBlock.lean ====
module

public import proofs.«01_k».proof.Proof.InprojWeights

@[expose] public section

set_option maxRecDepth 16384

noncomputable section

/-! What the pipelined kernel leaves in its two result arrays: block `t` holds rows `512 t` to `512 t + 511` of the
    reference's packed projection and of its keys and values, and the 64 blocks tile the arrays. -/

namespace Cert.InprojIdeal.Value

open Idealize.ShloMosaic Idealize.ShloMosaic.TcCoe Idealize.SL.Sem
open Idealize.ShloMosaic.Pipeline (Dat)
open Cert.InprojIdeal Cert.InprojIdeal.Gen
open Cert.InprojRefIdeal.Value (normed projected packed keysValues keyWindow valueWindow projected_at)

variable (m : (ℓ : Loc nD τ sig) → Buf (Elt Ideal) ℓ)

/-- Which block of its array each window stages at a point. -/
theorem idx_at : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- The normed rows over this program's argument arrays. -/
abbrev nrm (c : Dev nD) : FVec Ideal S4x8192x1024 .f32 :=
  normed (m ((c : Thread nD τ).loc main_arg0)) (m ((c : Thread nD τ).loc main_arg1))

/-- The projection over this program's argument arrays. -/
abbrev prj (c : Dev nD) : FVec Ideal Cert.InprojRefIdeal.S32768x6672 .f32 :=
  projected (m ((c : Thread nD τ).loc main_arg0)) (m ((c : Thread nD τ).loc main_arg1)) (m ((c : Thread nD τ).loc main_arg2))

/-- The normed rows the body computes from the input blocks of point `t`. -/
abbrev nrmBlk (c : Dev nD) (t : Fin cfg0.N) : FVec Ideal S512x1024 .bf16 :=
  k0_pay1 (F := Ideal) (iblk m c 0 t) (iblk m c 1 t)

/-- The rows of block `t` of the input. -/
theorem x_at (c : Dev nD) (t : Fin cfg0.N) (r : Fin 512) (k : Fin 1024) (b : Fin 4) (n : Fin 8192) (hR : 512 * t.val + r = 8192 * b + n) :
    iblk m c 0 t (ix2 r k) = m ((c : Thread nD τ).loc main_arg0) (ix3 b n k) := by
  have h : iblk m c 0 t (ix2 r k) = V m c main_v14 (ix2 ⟨8192 * b + n, by omega⟩ k) := by
    blk_point [iblk, idx_at t]
  rw [h, V_rows]
  exact flat_at _ _ b n k rfl

/-- The scale row. -/
theorem g_at (c : Dev nD) (t : Fin cfg0.N) (k : Fin 1024) :
    iblk m c 1 t (ix2 0 k) = m ((c : Thread nD τ).loc main_arg1) (ix2 0 k) := by
  have h : iblk m c 1 t (ix2 0 k) = V m c main_v16 (ix2 0 k) := by
    blk_point [iblk, idx_at t]
  rw [h, V_scale]
  exact scale_at _ k

/-- The weights are whole at every point. -/
theorem w_at (c : Dev nD) (t : Fin cfg0.N) (k : Fin 1024) (j : Fin 6784) :
    iblk m c 2 t (ix2 k j) = packedWeights (m ((c : Thread nD τ).loc main_arg2)) (ix2 k j) := by
  have h : iblk m c 2 t (ix2 k j) = V m c main_v13 (ix2 k j) := by
    blk_point [iblk, idx_at t]
  rw [h, V_weights]

/-- A row of the block of normed rows is the token's normed row. -/
theorem nrm_at (c : Dev nD) (t : Fin cfg0.N) (r : Fin 512) (k : Fin 1024) (b : Fin 4) (n : Fin 8192) (hR : 512 * t.val + r = 8192 * b + n) :
    nrmBlk m c t (ix2 r k) = nrm m c (ix3 b n k) := by
  have hx := fun k => x_at m c t r k b n hR
  have hg := g_at m c t
  pointwise [nrmBlk, nrm, k0_pay1, normed]
  simp only [hx, hg, zero_add]

/-- The normed rows of block `t` times columns of the weights are the packed projection there. -/
theorem dot_eq (c : Dev nD) (t : Fin cfg0.N) (r : Fin 512) (R : Fin 32768) (j : Fin 6784) (hR : (R : ℕ) = 512 * t.val + r)
    (v : Fin 1024 → EReal) (hv : ∀ k, v k = iblk m c 2 t (ix2 k j)) :
    ∑ k : Fin 1024, nrmBlk m c t (ix2 r k) * v k = packed (prj m c) (ix2 R j) := by
  obtain ⟨b, n, hb⟩ : ∃ (b : Fin 4) (n : Fin 8192), (R : ℕ) = 8192 * b + n := ⟨⟨R / 8192, by omega⟩, ⟨R % 8192, by omega⟩, by simp only []; omega⟩
  rw [packed_at _ _ _ b n R hb j]
  exact Finset.sum_congr rfl fun k _ => Ideal.mul_congr (nrm_at m c t r k b n (by omega)) ((hv k).trans (w_at m c t k j))

/-- One tile of 512 columns of the packed projection. -/
theorem tile_eq (c : Dev nD) (t : Fin cfg0.N) (r d : Fin 512) (R : Fin 32768) (j : Fin 6784) (hR : (R : ℕ) = 512 * t.val + r)
    (w : FVec Ideal S1024x512 .bf16) (hw : ∀ k, w (ix2 k d) = iblk m c 2 t (ix2 k j)) :
    k0_pay5 (nrmBlk m c t) w (ix2 r d) = packed (prj m c) (ix2 R j) := by
  rw [← dot_eq m c t r R j hR (fun k => w (ix2 k d)) hw]
  generalize nrmBlk m c t = h
  pointwise [k0_pay5]

/-- The last tile, 128 columns of the packed projection. -/
theorem tail_eq (c : Dev nD) (t : Fin cfg0.N) (r : Fin 512) (d : Fin 128) (R : Fin 32768) (j : Fin 6784) (hR : (R : ℕ) = 512 * t.val + r)
    (w : FVec Ideal S1024x128 .bf16) (hw : ∀ k, w (ix2 k d) = iblk m c 2 t (ix2 k j)) :
    k0_pay16 (nrmBlk m c t) w (ix2 r d) = packed (prj m c) (ix2 R j) := by
  rw [← dot_eq m c t r R j hR (fun k => w (ix2 k d)) hw]
  generalize nrmBlk m c t = h
  pointwise [k0_pay16]

set_option maxHeartbeats 2000000 in
/-- Block `t` of the first result array holds rows `512 t` to `512 t + 511` of the packed projection. -/
theorem block3 (c : Dev nD) (t : Fin cfg0.N) (y : S512x6784.Idx) (R : Fin 32768) (hR : (R : ℕ) = 512 * t.val + (y 0 : Fin 512)) :
    (dats m 0 c).after 3 t y = packed (prj m c) (ix2 R (y 1)) := by
  rw [after0_3]
  unfold outsAt0
  frame_out
  canon_tiles x h using View.cover_of_tiledBy _ ![512, 128] (by sl_kernel_rfl) y
  case piece0 =>
    obtain ⟨r, d, rfl⟩ : ∃ (r : Fin 512) (d : Fin 128), x = ix2 r d := ⟨x 0, x 1, eq_ix2 x⟩
    refine tail_eq m c t r d R (y 1) (hR.trans (congrArg (512 * t.val + ·) h0)) _ fun k => ?_
    pointwise []
    exact congrArg (fun j : Fin 6784 => iblk m c 2 t (ix2 k j)) (Fin.ext h1.symm)
  all_goals
    obtain ⟨r, d, rfl⟩ : ∃ (r d : Fin 512), x = ix2 r d := ⟨x 0, x 1, eq_ix2 x⟩
    refine tile_eq m c t r d R (y 1) (hR.trans (congrArg (512 * t.val + ·) h0)) _ fun k => ?_
    pointwise []
    exact congrArg (fun j : Fin 6784 => iblk m c 2 t (ix2 k j)) (Fin.ext (by first | exact h1.symm | exact ((Nat.zero_add _).trans h1.symm)))

/-- Block `t` of the second result array holds rows `512 t` to `512 t + 511` of the keys and values. -/
theorem block4 (c : Dev nD) (t : Fin cfg0.N) (r d : Fin 512) (R : Fin 32768) (hR : (R : ℕ) = 512 * t.val + r) :
    (dats m 0 c).after 4 t (ix2 r d) = keysValues (prj m c) (ix2 R d) := by
  obtain ⟨j, hj⟩ : ∃ j : Fin 6784, (j : ℕ) = 6144 + d := ⟨⟨6144 + d, by omega⟩, rfl⟩
  have hp : keysValues (prj m c) (ix2 R d) = packed (prj m c) (ix2 R j) := keysValues_at _ R d j hj
  rw [after0_4, hp]
  unfold outsAt0
  frame_out
  refine tile_eq m c t r d R j hR _ fun k => ?_
  pointwise []
  exact congrArg (fun j : Fin 6784 => iblk m c 2 t (ix2 k j)) (Fin.ext hj.symm)

/-- The first result array: the packed projection. -/
theorem final3 (c : Dev nD) : (dats m 0 c).arrAt 3 (cfgs 0).N = packed (prj m c) := by
  refine (dats m 0 c).arrAt_eq_of_covers 3 _ (by decide +kernel) fun t _ y => ?_
  have ht : t.val < 64 := lt_of_lt_of_eq t.isLt N_0
  have hy : (y 0).val < 512 := (y 0).isLt
  blk_simp
  have he : (((View.whole main_v17_0).slice (win0_3.rect t)).emb y) = ix2 (⟨512 * t.val + (y 0).val, by omega⟩ : Fin 32768) (y 1) := by
    blk_ext [idx_at t]
  rw [he]
  exact block3 m c t y _ rfl

/-- The second result array: the keys and values. -/
theorem final4 (c : Dev nD) : (dats m 0 c).arrAt 4 (cfgs 0).N = keysValues (prj m c) := by
  refine (dats m 0 c).arrAt_eq_of_covers 4 _ (by decide +kernel) fun t _ y => ?_
  have ht : t.val < 64 := lt_of_lt_of_eq t.isLt N_0
  blk_simp
  obtain ⟨r, d, rfl⟩ : ∃ (r d : Fin 512), y = ix2 r d := ⟨y 0, y 1, eq_ix2 y⟩
  have he : (((View.whole main_v17_1).slice (win0_4.rect t)).emb (ix2 r d)) = ix2 ⟨512 * t.val + r.val, by omega⟩ d := by
    blk_ext [idx_at t]
  rw [he]
  exact block4 m c t r d _ rfl

end Cert.InprojIdeal.Value
-- ==== Proof.InprojTail.lean ====
module

public import proofs.«01_k».proof.Proof.InprojBlock

@[expose] public section

set_option maxRecDepth 16384

noncomputable section

/-! What the host operations after the kernel make of its array of keys and values: the windows of the last 128 tokens of
    each sequence. -/

namespace Cert.InprojIdeal.Value

open Idealize.ShloMosaic Idealize.ShloMosaic.TcCoe Idealize.SL.Sem
open Idealize.ShloMosaic.Pipeline (Dat)
open Cert.InprojIdeal Cert.InprojIdeal.Gen
open Cert.InprojRefIdeal.Value (normed projected packed keysValues keyWindow valueWindow projected_at)

/-- The last 128 tokens' rows of an array of keys and values. -/
def lastRows (a : FVec Ideal S32768x512 .f32) : FVec Ideal S4x128x512 .f32 :=
  extractStridedSlice S4x128x512 ![0, 8064, 0] (shapeCast S4x8192x512 a shapeCasts_S32768x512_S4x8192x512) slices_S4x8192x512_S4x128x512_0_8064_0

/-- The first 256 columns of the last rows, by head. -/
def firstHalf (a : FVec Ideal S32768x512 .f32) : FVec Ideal S1x4x128x4x64 .f32 :=
  shapeCast S1x4x128x4x64 (extractStridedSlice S4x128x256 ![0, 0, 0] (lastRows a) slices_S4x128x512_S4x128x256_0_0_0) shapeCasts_S4x128x256_S1x4x128x4x64

/-- The last 256 columns of the last rows, by head. -/
def secondHalf (a : FVec Ideal S32768x512 .f32) : FVec Ideal S1x4x128x4x64 .f32 :=
  shapeCast S1x4x128x4x64 (extractStridedSlice S4x128x256 ![0, 0, 256] (lastRows a) slices_S4x128x512_S4x128x256_0_0_256) shapeCasts_S4x128x256_S1x4x128x4x64

/-- A row among the last 128 of its sequence. -/
theorem lastRows_at (a : FVec Ideal S32768x512 .f32) (b : Fin 4) (n : Fin 128) (j : Fin 512) (R : Fin 32768) (hR : (R : ℕ) = b * 8192 + (8064 + n)) :
    lastRows a (ix3 b n j) = a (ix2 R j) := by
  pointwise [lastRows]
  exact congrArg (fun i => a (ix2 i j)) (Fin.ext hR.symm)

/-- The first 256 columns by head. -/
theorem headsFirst_at (u : FVec Ideal S4x128x512 .f32) (z : Fin 1) (b : Fin 4) (n : Fin 128) (h : Fin 4) (d : Fin 64) (j : Fin 512) (hj : (j : ℕ) = h * 64 + d) :
    shapeCast S1x4x128x4x64 (extractStridedSlice S4x128x256 ![0, 0, 0] u slices_S4x128x512_S4x128x256_0_0_0) shapeCasts_S4x128x256_S1x4x128x4x64 (ix5 z b n h d)
      = u (ix3 b n j) := by
  pointwise []
  exact congrArg (fun i => u (ix3 b n i)) (Fin.ext hj.symm)

/-- The last 256 columns by head. -/
theorem headsLast_at (u : FVec Ideal S4x128x512 .f32) (z : Fin 1) (b : Fin 4) (n : Fin 128) (h : Fin 4) (d : Fin 64) (j : Fin 512) (hj : (j : ℕ) = 256 + (h * 64 + d)) :
    shapeCast S1x4x128x4x64 (extractStridedSlice S4x128x256 ![0, 0, 256] u slices_S4x128x512_S4x128x256_0_0_256) shapeCasts_S4x128x256_S1x4x128x4x64 (ix5 z b n h d)
      = u (ix3 b n j) := by
  pointwise []
  exact congrArg (fun i => u (ix3 b n i)) (Fin.ext hj.symm)

/-- The window of keys at an index. -/
theorem keyWindow_at (p : FVec Ideal Cert.InprojRefIdeal.S32768x6672 .f32) (z : Fin 1) (b : Fin 4) (n : Fin 128) (h : Fin 4) (d : Fin 64)
    (R : Fin 32768) (hR : (R : ℕ) = b * 8192 + (8064 + n)) (j : Fin 6672) (hj : (j : ℕ) = 1024 + (h * 64 + d)) :
    keyWindow p (ix5 z b n h d) = p (ix2 R j) := by
  pointwise [keyWindow]
  exact congrArg₂ (fun i j => p (ix2 i j)) (Fin.ext hR.symm) (Fin.ext hj.symm)

/-- The window of values at an index. -/
theorem valueWindow_at (p : FVec Ideal Cert.InprojRefIdeal.S32768x6672 .f32) (z : Fin 1) (b : Fin 4) (n : Fin 128) (h : Fin 4) (d : Fin 64)
    (R : Fin 32768) (hR : (R : ℕ) = b * 8192 + (8064 + n)) (j : Fin 6672) (hj : (j : ℕ) = 1280 + (h * 64 + d)) :
    valueWindow p (ix5 z b n h d) = p (ix2 R j) := by
  pointwise [valueWindow]
  exact congrArg₂ (fun i j => p (ix2 i j)) (Fin.ext hR.symm) (Fin.ext hj.symm)

/-- The keys among the keys and values. -/
theorem keys_at (p : FVec Ideal Cert.InprojRefIdeal.S32768x6672 .f32) (R : Fin 32768) (x : Fin 512) (hx : (x : ℕ) < 256) (j : Fin 6672) (hj : (j : ℕ) = 1024 + x) :
    keysValues p (ix2 R x) = p (ix2 R j) := by
  pointwise [keysValues]
  exact (dif_pos hx).trans (congrArg (fun j => p (ix2 R j)) (Fin.ext hj.symm))

/-- The values among the keys and values. -/
theorem values_at (p : FVec Ideal Cert.InprojRefIdeal.S32768x6672 .f32) (R : Fin 32768) (x : Fin 512) (y : ℕ) (hx : (x : ℕ) = 256 + y) (j : Fin 6672) (hj : (j : ℕ) = 1280 + y) :
    keysValues p (ix2 R x) = p (ix2 R j) := by
  pointwise [keysValues]
  exact (dif_neg (by omega)).trans (congrArg (fun j => p (ix2 R j)) (Fin.ext (by simp only []; omega)))

/-- The first half of the keys and values is the window of keys. -/
theorem firstHalf_eq (p : FVec Ideal Cert.InprojRefIdeal.S32768x6672 .f32) : firstHalf (keysValues p) = keyWindow p := by
  funext i
  obtain ⟨z, b, n, h, d, rfl⟩ : ∃ (z : Fin 1) (b : Fin 4) (n : Fin 128) (h : Fin 4) (d : Fin 64), i = ix5 z b n h d :=
    ⟨i 0, i 1, i 2, i 3, i 4, eq_ix5 i⟩
  obtain ⟨R, hR⟩ : ∃ R : Fin 32768, (R : ℕ) = b * 8192 + (8064 + n) := ⟨⟨b * 8192 + (8064 + n), by omega⟩, rfl⟩
  obtain ⟨x, hx⟩ : ∃ x : Fin 512, (x : ℕ) = h * 64 + d := ⟨⟨h * 64 + d, by omega⟩, rfl⟩
  obtain ⟨j, hj⟩ : ∃ j : Fin 6672, (j : ℕ) = 1024 + (h * 64 + d) := ⟨⟨1024 + (h * 64 + d), by omega⟩, rfl⟩
  rw [keyWindow_at p z b n h d R hR j hj, firstHalf, headsFirst_at _ z b n h d x hx, lastRows_at _ b n x R hR]
  exact keys_at p R x (by omega) j (by omega)

/-- The second half of the keys and values is the window of values. -/
theorem secondHalf_eq (p : FVec Ideal Cert.InprojRefIdeal.S32768x6672 .f32) : secondHalf (keysValues p) = valueWindow p := by
  funext i
  obtain ⟨z, b, n, h, d, rfl⟩ : ∃ (z : Fin 1) (b : Fin 4) (n : Fin 128) (h : Fin 4) (d : Fin 64), i = ix5 z b n h d :=
    ⟨i 0, i 1, i 2, i 3, i 4, eq_ix5 i⟩
  obtain ⟨R, hR⟩ : ∃ R : Fin 32768, (R : ℕ) = b * 8192 + (8064 + n) := ⟨⟨b * 8192 + (8064 + n), by omega⟩, rfl⟩
  obtain ⟨x, hx⟩ : ∃ x : Fin 512, (x : ℕ) = 256 + (h * 64 + d) := ⟨⟨256 + (h * 64 + d), by omega⟩, rfl⟩
  obtain ⟨j, hj⟩ : ∃ j : Fin 6672, (j : ℕ) = 1280 + (h * 64 + d) := ⟨⟨1280 + (h * 64 + d), by omega⟩, rfl⟩
  rw [valueWindow_at p z b n h d R hR j hj, secondHalf, headsLast_at _ z b n h d x hx, lastRows_at _ b n x R hR]
  exact values_at p R x _ hx j hj

variable (m : (ℓ : Loc nD τ sig) → Buf (Elt Ideal) ℓ)

/-- The third result is the first half of the kernel's second array. -/
theorem tail_keys (c : Dev nD) : Pipeline.afterTail₀ cfgs (dats m) 0 (V0 m) [hostOps1] c main_v21 = firstHalf ((dats m 0 c).arrAt 4 (cfgs 0).N) := by
  have h := Pipeline.withArrays_arr spec0 (by decide) c (V0 m c) (fun w => (dats m 0 c).arrAt w (cfgs 0).N) 4
  unfold Pipeline.afterTail₀
  rw [← h]
  change StableHlo.after [hostOps1].flatten (Pipeline.withArrays spec0 c (V0 m c) fun w => (dats m 0 c).arrAt w (cfgs 0).N) (Proc.tc.devRef main_v21) = _
  generalize Pipeline.withArrays spec0 c (V0 m c) (fun w => (dats m 0 c).arrAt w (cfgs 0).N) = W
  simp only [hostOps1, List.flatten_cons, List.flatten_nil, List.append_nil]
  after_results_simp
  rfl

/-- The fourth result is the second half of the kernel's second array. -/
theorem tail_values (c : Dev nD) : Pipeline.afterTail₀ cfgs (dats m) 0 (V0 m) [hostOps1] c main_v23 = secondHalf ((dats m 0 c).arrAt 4 (cfgs 0).N) := by
  have h := Pipeline.withArrays_arr spec0 (by decide) c (V0 m c) (fun w => (dats m 0 c).arrAt w (cfgs 0).N) 4
  unfold Pipeline.afterTail₀
  rw [← h]
  change StableHlo.after [hostOps1].flatten (Pipeline.withArrays spec0 c (V0 m c) fun w => (dats m 0 c).arrAt w (cfgs 0).N) (Proc.tc.devRef main_v23) = _
  generalize Pipeline.withArrays spec0 c (V0 m c) (fun w => (dats m 0 c).arrAt w (cfgs 0).N) = W
  simp only [hostOps1, List.flatten_cons, List.flatten_nil, List.append_nil]
  after_results_simp
  rfl

end Cert.InprojIdeal.Value
-- ==== Proof.InprojClaim.lean ====
module

public import proofs.«01_k».proof.Proof.InprojTail
public import proofs.«01_k».proof.Defs
public import proofs.«01_k».proof.Proof.Gen.Inproj.Frame

@[expose] public section

set_option maxRecDepth 16384

noncomputable section

/-! The claim about the first norm and the input projection, with the windows of keys and values kept for the next
    step. -/

namespace Cert.Proof

open Idealize.ShloMosaic Idealize.SL.Sem

/-- At the real numbers the kernel's four results are the reference's. -/
theorem algebraic_Inproj : Cert.algebraic_InprojIdeal_InprojRefIdeal := by
  pair_intro
  · run_from Cert.InprojIdeal.Gen.run_main m g
    all_goals first | exact Cert.InprojIdeal.Gen.W_main_arg0 m _ c | exact Cert.InprojIdeal.Gen.W_main_arg1 m _ c | exact Cert.InprojIdeal.Gen.W_main_arg2 m _ c
  · run_from Cert.InprojRefIdeal.Value.run_terms m' g'
    · exact (Cert.InprojIdeal.Value.final3 m c).symm
    · exact (Cert.InprojIdeal.Value.final4 m c).symm
    · rw [Cert.InprojIdeal.Value.tail_keys, Cert.InprojIdeal.Value.final4, Cert.InprojIdeal.Value.firstHalf_eq]
    · rw [Cert.InprojIdeal.Value.tail_values, Cert.InprojIdeal.Value.final4, Cert.InprojIdeal.Value.secondHalf_eq]

end Cert.Proof
-- ==== Proof.PostRef.lean ====
module

public import proofs.«01_k».proof.Proof.Gen.PostRefIdeal.Run
public import Idealize.ShloMosaic.Lib.Pointwise

@[expose] public section

set_option maxRecDepth 16384

noncomputable section

/-! The merge, the output projection, the second norm and the router's queries as the reference computes them,
    each result a term over the argument arrays. -/

namespace Cert.PostRefIdeal.Value

open Idealize.ShloMosaic Idealize.ShloMosaic.TcCoe Idealize.SL.Sem
open Cert.PostRefIdeal Cert.PostRefIdeal.Gen

/-- The residual stream after the output projection: `x + (sigmoid ga * oa + sigmoid gb * og) @ wo`. -/
def afterProj (x : FVec Ideal S4x8192x1024 .f32) (oa og : FVec Ideal S32768x1024 .bf16) (p : FVec Ideal S32768x6784 .bf16)
    (wo : FVec Ideal S1x1024x1024 .f32) : FVec Ideal S32768x1024 .f32 :=
  addf (shapeCast _ x shapeCasts_S4x8192x1024_S32768x1024) (Host.dotGeneral dot_S32768x1024_S1024x1024_S32768x1024_1_0_0_1_n_n none (addf (mulf (Host.divf (broadcastInDim S32768x1024 ![] bcast_S_S32768x1024 (constant S_ .f32 0x3F800000#32)) (addf (broadcastInDim S32768x1024 ![] bcast_S_S32768x1024 (constant S_ .f32 0x3F800000#32)) (Host.exp (Host.negf (extf .f32 (extractStridedSlice S32768x1024 ![0, 3072] p slices_S32768x6784_S32768x1024_0_3072) bitsLt_bf16_f32))))) (extf .f32 oa bitsLt_bf16_f32)) (mulf (Host.divf (broadcastInDim S32768x1024 ![] bcast_S_S32768x1024 (constant S_ .f32 0x3F800000#32)) (addf (broadcastInDim S32768x1024 ![] bcast_S_S32768x1024 (constant S_ .f32 0x3F800000#32)) (Host.exp (Host.negf (extf .f32 (extractStridedSlice S32768x1024 ![0, 4096] p slices_S32768x6784_S32768x1024_0_4096) bitsLt_bf16_f32))))) (extf .f32 og bitsLt_bf16_f32))) (shapeCast _ wo shapeCasts_S1x1024x1024_S1024x1024))

/-- The rows of `h` divided by their root mean square and scaled by `g`. -/
def normed (h : FVec Ideal S32768x1024 .f32) (g : FVec Ideal S1x1024 .f32) : FVec Ideal S32768x1024 .f32 :=
  mulf (mulf h (broadcastInDim S32768x1024 ![0, 1] bcast_S32768x1_S32768x1024_0_1 (Host.rsqrt (addf (Host.divf (broadcastInDim S32768x1 ![0] bcast_S32768_S32768x1_0 (Host.reduceAdd (mulf h h) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (shapeCast _ g shapeCasts_S1x1024_S1024)))

/-- The normed rows in the storage format. -/
def normedOut (h : FVec Ideal S32768x1024 .f32) (g : FVec Ideal S1x1024 .f32) : FVec Ideal S32768x1024 .bf16 :=
  truncf .bf16 (normed h g) bitsLt_bf16_f32

/-- The router's queries: the normed rows times `wq`. -/
def queries (h : FVec Ideal S32768x1024 .f32) (g : FVec Ideal S1x1024 .f32) (wq : FVec Ideal S1x1024x2048 .f32) :
    FVec Ideal S32768x2048 .bf16 :=
  truncf .bf16 (Host.dotGeneral dot_S32768x1024_S1024x2048_S32768x2048_1_0_0_1_n_n none (normed h g) (shapeCast _ wq shapeCasts_S1x1024x2048_S1024x2048)) bitsLt_bf16_f32

variable (m : (ℓ : Loc nD τ sig) → Buf (Elt Ideal) ℓ) (ρ : Dev nD → PrngReg)

/-- The reference ends with the three results at these terms and its arguments unchanged. -/
theorem run_terms : θ_run defs (onTc (τ := τ) (main (F := Ideal))) ⟨m, fun _ => 0, ρ⟩ fun r => ∀ c : Dev nD,
      r.2.mem ((c.tc : Thread nD τ).loc main_v24) = afterProj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v39) = normedOut (afterProj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5))
      ∧ r.2.mem ((c.tc : Thread nD τ).loc main_v42) = queries (afterProj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  run m ρ

end Cert.PostRefIdeal.Value
-- ==== Proof.PostBlock.lean ====
module

public import proofs.«01_k».proof.Proof.Gen.PostIdeal.Value
public import proofs.«01_k».proof.Proof.PostRef
public import Idealize.ShloMosaic.Lib.Pipeline.ValueKit

@[expose] public section

set_option maxRecDepth 16384

noncomputable section

/-! What the pipelined kernel leaves in its three result arrays: block `t` holds rows `512 t` to `512 t + 511` of the
    reference's terms, and the 64 blocks tile the arrays. -/

namespace Cert.PostIdeal.Value

open Idealize.ShloMosaic Idealize.ShloMosaic.TcCoe Idealize.SL.Sem
open Idealize.ShloMosaic.Pipeline (Dat)
open Cert.PostIdeal Cert.PostIdeal.Gen
open Cert.PostRefIdeal.Value (afterProj normed normedOut queries)

variable (m : (ℓ : Loc nD τ sig) → Buf (Elt Ideal) ℓ)

/-- Which block of its array each window stages at a point. -/
theorem idx_at : ∀ t : Fin cfg0.N, win0_0.index t = ![t.val, 0] ∧ win0_1.index t = ![t.val, 0] ∧ win0_2.index t = ![t.val, 0]
    ∧ win0_3.index t = ![t.val, 3] ∧ win0_4.index t = ![t.val, 4] ∧ win0_5.index t = ![0, 0] ∧ win0_6.index t = ![0, 0]
    ∧ win0_7.index t = ![0, 0] ∧ win0_8.index t = ![t.val, 0] ∧ win0_9.index t = ![t.val, 0] ∧ win0_10.index t = ![t.val, 0] :=
  (by decide +kernel : ∀ t : Fin grid0.N, _)

/-- The residual stream over this program's argument arrays. -/
abbrev hid (c : Dev nD) : FVec Ideal S32768x1024 .f32 :=
  afterProj (m ((c : Thread nD τ).loc main_arg0)) (m ((c : Thread nD τ).loc main_arg1)) (m ((c : Thread nD τ).loc main_arg2))
    (m ((c : Thread nD τ).loc main_arg3)) (m ((c : Thread nD τ).loc main_arg4))

/-- The residual rows the body computes from the input blocks of point `t`. -/
abbrev hidBlk (c : Dev nD) (t : Fin cfg0.N) : FVec Ideal S512x1024 .f32 :=
  k0_pay3 (X0_3 m c t) (iblk m c 1 t) (X0_4 m c t) (iblk m c 2 t) (iblk m c 0 t) (iblk m c 5 t)

/-- The first gate's block is columns 3072 to 4095 of the projection's rows. -/
theorem gateA_at (c : Dev nD) (t : Fin cfg0.N) (r : Fin 512) (d : Fin 1024) (R : Fin 32768) (hR : (R : ℕ) = 512 * t.val + r) :
    X0_3 m c t (ix2 r d) = m ((c : Thread nD τ).loc main_arg3) (ix2 R ⟨3072 + d.val, by omega⟩) := by
  unfold X0_3 Pipeline.Window.fill
  rw [dif_pos (moved0_3 t _)]
  blk_ext [iblk, V, idx_at t]

/-- The second gate's block is columns 4096 to 5119 of the projection's rows. -/
theorem gateB_at (c : Dev nD) (t : Fin cfg0.N) (r : Fin 512) (d : Fin 1024) (R : Fin 32768) (hR : (R : ℕ) = 512 * t.val + r) :
    X0_4 m c t (ix2 r d) = m ((c : Thread nD τ).loc main_arg3) (ix2 R ⟨4096 + d.val, by omega⟩) := by
  unfold X0_4 Pipeline.Window.fill
  rw [dif_pos (moved0_4 t _)]
  blk_ext [iblk, V, idx_at t]

/-- Row `r` of the block the body computes is row `512 t + r` of the residual stream. -/
theorem hid_at (c : Dev nD) (t : Fin cfg0.N) (r : Fin 512) (d : Fin 1024) (R : Fin 32768) (hR : (R : ℕ) = 512 * t.val + r) :
    hidBlk m c t (ix2 r d) = hid m c (ix2 R d) := by
  have ht : t.val < 64 := lt_of_lt_of_eq t.isLt N_0
  pointwise [hidBlk, hid, k0_pay3, afterProj]
  simp only [zero_sub, zero_add]
  blk_point [iblk, V, idx_at t]
  · exact gateA_at m c t r _ R hR
  · exact gateB_at m c t r _ R hR

/-- A row of the normed block is the row of the normed residual stream. -/
theorem normed_at (c : Dev nD) (t : Fin cfg0.N) (r : Fin 512) (d : Fin 1024) (R : Fin 32768) (hR : (R : ℕ) = 512 * t.val + r) :
    k0_pay1 (hidBlk m c t) (k0_pay4 (iblk m c 6 t)) (ix2 r d) = normed (hid m c) (m ((c : Thread nD τ).loc main_arg5)) (ix2 R d) := by
  have ht : t.val < 64 := lt_of_lt_of_eq t.isLt N_0
  have hrow := fun d => hid_at m c t r d R hR
  generalize hidBlk m c t = h at *
  generalize hid m c = h' at *
  pointwise [k0_pay1, k0_pay4, normed]
  simp only [hrow, zero_add]
  blk_point [iblk, V, idx_at t]

/-- A row of the block of queries is the row of the queries of the whole stream. -/
theorem queries_at (c : Dev nD) (t : Fin cfg0.N) (r : Fin 512) (d : Fin 2048) (R : Fin 32768) (hR : (R : ℕ) = 512 * t.val + r) :
    k0_pay2 (hidBlk m c t) (k0_pay4 (iblk m c 6 t)) (iblk m c 7 t) (ix2 r d)
      = queries (hid m c) (m ((c : Thread nD τ).loc main_arg5)) (m ((c : Thread nD τ).loc main_arg6)) (ix2 R d) := by
  pointwise [k0_pay2, queries]
  refine Finset.sum_congr rfl fun x _ => Ideal.mul_congr (normed_at m c t r x R hR) ?_
  blk_point [iblk, V, idx_at t]

/-- The first result array: the residual stream. -/
theorem final8 (c : Dev nD) : (dats m 0 c).arrAt 8 (cfgs 0).N = hid m c := by
  refine (dats m 0 c).arrAt_eq_of_covers 8 _ (by decide +kernel) fun t _ y => ?_
  blk_simp
  rw [after0_8]
  unfold outsAt0
  frame_out
  have ht : t.val < 64 := lt_of_lt_of_eq t.isLt N_0
  obtain ⟨r, d, rfl⟩ : ∃ (r : Fin 512) (d : Fin 1024), y = ix2 r d := ⟨y 0, y 1, eq_ix2 y⟩
  have he : (((View.whole main_v7_0).slice (win0_8.rect t)).emb (ix2 r d)) = ix2 ⟨512 * t.val + r.val, by omega⟩ d := by
    blk_ext [idx_at t]
  rw [he]
  exact hid_at m c t r d _ rfl

/-- The second result array: the normed rows. -/
theorem final9 (c : Dev nD) : (dats m 0 c).arrAt 9 (cfgs 0).N = normedOut (hid m c) (m ((c : Thread nD τ).loc main_arg5)) := by
  refine (dats m 0 c).arrAt_eq_of_covers 9 _ (by decide +kernel) fun t _ y => ?_
  blk_simp
  rw [after0_9]
  unfold outsAt0
  frame_out
  have ht : t.val < 64 := lt_of_lt_of_eq t.isLt N_0
  obtain ⟨r, d, rfl⟩ : ∃ (r : Fin 512) (d : Fin 1024), y = ix2 r d := ⟨y 0, y 1, eq_ix2 y⟩
  have he : (((View.whole main_v7_1).slice (win0_9.rect t)).emb (ix2 r d)) = ix2 ⟨512 * t.val + r.val, by omega⟩ d := by
    blk_ext [idx_at t]
  rw [he]
  exact normed_at m c t r d _ rfl

/-- The third result array: the router's queries. -/
theorem final10 (c : Dev nD) : (dats m 0 c).arrAt 10 (cfgs 0).N = queries (hid m c) (m ((c : Thread nD τ).loc main_arg5)) (m ((c : Thread nD τ).loc main_arg6)) := by
  refine (dats m 0 c).arrAt_eq_of_covers 10 _ (by decide +kernel) fun t _ y => ?_
  blk_simp
  rw [after0_10]
  unfold outsAt0
  frame_out
  have ht : t.val < 64 := lt_of_lt_of_eq t.isLt N_0
  obtain ⟨r, d, rfl⟩ : ∃ (r : Fin 512) (d : Fin 2048), y = ix2 r d := ⟨y 0, y 1, eq_ix2 y⟩
  have he : (((View.whole main_v7_2).slice (win0_10.rect t)).emb (ix2 r d)) = ix2 ⟨512 * t.val + r.val, by omega⟩ d := by
    blk_ext [idx_at t]
  rw [he]
  exact queries_at m c t r d _ rfl

end Cert.PostIdeal.Value
-- ==== Proof.PostClaim.lean ====
module

public import proofs.«01_k».proof.Proof.PostBlock
public import proofs.«01_k».proof.Defs
public import proofs.«01_k».proof.Proof.Gen.Post.Frame

@[expose] public section

set_option maxRecDepth 16384

noncomputable section

/-! The claims about the merge, the output projection, the second norm and the router's queries. -/

namespace Cert.Proof

open Idealize.ShloMosaic Idealize.SL.Sem

/-- At the real numbers the kernel's three results are the reference's. -/
theorem algebraic_Post : Cert.algebraic_PostIdeal_PostRefIdeal := by
  pair_intro
  · run_from Cert.PostIdeal.Gen.run_main m g
  · run_from Cert.PostRefIdeal.Value.run_terms m' g'
    · exact (Cert.PostIdeal.Value.final8 m c).symm
    · exact (Cert.PostIdeal.Value.final9 m c).symm
    · exact (Cert.PostIdeal.Value.final10 m c).symm

end Cert.Proof
-- ==== Proof.SampleRef.lean ====
module

public import proofs.«01_k».proof.Proof.Gen.SampleRefIdeal.Run
public import Idealize.ShloMosaic.Lib.Pointwise

@[expose] public section

set_option maxRecDepth 16384

noncomputable section

/-! The windows of keys and values after the sample's token, as the reference computes them: the cached 128 tokens and the
    new one, without the oldest. -/

namespace Cert.SampleRefIdeal.Value

open Idealize.ShloMosaic Idealize.ShloMosaic.TcCoe Idealize.SL.Sem
open Cert.SampleRefIdeal Cert.SampleRefIdeal.Gen

/-- The new window of keys, from the projected keys and values of the new token and the cached window. -/
def newKeys (kv : FVec Ideal S128x512 .f32) (ck : FVec Ideal S1x128x128x4x64 .f32) : FVec Ideal S1x128x128x4x64 .f32 :=
  broadcastInDim S1x128x128x4x64 ![1, 2, 3, 4] bcast_S128x128x4x64_S1x128x128x4x64_1_2_3_4 (extractStridedSlice S128x128x4x64 ![0, 1, 0, 0] (concatenate S128x129x4x64 1 [⟨S128x128x4x64, (shapeCast _ ck shapeCasts_S1x128x128x4x64_S128x128x4x64)⟩, ⟨S128x1x4x64, (shapeCast _ (extractStridedSlice S128x256 ![0, 0] kv slices_S128x512_S128x256_0_0) shapeCasts_S128x256_S128x1x4x64)⟩] concatenates_S128x128x4x64_S128x1x4x64_S128x129x4x64_d1) slices_S128x129x4x64_S128x128x4x64_0_1_0_0)

/-- The new window of values, from the projected keys and values of the new token and the cached window. -/
def newValues (kv : FVec Ideal S128x512 .f32) (cv : FVec Ideal S1x128x128x4x64 .f32) : FVec Ideal S1x128x128x4x64 .f32 :=
  broadcastInDim S1x128x128x4x64 ![1, 2, 3, 4] bcast_S128x128x4x64_S1x128x128x4x64_1_2_3_4 (extractStridedSlice S128x128x4x64 ![0, 1, 0, 0] (concatenate S128x129x4x64 1 [⟨S128x128x4x64, (shapeCast _ cv shapeCasts_S1x128x128x4x64_S128x128x4x64)⟩, ⟨S128x1x4x64, (shapeCast _ (extractStridedSlice S128x256 ![0, 256] kv slices_S128x512_S128x256_0_256) shapeCasts_S128x256_S128x1x4x64)⟩] concatenates_S128x128x4x64_S128x1x4x64_S128x129x4x64_d1) slices_S128x129x4x64_S128x128x4x64_0_1_0_0)

section Run

variable (m : (ℓ : Loc nD τ sig) → Buf (Elt Ideal) ℓ) (ρ : Dev nD → PrngReg)

set_option maxHeartbeats 2000000 in
/-- The reference program ends with the two windows, and its arguments are unchanged. -/
theorem run_terms : θ_run defs (onTc (τ := τ) (main (F := Ideal))) ⟨m, fun _ => 0, ρ⟩ fun r => ∀ c : Dev nD,
      r.2.mem ((c.tc : Thread nD τ).loc main_v9) = newKeys (m ((c.tc : Thread nD τ).loc main_arg1)) (m ((c.tc : Thread nD τ).loc main_arg2))
      ∧ r.2.mem ((c.tc : Thread nD τ).loc main_v11) = newValues (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  run m ρ

end Run

/-- A slot of the new window of keys: the last is the new token's, any other the cached window's next slot. -/
theorem newKeys_at (kv : FVec Ideal S128x512 .f32) (ck : FVec Ideal S1x128x128x4x64 .f32) (z : Fin 1) (b s : Fin 128) (h : Fin 4) (d : Fin 64)
    (j : Fin 512) (hj : (j : ℕ) = h * 64 + d) :
    newKeys kv ck (ix5 z b s h d) = if hs : (s : ℕ) < 127 then ck (ix5 0 b ⟨s + 1, by omega⟩ h d) else kv (ix2 b j) := by
  pointwise [newKeys]
  by_cases hs : (s : ℕ) < 127
  · refine (dif_pos (by omega)).trans (Eq.trans ?_ (dif_pos hs).symm)
    exact congrArg (fun i => ck (ix5 0 b i h d)) (Fin.ext (Nat.add_comm _ _))
  · refine (dif_neg (by omega)).trans (Eq.trans ?_ (dif_neg hs).symm)
    exact congrArg (fun i => kv (ix2 b i)) (Fin.ext hj.symm)

/-- A slot of the new window of values: the last is the new token's, any other the cached window's next slot. -/
theorem newValues_at (kv : FVec Ideal S128x512 .f32) (cv : FVec Ideal S1x128x128x4x64 .f32) (z : Fin 1) (b s : Fin 128) (h : Fin 4) (d : Fin 64)
    (j : Fin 512) (hj : (j : ℕ) = 256 + (h * 64 + d)) :
    newValues kv cv (ix5 z b s h d) = if hs : (s : ℕ) < 127 then cv (ix5 0 b ⟨s + 1, by omega⟩ h d) else kv (ix2 b j) := by
  pointwise [newValues]
  by_cases hs : (s : ℕ) < 127
  · refine (dif_pos (by omega)).trans (Eq.trans ?_ (dif_pos hs).symm)
    exact congrArg (fun i => cv (ix5 0 b i h d)) (Fin.ext (Nat.add_comm _ _))
  · refine (dif_neg (by omega)).trans (Eq.trans ?_ (dif_neg hs).symm)
    exact congrArg (fun i => kv (ix2 b i)) (Fin.ext hj.symm)

end Cert.SampleRefIdeal.Value
-- ==== Proof.SampleBlock.lean ====
module

public import proofs.«01_k».proof.Proof.SampleRef
public import proofs.«01_k».proof.Proof.Gen.SampleIdeal.Frame
public import Idealize.ShloMosaic.Lib.Pipeline.ValueKit

@[expose] public section

set_option maxRecDepth 16384

noncomputable section

/-! What the pipelined kernel leaves in its first two arrays: block `t` holds the windows of sequences `8 t` to `8 t + 7`,
    each shifted by one token with the new token's row in the last place. -/

namespace Cert.SampleIdeal.Value

open Idealize.ShloMosaic Idealize.ShloMosaic.TcCoe Idealize.SL.Sem
open Idealize.ShloMosaic.Pipeline (Dat)
open Cert.SampleIdeal Cert.SampleIdeal.Gen
open Cert.SampleRefIdeal.Value (newKeys newValues newKeys_at newValues_at)

variable (m : (ℓ : Loc nD τ sig) → Buf (Elt Ideal) ℓ)

/-- Which block of its array each window stages at a point. -/
theorem idx_at : ∀ t : Fin cfg0.N, win0_1.index t = ![t.val, 0, 0] ∧ win0_2.index t = ![t.val, 0, 0]
    ∧ win0_3.index t = ![t.val, 0] ∧ win0_6.index t = ![t.val, 0, 0] ∧ win0_7.index t = ![t.val, 0, 0] :=
  (by decide +kernel : ∀ t : Fin grid0.N, _)

/-- One sequence's window as the body writes it: rows moved up by one, the new row last. -/
def shifted (v : FVec Ideal S1x256 .f32) (w : FVec Ideal S1x128x256 .f32) : FVec Ideal S1x128x256 .f32 :=
  shapeCast S1x128x256 (select (cmpi .eq (iota .tc S128x256 32 [0] iota_S128x256_d0_w32) (broadcast S128x256 127#32)) (broadcastTo S128x256 (shapeCast S1x256 v shapeCasts_S1x256_S1x256) broadcasts_S1x256_S128x256) (dynamicRotate 0 127#32 none (shapeCast S128x256 w shapeCasts_S1x128x256_S128x256) rotates_S128x256_d0)) shapeCasts_S128x256_S1x128x256

/-- The same window at an index. -/
theorem shifted_at (v : FVec Ideal S1x256 .f32) (w : FVec Ideal S1x128x256 .f32) (z : Fin 1) (s : Fin 128) (d : Fin 256) :
    shifted v w (ix3 z s d) = if hs : (s : ℕ) < 127 then w (ix3 0 ⟨s + 1, by omega⟩ d) else v (ix2 0 d) := by
  pointwise [shifted]
  have hc : ∀ s : Fin 128, IntOp.cmpi CmpIPredicate.eq (BitVec.ofNat 32 s.val) 127#32 = if s.val < 127 then 0#1 else 1#1 := by decide +kernel
  rw [hc]
  by_cases hs : (s : ℕ) < 127
  · rw [if_pos hs, dif_pos hs]
    exact congrArg (fun i => w (ix3 0 i d)) (Fin.ext (by simp only []; omega))
  · rw [if_neg hs, dif_neg hs]
    rfl

/-- A slot of a window array: the cached row moved up by one, or the new row, from column `o` of the keys and values, in
    the last place. -/
def slot (o : ℕ) (ho : o ≤ 256) (kv : FVec Ideal S128x512 .f32) (c : FVec Ideal S128x128x256 .f32) (B s : Fin 128) (d : Fin 256) : EReal :=
  if hs : (s : ℕ) < 127 then c (ix3 B ⟨s + 1, by omega⟩ d) else kv (ix2 B ⟨o + d, by omega⟩)

/-- A window array. -/
def window (o : ℕ) (ho : o ≤ 256) (kv : FVec Ideal S128x512 .f32) (c : FVec Ideal S128x128x256 .f32) : FVec Ideal S128x128x256 .f32 :=
  fun i => slot o ho kv c (i 0) (i 1) (i 2)

/-- A sequence's rows are the window array's there. -/
theorem seq_eq (o : ℕ) (ho : o ≤ 256) (kv : FVec Ideal S128x512 .f32) (c : FVec Ideal S128x128x256 .f32) (v : FVec Ideal S1x256 .f32) (w : FVec Ideal S1x128x256 .f32)
    (B : Fin 128) (hv : ∀ d : Fin 256, v (ix2 0 d) = kv (ix2 B ⟨o + d, by omega⟩)) (hw : ∀ (s : Fin 128) (d : Fin 256), w (ix3 0 s d) = c (ix3 B s d))
    (z : Fin 1) (s s' : Fin 128) (d d' : Fin 256) (hs : s' = s) (hd : d' = d) :
    shifted v w (ix3 z s d) = slot o ho kv c B s' d' := by
  subst hs hd
  rw [shifted_at]
  unfold slot
  by_cases h : (s' : ℕ) < 127
  · rw [dif_pos h, dif_pos h]
    exact hw _ _
  · rw [dif_neg h, dif_neg h]
    exact hv _

/-- The cached windows as the kernel reads them, one row of 256 per token. -/
abbrev rows (x : FVec Ideal S1x128x128x4x64 .f32) : FVec Ideal S128x128x256 .f32 :=
  shapeCast S128x128x256 (shapeCast S128x128x4x64 x shapeCasts_S1x128x128x4x64_S128x128x4x64) shapeCasts_S128x128x4x64_S128x128x256

/-- The cached keys at entry. -/
theorem V_keys (c : Dev nD) : V m c main_v15 = rows (m ((c : Thread nD τ).loc main_arg2)) := by
  entry_read
  rfl

/-- The cached values at entry. -/
theorem V_values (c : Dev nD) : V m c main_v17 = rows (m ((c : Thread nD τ).loc main_arg3)) := by
  entry_read
  rfl

/-- A block of cached keys. -/
theorem ck_at (c : Dev nD) (t : Fin cfg0.N) (i : Fin 8) (s : Fin 128) (d : Fin 256) (B : Fin 128) (hB : (B : ℕ) = 8 * t.val + i) :
    iblk m c 1 t (ix3 i s d) = rows (m ((c : Thread nD τ).loc main_arg2)) (ix3 B s d) := by
  have h : iblk m c 1 t (ix3 i s d) = V m c main_v15 (ix3 ⟨8 * t.val + i, by omega⟩ s d) := by
    blk_point [iblk, idx_at t]
  rw [h, V_keys]
  exact congrArg (fun B => rows _ (ix3 B s d)) (Fin.ext hB.symm)

/-- A block of cached values. -/
theorem cv_at (c : Dev nD) (t : Fin cfg0.N) (i : Fin 8) (s : Fin 128) (d : Fin 256) (B : Fin 128) (hB : (B : ℕ) = 8 * t.val + i) :
    iblk m c 2 t (ix3 i s d) = rows (m ((c : Thread nD τ).loc main_arg3)) (ix3 B s d) := by
  have h : iblk m c 2 t (ix3 i s d) = V m c main_v17 (ix3 ⟨8 * t.val + i, by omega⟩ s d) := by
    blk_point [iblk, idx_at t]
  rw [h, V_values]
  exact congrArg (fun B => rows _ (ix3 B s d)) (Fin.ext hB.symm)

/-- A block of the new tokens' keys and values. -/
theorem kv_at (c : Dev nD) (t : Fin cfg0.N) (i : Fin 8) (d : Fin 512) (B : Fin 128) (hB : (B : ℕ) = 8 * t.val + i) :
    iblk m c 3 t (ix2 i d) = m ((c : Thread nD τ).loc main_arg1) (ix2 B d) := by
  have h : iblk m c 3 t (ix2 i d) = V m c main_arg1 (ix2 ⟨8 * t.val + i, by omega⟩ d) := by
    blk_point [iblk, idx_at t]
  rw [h, V_main_arg1]
  exact congrArg (fun B => m ((c : Thread nD τ).loc main_arg1) (ix2 B d)) (Fin.ext hB.symm)

/-- What the body stores into the new keys' staging buffer, sequence by sequence. -/
theorem out6_eq (x0 : Vec Ideal S8x16x256 .bf16) (x1 : Vec Ideal S8x128x256 .f32) (x2 : Vec Ideal S8x128x256 .f32) (x3 : Vec Ideal S8x512 .f32) (x4 : Vec Ideal S16x1 .f32) (x5 : Vec Ideal S16x1 .f32) :
    out0_6 x0 x1 x2 x3 x4 x5 = View.canon [⟨r0_23, shifted (View.ld x3 r0_22) (View.ld x1 r0_23)⟩,
      ⟨r0_20, shifted (View.ld x3 r0_19) (View.ld x1 r0_20)⟩,
      ⟨r0_17, shifted (View.ld x3 r0_16) (View.ld x1 r0_17)⟩,
      ⟨r0_14, shifted (View.ld x3 r0_13) (View.ld x1 r0_14)⟩,
      ⟨r0_11, shifted (View.ld x3 r0_10) (View.ld x1 r0_11)⟩,
      ⟨r0_8, shifted (View.ld x3 r0_7) (View.ld x1 r0_8)⟩,
      ⟨r0_5, shifted (View.ld x3 r0_4) (View.ld x1 r0_5)⟩,
      ⟨r0_2, shifted (View.ld x3 r0_1) (View.ld x1 r0_2)⟩] := by
  unfold_out out0_6
  rfl

/-- What the body stores into the new values' staging buffer, sequence by sequence. -/
theorem out7_eq (x0 : Vec Ideal S8x16x256 .bf16) (x1 : Vec Ideal S8x128x256 .f32) (x2 : Vec Ideal S8x128x256 .f32) (x3 : Vec Ideal S8x512 .f32) (x4 : Vec Ideal S16x1 .f32) (x5 : Vec Ideal S16x1 .f32) :
    out0_7 x0 x1 x2 x3 x4 x5 = View.canon [⟨r0_23, shifted (View.ld x3 r0_24) (View.ld x2 r0_23)⟩,
      ⟨r0_20, shifted (View.ld x3 r0_21) (View.ld x2 r0_20)⟩,
      ⟨r0_17, shifted (View.ld x3 r0_18) (View.ld x2 r0_17)⟩,
      ⟨r0_14, shifted (View.ld x3 r0_15) (View.ld x2 r0_14)⟩,
      ⟨r0_11, shifted (View.ld x3 r0_12) (View.ld x2 r0_11)⟩,
      ⟨r0_8, shifted (View.ld x3 r0_9) (View.ld x2 r0_8)⟩,
      ⟨r0_5, shifted (View.ld x3 r0_6) (View.ld x2 r0_5)⟩,
      ⟨r0_2, shifted (View.ld x3 r0_3) (View.ld x2 r0_2)⟩] := by
  unfold_out out0_7
  rfl

/-- Block `t` of the new keys. -/
theorem block6 (c : Dev nD) (t : Fin cfg0.N) (y : S8x128x256.Idx) (B : Fin 128) (hB : (B : ℕ) = 8 * t.val + (y 0 : Fin 8)) :
    (dats m 0 c).after 6 t y = slot 0 (by omega) (m ((c : Thread nD τ).loc main_arg1)) (rows (m ((c : Thread nD τ).loc main_arg2))) B (y 1) (y 2) := by
  rw [after0_6, out6_eq]
  canon_tiles x h
  all_goals
    obtain ⟨z, s, d, rfl⟩ : ∃ (z : Fin 1) (s : Fin 128) (d : Fin 256), x = ix3 z s d := ⟨x 0, x 1, x 2, eq_ix3 x⟩
    obtain rfl : z = 0 := Subsingleton.elim _ _
    refine seq_eq 0 _ _ _ _ _ B (fun d => ?_) (fun s d => ?_) 0 s _ d _ ?_ ?_
    · refine Eq.trans (congrArg (iblk m c 3 t) ?_) (kv_at m c t (y 0) ⟨0 + d, by omega⟩ B hB)
      funext a
      match a with
      | ⟨0, _⟩ => exact Fin.ext h0.symm
      | ⟨1, _⟩ => exact Fin.ext (Rect.idx_unit_val _ _ _ _ _)
    · refine Eq.trans (congrArg (iblk m c 1 t) ?_) (ck_at m c t (y 0) s d B hB)
      funext a
      match a with
      | ⟨0, _⟩ => exact Fin.ext h0.symm
      | ⟨1, _⟩ => exact Fin.ext ((Rect.idx_unit_val _ _ _ _ _).trans (Nat.zero_add _))
      | ⟨2, _⟩ => exact Fin.ext ((Rect.idx_unit_val _ _ _ _ _).trans (Nat.zero_add _))
    · exact Fin.ext h1
    · exact Fin.ext h2

/-- Block `t` of the new values. -/
theorem block7 (c : Dev nD) (t : Fin cfg0.N) (y : S8x128x256.Idx) (B : Fin 128) (hB : (B : ℕ) = 8 * t.val + (y 0 : Fin 8)) :
    (dats m 0 c).after 7 t y = slot 256 (by omega) (m ((c : Thread nD τ).loc main_arg1)) (rows (m ((c : Thread nD τ).loc main_arg3))) B (y 1) (y 2) := by
  rw [after0_7, out7_eq]
  canon_tiles x h
  all_goals
    obtain ⟨z, s, d, rfl⟩ : ∃ (z : Fin 1) (s : Fin 128) (d : Fin 256), x = ix3 z s d := ⟨x 0, x 1, x 2, eq_ix3 x⟩
    obtain rfl : z = 0 := Subsingleton.elim _ _
    refine seq_eq 256 _ _ _ _ _ B (fun d => ?_) (fun s d => ?_) 0 s _ d _ ?_ ?_
    · refine Eq.trans (congrArg (iblk m c 3 t) ?_) (kv_at m c t (y 0) ⟨256 + d, by omega⟩ B hB)
      funext a
      match a with
      | ⟨0, _⟩ => exact Fin.ext h0.symm
      | ⟨1, _⟩ => exact Fin.ext (Rect.idx_unit_val _ _ _ _ _)
    · refine Eq.trans (congrArg (iblk m c 2 t) ?_) (cv_at m c t (y 0) s d B hB)
      funext a
      match a with
      | ⟨0, _⟩ => exact Fin.ext h0.symm
      | ⟨1, _⟩ => exact Fin.ext ((Rect.idx_unit_val _ _ _ _ _).trans (Nat.zero_add _))
      | ⟨2, _⟩ => exact Fin.ext ((Rect.idx_unit_val _ _ _ _ _).trans (Nat.zero_add _))
    · exact Fin.ext h1
    · exact Fin.ext h2

/-- The new keys' array after the kernel. -/
theorem final6 (c : Dev nD) : (dats m 0 c).arrAt 6 (cfgs 0).N = window 0 (by omega) (m ((c : Thread nD τ).loc main_arg1)) (rows (m ((c : Thread nD τ).loc main_arg2))) := by
  refine (dats m 0 c).arrAt_eq_of_covers 6 _ (by decide +kernel) fun t _ y => ?_
  have ht : t.val < 16 := lt_of_lt_of_eq t.isLt N_0
  have hy : (y 0).val < 8 := (y 0).isLt
  blk_simp
  have he : (((View.whole main_v18_0).slice (win0_6.rect t)).emb y) = ix3 (⟨8 * t.val + (y 0).val, by omega⟩ : Fin 128) (y 1) (y 2) := by
    blk_ext [idx_at t]
  rw [he]
  exact block6 m c t y _ rfl

/-- The new values' array after the kernel. -/
theorem final7 (c : Dev nD) : (dats m 0 c).arrAt 7 (cfgs 0).N = window 256 (by omega) (m ((c : Thread nD τ).loc main_arg1)) (rows (m ((c : Thread nD τ).loc main_arg3))) := by
  refine (dats m 0 c).arrAt_eq_of_covers 7 _ (by decide +kernel) fun t _ y => ?_
  have ht : t.val < 16 := lt_of_lt_of_eq t.isLt N_0
  have hy : (y 0).val < 8 := (y 0).isLt
  blk_simp
  have he : (((View.whole main_v18_1).slice (win0_7.rect t)).emb y) = ix3 (⟨8 * t.val + (y 0).val, by omega⟩ : Fin 128) (y 1) (y 2) := by
    blk_ext [idx_at t]
  rw [he]
  exact block7 m c t y _ rfl

end Cert.SampleIdeal.Value
-- ==== Proof.SampleTail.lean ====
module

public import proofs.«01_k».proof.Proof.SampleBlock

@[expose] public section

set_option maxRecDepth 16384

noncomputable section

/-! What the host operations after the kernel make of its first two arrays: the new windows of keys and values by head. -/

namespace Cert.SampleIdeal.Value

open Idealize.ShloMosaic Idealize.ShloMosaic.TcCoe Idealize.SL.Sem
open Idealize.ShloMosaic.Pipeline (Dat)
open Cert.SampleIdeal Cert.SampleIdeal.Gen
open Cert.SampleRefIdeal.Value (newKeys newValues newKeys_at newValues_at)

/-- A window array by head. -/
abbrev byHead (a : FVec Ideal S128x128x256 .f32) : FVec Ideal S1x128x128x4x64 .f32 :=
  shapeCast S1x128x128x4x64 a shapeCasts_S128x128x256_S1x128x128x4x64

/-- A window array by head at an index. -/
theorem byHead_at (a : FVec Ideal S128x128x256 .f32) (z : Fin 1) (b s : Fin 128) (h : Fin 4) (d : Fin 64) (j : Fin 256) (hj : (j : ℕ) = h * 64 + d) :
    byHead a (ix5 z b s h d) = a (ix3 b s j) := by
  pointwise [byHead]
  exact congrArg (fun i => a (ix3 b s i)) (Fin.ext hj.symm)

/-- The cached rows at an index. -/
theorem rows_at (x : FVec Ideal S1x128x128x4x64 .f32) (b s : Fin 128) (h : Fin 4) (d : Fin 64) (j : Fin 256) (hj : (j : ℕ) = h * 64 + d) :
    rows x (ix3 b s j) = x (ix5 0 b s h d) := by
  pointwise [rows]
  exact congrArg₂ (fun h d => x (ix5 0 b s h d)) (Fin.ext (by simp only []; omega)) (Fin.ext (by simp only []; omega))

/-- The kernel's first window by head is the reference's new keys. -/
theorem keys_eq (kv : FVec Ideal S128x512 .f32) (ck : FVec Ideal S1x128x128x4x64 .f32) : byHead (window 0 (by omega) kv (rows ck)) = newKeys kv ck := by
  funext i
  obtain ⟨z, b, s, h, d, rfl⟩ : ∃ (z : Fin 1) (b s : Fin 128) (h : Fin 4) (d : Fin 64), i = ix5 z b s h d :=
    ⟨i 0, i 1, i 2, i 3, i 4, eq_ix5 i⟩
  obtain ⟨j, hj⟩ : ∃ j : Fin 256, (j : ℕ) = h * 64 + d := ⟨⟨h * 64 + d, by omega⟩, rfl⟩
  rw [byHead_at _ z b s h d j hj, newKeys_at kv ck z b s h d ⟨0 + j, by omega⟩ (by simp only []; omega)]
  change slot 0 _ kv (rows ck) b s j = _
  unfold slot
  by_cases hs : (s : ℕ) < 127
  · rw [dif_pos hs, dif_pos hs]
    exact rows_at ck b _ h d j hj
  · rw [dif_neg hs, dif_neg hs]

/-- The kernel's second window by head is the reference's new values. -/
theorem values_eq (kv : FVec Ideal S128x512 .f32) (cv : FVec Ideal S1x128x128x4x64 .f32) : byHead (window 256 (by omega) kv (rows cv)) = newValues kv cv := by
  funext i
  obtain ⟨z, b, s, h, d, rfl⟩ : ∃ (z : Fin 1) (b s : Fin 128) (h : Fin 4) (d : Fin 64), i = ix5 z b s h d :=
    ⟨i 0, i 1, i 2, i 3, i 4, eq_ix5 i⟩
  obtain ⟨j, hj⟩ : ∃ j : Fin 256, (j : ℕ) = h * 64 + d := ⟨⟨h * 64 + d, by omega⟩, rfl⟩
  rw [byHead_at _ z b s h d j hj, newValues_at kv cv z b s h d ⟨256 + j, by omega⟩ (by simp only []; omega)]
  change slot 256 _ kv (rows cv) b s j = _
  unfold slot
  by_cases hs : (s : ℕ) < 127
  · rw [dif_pos hs, dif_pos hs]
    exact rows_at cv b _ h d j hj
  · rw [dif_neg hs, dif_neg hs]

variable (m : (ℓ : Loc nD τ sig) → Buf (Elt Ideal) ℓ)

/-- The first result is the kernel's first array by head. -/
theorem tail_keys (c : Dev nD) : Pipeline.afterTail₀ cfgs (dats m) 0 (V0 m) [hostOps1] c main_v19 = byHead ((dats m 0 c).arrAt 6 (cfgs 0).N) := by
  have h := Pipeline.withArrays_arr spec0 (by decide) c (V0 m c) (fun w => (dats m 0 c).arrAt w (cfgs 0).N) 6
  unfold Pipeline.afterTail₀
  rw [← h]
  change StableHlo.after [hostOps1].flatten (Pipeline.withArrays spec0 c (V0 m c) fun w => (dats m 0 c).arrAt w (cfgs 0).N) (Proc.tc.devRef main_v19) = _
  generalize Pipeline.withArrays spec0 c (V0 m c) (fun w => (dats m 0 c).arrAt w (cfgs 0).N) = W
  simp only [hostOps1, List.flatten_cons, List.flatten_nil, List.append_nil]
  after_results_simp
  rfl

/-- The second result is the kernel's second array by head. -/
theorem tail_values (c : Dev nD) : Pipeline.afterTail₀ cfgs (dats m) 0 (V0 m) [hostOps1] c main_v20 = byHead ((dats m 0 c).arrAt 7 (cfgs 0).N) := by
  have h := Pipeline.withArrays_arr spec0 (by decide) c (V0 m c) (fun w => (dats m 0 c).arrAt w (cfgs 0).N) 7
  unfold Pipeline.afterTail₀
  rw [← h]
  change StableHlo.after [hostOps1].flatten (Pipeline.withArrays spec0 c (V0 m c) fun w => (dats m 0 c).arrAt w (cfgs 0).N) (Proc.tc.devRef main_v20) = _
  generalize Pipeline.withArrays spec0 c (V0 m c) (fun w => (dats m 0 c).arrAt w (cfgs 0).N) = W
  simp only [hostOps1, List.flatten_cons, List.flatten_nil, List.append_nil]
  after_results_simp
  rfl

end Cert.SampleIdeal.Value
-- ==== Proof.SampleClaim.lean ====
module

public import proofs.«01_k».proof.Proof.SampleTail
public import proofs.«01_k».proof.Defs
public import proofs.«01_k».proof.Proof.Gen.Sample.Frame

@[expose] public section

set_option maxRecDepth 16384

noncomputable section

/-! The claim about the sample's windows of keys and values. -/

namespace Cert.Proof

open Idealize.ShloMosaic Idealize.SL.Sem

/-- At the real numbers the kernel's two results are the reference's. -/
theorem algebraic_Sample : Cert.algebraic_SampleIdeal_SampleRefIdeal := by
  pair_intro
  · run_from Cert.SampleIdeal.Gen.run_main m g
    all_goals first
      | exact Cert.SampleIdeal.Gen.W_main_arg0 m _ c
      | exact Cert.SampleIdeal.Gen.W_main_arg2 m _ c
      | exact Cert.SampleIdeal.Gen.W_main_arg3 m _ c
      | exact Cert.SampleIdeal.Gen.W_main_arg4 m _ c
      | exact ((Cert.SampleIdeal.Gen.dats m 0 c).arrAt_in 3 rfl _).trans ((Cert.SampleIdeal.Gen.A_eq m c 3).trans (Cert.SampleIdeal.Gen.V_main_arg1 m c))
  · run_from Cert.SampleRefIdeal.Value.run_terms m' g'
    · rw [Cert.SampleIdeal.Value.tail_keys, Cert.SampleIdeal.Value.final6, Cert.SampleIdeal.Value.keys_eq]
    · rw [Cert.SampleIdeal.Value.tail_values, Cert.SampleIdeal.Value.final7, Cert.SampleIdeal.Value.values_eq]

end Cert.Proof
-- ==== Proof.GlaRef.lean ====
module

public import proofs.«01_k».proof.Proof.Gen.GlaRefIdeal.Run
public import Idealize.ShloMosaic.Lib.Pointwise

@[expose] public section

set_option maxRecDepth 16384

noncomputable section

/-! The states of the sample's linear attention after its token, as the reference computes them: each old state decayed by
    the token's gate, plus the outer product of the token's key and value. -/

namespace Cert.GlaRefIdeal.Value

open Idealize.ShloMosaic Idealize.ShloMosaic.TcCoe Idealize.SL.Sem
open Cert.GlaRefIdeal Cert.GlaRefIdeal.Gen

/-- The gate before its activation: the projection's gate columns times the gate's weight, plus its bias. -/
def preGate (p : FVec Ideal S128x6784 .bf16) (w : FVec Ideal S1x16x512 .f32) (b : FVec Ideal S1x512 .f32) : FVec Ideal S128x512 .f32 :=
  addf (Host.dotGeneral dot_S128x16_S16x512_S128x512_1_0_0_1_n_n none (extractStridedSlice S128x16 ![0, 6656] (extf .f32 p bitsLt_bf16_f32) slices_S128x6784_S128x16_0_6656) (shapeCast _ w shapeCasts_S1x16x512_S16x512)) (broadcastInDim S128x512 ![0, 1] bcast_S1x512_S128x512_0_1 (broadcastInDim S1x512 ![1] bcast_S512_S1x512_1 (shapeCast _ b shapeCasts_S1x512_S512)))

/-- The zero that the activation compares with. -/
abbrev zeros : FVec Ideal S128x512 .f32 := broadcastInDim S128x512 ![] bcast_S_S128x512 (constant S_ .f32 0x00000000#32)

/-- The logarithm of the decay: a sixteenth of the gate's log-sigmoid. -/
def logDecay (z : FVec Ideal S128x512 .f32) : FVec Ideal S128x512 .f32 :=
  Host.divf (Host.negf (select (cmpf .une (subf (Host.negf z) zeros) (subf (Host.negf z) zeros)) (addf (Host.negf z) zeros) (addf (maximumf (Host.negf z) zeros) (Host.log1p (Host.exp (Host.negf (Host.absf (subf (Host.negf z) zeros)))))))) (broadcastInDim S128x512 ![] bcast_S_S128x512 (constant S_ .f32 0x41800000#32))

/-- The running sum of the logarithms over the token's chunk of one. -/
def summed (g : FVec Ideal S128x512 .f32) : FVec Ideal S128x4x1x128 .f32 :=
  Host.reduceWindowAdd ![1, 1, 1, 1] ![1, 1, 1, 1] ![0, 0, 0, 0] ![0, 0, 0, 0] (transpose S128x4x1x128 [0, 2, 1, 3] (shapeCast _ g shapeCasts_S128x512_S128x1x4x128) transposes_S128x1x4x128_S128x4x1x128_0_2_1_3) (broadcastInDim S_ ![] bcast_S_S_ (constant S_ .f32 0x00000000#32)) reduceWindows_S128x4x1x128_S128x4x1x128_w1s1p0_0_w1s1p0_0_w1s1p0_0_w1s1p0_0 h_S_

/-- The keys by head. -/
def keys (p : FVec Ideal S128x6784 .bf16) : FVec Ideal S128x4x1x128 .f32 :=
  transpose S128x4x1x128 [0, 2, 1, 3] (shapeCast _ (extractStridedSlice S128x512 ![0, 5632] (extf .f32 p bitsLt_bf16_f32) slices_S128x6784_S128x512_0_5632) shapeCasts_S128x512_S128x1x4x128) transposes_S128x1x4x128_S128x4x1x128_0_2_1_3

/-- The values by head. -/
def values (p : FVec Ideal S128x6784 .bf16) : FVec Ideal S128x4x1x256 .f32 :=
  transpose S128x4x1x256 [0, 2, 1, 3] (shapeCast _ (extractStridedSlice S128x1024 ![0, 1024] (extf .f32 p bitsLt_bf16_f32) slices_S128x6784_S128x1024_0_1024) shapeCasts_S128x1024_S128x1x4x256) transposes_S128x1x4x256_S128x4x1x256_0_2_1_3

/-- The new states from the summed logarithms, the keys, the values and the old states. -/
def stepped (b : FVec Ideal S128x4x1x128 .f32) (k : FVec Ideal S128x4x1x128 .f32) (v : FVec Ideal S128x4x1x256 .f32) (s : FVec Ideal S1x128x4x128x256 .f32) : FVec Ideal S128x4x128x256 .f32 :=
  addf (mulf (broadcastInDim S128x4x128x256 ![0, 1, 2, 3] bcast_S128x4x128x1_S128x4x128x256_0_1_2_3 (broadcastInDim S128x4x128x1 ![0, 1, 2] bcast_S128x4x128_S128x4x128x1_0_1_2 (Host.exp (shapeCast _ b shapeCasts_S128x4x1x128_S128x4x128)))) (shapeCast _ s shapeCasts_S1x128x4x128x256_S128x4x128x256)) (Host.dotGeneral dot_S128x4x1x128_S128x4x1x256_S128x4x128x256_2_2_3_3_01_01 none (mulf k (Host.exp (subf b b))) v)

/-- The new states from the projection, the gate's weight and bias and the old states. -/
def newState (p : FVec Ideal S128x6784 .bf16) (w : FVec Ideal S1x16x512 .f32) (b : FVec Ideal S1x512 .f32) (s : FVec Ideal S1x128x4x128x256 .f32) : FVec Ideal S128x4x128x256 .f32 :=
  stepped (summed (logDecay (preGate p w b))) (keys p) (values p) s

section Run

variable (m : (ℓ : Loc nD τ sig) → Buf (Elt Ideal) ℓ) (ρ : Dev nD → PrngReg)

set_option maxHeartbeats 2000000 in
/-- The reference program ends with the new states, and its arguments are unchanged. -/
theorem run_terms : θ_run defs (onTc (τ := τ) (main (F := Ideal))) ⟨m, fun _ => 0, ρ⟩ fun r => ∀ c : Dev nD,
      r.2.mem ((c.tc : Thread nD τ).loc main_v30) = newState (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  run m ρ

end Run

/-- The log-sigmoid of `z` over sixteen. -/
def act (z : EReal) : EReal := Ideal.div (-(max (-z) 0 + Ideal.log (1 + Ideal.exp (-max z (-z))))) (Ideal.ofBits .f32 0x41800000#32)

theorem zero_bits : Ideal.ofBits .f32 0x00000000#32 = 0 := by
  simp [Ideal.ofBits, Ideal.ieee]

/-- The logarithm of the decay at an index. -/
theorem logDecay_at (z : FVec Ideal S128x512 .f32) (b : Fin 128) (j : Fin 512) : logDecay z (ix2 b j) = act (z (ix2 b j)) := by
  pointwise [logDecay, zeros]
  rw [if_neg (fun h => h rfl)]
  change Ideal.div (-(max (-z (ix2 b j)) 0 + Ideal.log (1 + Ideal.exp (-max (-z (ix2 b j)) (- -z (ix2 b j)))))) _ = _
  rw [neg_neg, max_comm (-z (ix2 b j)) (z (ix2 b j))]
  rfl

/-- The sum over a chunk of one token is the token's. -/
theorem summed_at (g : FVec Ideal S128x512 .f32) (b : Fin 128) (h : Fin 4) (z : Fin 1) (d : Fin 128) (j : Fin 512) (hj : (j : ℕ) = h * 128 + d) :
    summed g (ix4 b h z d) = g (ix2 b j) := by
  have h1 : List.finRange (⟨S128x4x1x128.rank, ![1, 1, 1, 1]⟩ : Shape).numel = [⟨0, by decide⟩] := by decide
  unfold summed Host.reduceWindowAdd
  rw [Ideal.hostReduceWindowAdd_def]
  unfold Ideal.hostReduceWindowAdd Host.reduceWindow
  dsimp only
  rw [h1, List.foldl_cons, List.foldl_nil]
  have h2 : ∀ a : Fin 4, ((⟨S128x4x1x128.rank, ![1, 1, 1, 1]⟩ : Shape).rowMajor.symm ⟨0, by decide⟩ a).val = 0 := fun a => by
    have := ((⟨S128x4x1x128.rank, ![1, 1, 1, 1]⟩ : Shape).rowMajor.symm ⟨0, by decide⟩ a).isLt
    revert this
    fin_cases a <;> exact fun h => Nat.lt_one_iff.mp h
  have h3 : ∀ a : Fin 4, (ix4 b h z d (Fin.cast rfl a)).val * ![1, 1, 1, 1] a + ((⟨S128x4x1x128.rank, ![1, 1, 1, 1]⟩ : Shape).rowMajor.symm ⟨0, by decide⟩ a).val - ![0, 0, 0, 0] a = (ix4 b h z d a).val := fun a => by
    rw [h2]
    fin_cases a <;> simp
  rw [dif_pos (fun a => ⟨by fin_cases a <;> exact Nat.zero_le _, (h3 a).trans_lt (ix4 b h z d a).isLt⟩)]
  refine (congrArg₂ (· + ·) (zero_bits : broadcastInDim S_ ![] bcast_S_S_ (constant (F := Ideal) S_ .f32 0x00000000#32) (Shape.Idx.first h_S_) = 0)
    (congrArg (transpose S128x4x1x128 [0, 2, 1, 3] (shapeCast S128x1x4x128 g shapeCasts_S128x512_S128x1x4x128) transposes_S128x1x4x128_S128x4x1x128_0_2_1_3)
      (funext fun a => Fin.ext (h3 a) : _ = ix4 b h z d))).trans ?_
  rw [zero_add]
  pointwise
  exact congrArg (fun i => g (ix2 b i)) (Fin.ext (by simp only []; omega))

/-- The new states at an index. -/
theorem stepped_at (g : FVec Ideal S128x512 .f32) (p : FVec Ideal S128x6784 .bf16) (s : FVec Ideal S1x128x4x128x256 .f32) (b : Fin 128) (h : Fin 4) (d : Fin 128) (u : Fin 256)
    (j : Fin 512) (hj : (j : ℕ) = h * 128 + d) (jk jv : Fin 6784) (hk : (jk : ℕ) = 5632 + (h * 128 + d)) (hv : (jv : ℕ) = 1024 + (h * 256 + u)) :
    stepped (summed g) (keys p) (values p) s (ix4 b h d u)
      = Ideal.exp (g (ix2 b j)) * s (ix5 0 b h d u) + p (ix2 b jk) * Ideal.exp (g (ix2 b j) - g (ix2 b j)) * p (ix2 b jv) := by
  pointwise [stepped, keys, values]
  rw [Fintype.sum_unique, summed_at g b h 0 d j hj, summed_at g b h _ d j hj]
  exact congrArg₂ (fun a c => _ + p (ix2 b a) * _ * p (ix2 b c)) (Fin.ext hk.symm) (Fin.ext hv.symm)

/-- The gate before its activation at an index. -/
theorem preGate_at (p : FVec Ideal S128x6784 .bf16) (w : FVec Ideal S1x16x512 .f32) (b : FVec Ideal S1x512 .f32) (B : Fin 128) (j : Fin 512) :
    preGate p w b (ix2 B j) = (∑ k : Fin 16, p (ix2 B ⟨6656 + k, by omega⟩) * w (ix3 0 k j)) + b (ix2 0 j) := by
  pointwise [preGate]

end Cert.GlaRefIdeal.Value
-- ==== Proof.GlaItem.lean ====
module

public import proofs.«01_k».proof.Proof.GlaRef
public import proofs.«01_k».proof.Proof.Gen.GlaIdeal.Skeleton
public import Idealize.ShloMosaic.Lib.Pipeline.ValueKit

@[expose] public section

set_option maxRecDepth 16384

noncomputable section

/-! What the kernel computes for one sequence and head: the block's rows but the sequence's are masked away, the gate's
    logarithms are summed by a product with a table of ones, and the state is decayed and added to. -/

namespace Cert.GlaIdeal.Value

open Idealize.ShloMosaic Idealize.ShloMosaic.TcCoe Idealize.SL.Sem
open Cert.GlaIdeal Cert.GlaIdeal.Gen
open Cert.GlaRefIdeal.Value (act zero_bits)

/-- The mask of a row. -/
abbrev rowMask (s : BitVec 32) : IVec S8x1 1 := cmpi .eq (iota .tc S8x1 32 [0] iota_S8x1_d0_w32) (broadcast S8x1 s)

/-- A head's logarithms with every row but one masked. -/
abbrev masked (s : BitVec 32) (la : FVec Ideal S8x128 .f32) : FVec Ideal S8x128 .f32 :=
  select (broadcastTo S8x128 (shapeCast S8x1 (rowMask s) shapeCasts_S8x1_S8x1) broadcasts_S8x1_S8x128) la (broadcast S8x128 (Scalar.ofBits .f32 0x00000000#32))

/-- The masked logarithms and their rounding remainders times the table. -/
abbrev products (s : BitVec 32) (tab : FVec Ideal S56x8 .bf16) (la : FVec Ideal S8x128 .f32) : FVec Ideal S56x256 .f32 :=
  matmul dot_S56x8_S8x256_S56x256_1_0_0_1_n_n none tab (concatenate S8x256 1 [⟨S8x128, truncf .bf16 (masked s la) bitsLt_bf16_f32⟩, ⟨S8x128, truncf .bf16 (subf (masked s la) (extf .f32 (truncf .bf16 (masked s la) bitsLt_bf16_f32) bitsLt_bf16_f32)) bitsLt_bf16_f32⟩] concatenates_S8x128_S8x128_S8x256_d1) (constant S56x256 .f32 0x00000000#32)

/-- The summed logarithms. -/
def cum (s : BitVec 32) (tab : FVec Ideal S56x8 .bf16) (la : FVec Ideal S8x128 .f32) : FVec Ideal S56x128 .f32 :=
  addf (extractStridedSlice S56x128 ![0, 0] (products s tab la) slices_S56x256_o0_0_S56x128) (extractStridedSlice S56x128 ![0, 128] (products s tab la) slices_S56x256_o0_128_S56x128)

/-- The decay of a state's rows, transposed to its rows. -/
abbrev decayRow (e : FVec Ideal S56x128 .f32) : FVec Ideal S128x128 .f32 :=
  transpose S128x128 [1, 0] (broadcastTo S128x128 (shapeCast S1x128 (exp (extractStridedSlice S1x128 ![7, 0] e slices_S56x128_o7_0_S1x128)) shapeCasts_S1x128_S1x128) broadcasts_S1x128_S128x128) transposes_S128x128_p1_0_S128x128

/-- The decay of a state. -/
def decay (e : FVec Ideal S56x128 .f32) : FVec Ideal S128x256 .f32 :=
  concatenate S128x256 1 [⟨S128x128, decayRow e⟩, ⟨S128x128, decayRow e⟩] concatenates_S128x128_S128x128_S128x256_d1

/-- The masked keys, scaled. -/
def scaled (s : BitVec 32) (e : FVec Ideal S56x128 .f32) (k : FVec Ideal S8x128 .bf16) : FVec Ideal S128x8 .bf16 :=
  truncf .bf16 (transpose S128x8 [1, 0] (mulf (select (broadcastTo S8x128 (shapeCast S8x1 (rowMask s) shapeCasts_S8x1_S8x1) broadcasts_S8x1_S8x128) (extf .f32 k bitsLt_bf16_f32) (broadcast S8x128 (Scalar.ofBits .f32 0x00000000#32))) (exp (subf (broadcastTo S8x128 (extractStridedSlice S1x128 ![7, 0] e slices_S56x128_o7_0_S1x128) broadcasts_S1x128_S8x128) (extractStridedSlice S8x128 ![0, 0] e slices_S56x128_o0_0_S8x128)))) transposes_S8x128_p1_0_S128x8) bitsLt_bf16_f32

/-- The masked values. -/
def maskedValues (s : BitVec 32) (v : FVec Ideal S8x256 .bf16) : FVec Ideal S8x256 .bf16 :=
  select (broadcastTo S8x256 (shapeCast S8x1 (rowMask s) shapeCasts_S8x1_S8x1) broadcasts_S8x1_S8x256) v (broadcast S8x256 (Scalar.ofBits .bf16 0x0000#16))

/-- The new state of a sequence's head. -/
def item (s : BitVec 32) (tab : FVec Ideal S56x8 .bf16) (la : FVec Ideal S8x128 .f32) (k : FVec Ideal S8x128 .bf16) (v : FVec Ideal S8x256 .bf16) (st : FVec Ideal S1x1x128x256 .f32) : FVec Ideal S1x1x128x256 .f32 :=
  shapeCast S1x1x128x256 (addf (mulf (decay (cum s tab la)) (shapeCast S128x256 st shapeCasts_S1x1x128x256_S128x256)) (matmul dot_S128x8_S8x256_S128x256_1_0_0_1_n_n none (scaled s (cum s tab la) k) (maskedValues s v) (constant S128x256 .f32 0x00000000#32))) shapeCasts_S128x256_S1x1x128x256

/-- The comparison that makes a row's mask. -/
theorem cmp_eq : ∀ s r : Fin 8, IntOp.cmpi CmpIPredicate.eq (BitVec.ofNat 32 r.val) (BitVec.ofNat 32 s.val) = if r = s then 1#1 else 0#1 := by
  decide +kernel

/-- A masked entry. -/
theorem mask_at (s r : Fin 8) (x : EReal) : Scalar.select (IntOp.cmpi CmpIPredicate.eq (BitVec.ofNat 32 r.val) (BitVec.ofNat 32 s.val)) x 0 = if r = s then x else 0 := by
  rw [cmp_eq]
  by_cases h : r = s
  · rw [if_pos h, if_pos h]; rfl
  · rw [if_neg h, if_neg h]; rfl

/-- A value below infinity plus its difference from itself. -/
theorem add_rest (x : EReal) (h : x ≠ ⊤) : x + (x - x) = x := by
  induction x with
  | bot => rfl
  | top => exact absurd rfl h
  | coe r => rw [← EReal.coe_sub, sub_self, EReal.coe_zero, add_zero]

/-- The summed logarithms in a row of the table that has a one in the sequence's place: the sequence's. -/
theorem cum_at (s : Fin 8) (tab : FVec Ideal S56x8 .bf16) (la : FVec Ideal S8x128 .f32) (i : Fin 56) (d : Fin 128) (ht : tab (ix2 i s) = 1) (hla : la (ix2 s d) ≠ ⊤) :
    cum (BitVec.ofNat 32 s.val) tab la (ix2 i d) = la (ix2 s d) := by
  pointwise [cum, products, masked, rowMask]
  simp only [mask_at]
  rw [Finset.sum_eq_single s (fun r _ h => if_neg h) (fun h => absurd (Finset.mem_univ s) h),
    Finset.sum_eq_single s (fun r _ h => by rw [if_neg h, sub_zero, mul_zero]) (fun h => absurd (Finset.mem_univ s) h),
    if_pos rfl, if_pos rfl, ht, one_mul, one_mul]
  exact add_rest _ hla

/-- The decay of a state at an index. -/
theorem decay_at (e : FVec Ideal S56x128 .f32) (d : Fin 128) (u : Fin 256) : decay e (ix2 d u) = Ideal.exp (e (ix2 7 d)) := by
  pointwise [decay, decayRow]
  by_cases h : (u : ℕ) < 128
  · exact dif_pos h
  · exact dif_neg h

/-- The masked keys, scaled, at an index. -/
theorem scaled_at (s : Fin 8) (e : FVec Ideal S56x128 .f32) (k : FVec Ideal S8x128 .bf16) (d : Fin 128) (r : Fin 8) :
    scaled (BitVec.ofNat 32 s.val) e k (ix2 d r) = if r = s then k (ix2 r d) * Ideal.exp (e (ix2 7 d) - e (ix2 ⟨r, by omega⟩ d)) else 0 := by
  pointwise [scaled, rowMask]
  exact mask_at s r _

/-- The masked values at an index. -/
theorem maskedValues_at (s : Fin 8) (v : FVec Ideal S8x256 .bf16) (r : Fin 8) (u : Fin 256) :
    maskedValues (BitVec.ofNat 32 s.val) v (ix2 r u) = if r = s then v (ix2 r u) else 0 := by
  pointwise [maskedValues, rowMask]
  exact mask_at s r _

/-- The new state at an index. -/
theorem item_at (s : Fin 8) (tab : FVec Ideal S56x8 .bf16) (la : FVec Ideal S8x128 .f32) (k : FVec Ideal S8x128 .bf16) (v : FVec Ideal S8x256 .bf16) (st : FVec Ideal S1x1x128x256 .f32)
    (d : Fin 128) (u : Fin 256) (h7 : tab (ix2 7 s) = 1) (hs : tab (ix2 ⟨s, by omega⟩ s) = 1) (hla : la (ix2 s d) ≠ ⊤) :
    item (BitVec.ofNat 32 s.val) tab la k v st (ix4 0 0 d u)
      = Ideal.exp (la (ix2 s d)) * st (ix4 0 0 d u) + k (ix2 s d) * Ideal.exp (la (ix2 s d) - la (ix2 s d)) * v (ix2 s u) := by
  pointwise [item]
  rw [decay_at, cum_at s tab la 7 d h7 hla,
    Finset.sum_eq_single s (fun r _ h => by rw [scaled_at, if_neg h, zero_mul]) (fun h => absurd (Finset.mem_univ s) h),
    scaled_at, if_pos rfl, maskedValues_at, if_pos rfl, cum_at s tab la 7 d h7 hla, cum_at s tab la _ d hs hla]

/-- The logarithm of a decay is not positive, so not infinite from above. -/
theorem act_ne_top (z : EReal) : act z ≠ ⊤ := by
  have h16 : Ideal.ofBits .f32 0x41800000#32 = ((16 : ℝ) : EReal) := by
    simp [Ideal.ofBits, Ideal.ieee]
    rw [← EReal.coe_mul]
    norm_num
  have hexp : ∀ x : EReal, 0 ≤ Ideal.exp x := fun x => by
    induction x with
    | bot => exact le_refl _
    | top => exact le_top
    | coe r => exact EReal.coe_nonneg.mpr (Real.exp_pos r).le
  have hlog : ∀ x : EReal, 1 ≤ x → 0 ≤ Ideal.log x := fun x hx => by
    induction x with
    | bot => exact absurd hx (by decide)
    | top => exact le_top
    | coe r =>
      have hr : (1 : ℝ) ≤ r := EReal.coe_le_coe_iff.mp hx
      change (0 : EReal) ≤ if r ≤ 0 then ⊥ else (Real.log r : EReal)
      rw [if_neg (by linarith)]
      exact EReal.coe_nonneg.mpr (Real.log_nonneg hr)
  unfold act
  rw [h16]
  have h0 : (0 : EReal) ≤ max (-z) 0 + Ideal.log (1 + Ideal.exp (-max z (-z))) :=
    add_nonneg (le_max_right _ _) (hlog _ (le_add_of_nonneg_right (hexp _)))
  generalize max (-z) 0 + Ideal.log (1 + Ideal.exp (-max z (-z))) = x at h0
  unfold Ideal.div
  rw [if_neg (by norm_num)]
  have h1 : -x * ((16 : ℝ) : EReal)⁻¹ ≤ 0 := by
    rw [EReal.neg_mul, EReal.neg_le, neg_zero]
    exact mul_nonneg h0 (EReal.inv_nonneg_of_nonneg (EReal.coe_nonneg.mpr (by norm_num)))
  exact fun h => absurd (h ▸ h1) (by decide)

end Cert.GlaIdeal.Value
-- ==== Proof.GlaBlock.lean ====
module

public import proofs.«01_k».proof.Proof.GlaItem
public import proofs.«01_k».proof.Proof.Gen.GlaIdeal.Frame

@[expose] public section

set_option maxRecDepth 16384

noncomputable section

/-! The blocks the kernel is given at each point, by the argument arrays: eight sequences' keys, values, gate and states, and
    the table it sums with. -/

namespace Cert.GlaIdeal.Value

open Idealize.ShloMosaic Idealize.ShloMosaic.TcCoe Idealize.SL.Sem
open Idealize.ShloMosaic.Pipeline (Dat)
open Cert.GlaIdeal Cert.GlaIdeal.Gen
open Cert.GlaRefIdeal.Value (act zero_bits preGate logDecay logDecay_at preGate_at)

variable (m : (ℓ : Loc nD τ sig) → Buf (Elt Ideal) ℓ)

/-- Which block of its array each window stages at a point. -/
theorem idx_at : ∀ t : Fin cfg0.N, win0_1.index t = ![t.val, 11] ∧ win0_2.index t = ![t.val, 1] ∧ win0_4.index t = ![t.val, 52]
    ∧ win0_5.index t = ![0, 0] ∧ win0_6.index t = ![0, 0] ∧ win0_8.index t = ![0, 0]
    ∧ win0_10.index t = ![t.val, 0, 0, 0] ∧ win0_12.index t = ![t.val, 0, 0, 0] :=
  (by decide +kernel : ∀ t : Fin grid0.N, _)

/-- The gate's weight as the kernel reads it, with rows of zero below its sixteen. -/
abbrev weight (w : FVec Ideal S1x16x512 .f32) : FVec Ideal S128x512 .bf16 :=
  truncf .bf16 (pad S128x512 ![0, 0] ![112, 0] ![0, 0] (shapeCast S16x512 w shapeCasts_S1x16x512_S16x512) (sitofp .f32 (constantI S_ 32 0#32)) pads_S16x512_S128x512_01120_000 h_S_) bitsLt_bf16_f32

/-- The gate's weight at entry. -/
theorem V_weight (c : Dev nD) : V m c main_v2 = weight (m ((c : Thread nD τ).loc main_arg1)) := by
  entry_read
  rfl

/-- The gate's bias at entry. -/
theorem V_bias (c : Dev nD) : V m c main_v6 = shapeCast S1x512 (shapeCast S512 (m ((c : Thread nD τ).loc main_arg2)) shapeCasts_S1x512_S512) shapeCasts_S512_S1x512 := by
  entry_read
  rfl

/-- The states at entry. -/
theorem V_state (c : Dev nD) : V m c main_v5 = shapeCast S128x4x128x256 (m ((c : Thread nD τ).loc main_arg4)) shapeCasts_S1x128x4x128x256_S128x4x128x256 := by
  entry_read
  rfl

/-- The table at entry. -/
theorem V_table (c : Dev nD) : V m c main_cst = fun i => Ideal.ofBits .bf16 (lit0 (S56x8.rowMajor i)) := by
  entry_read
  rfl

/-- A block of keys is columns 5632 to 6143 of the projection's rows. -/
theorem key_at (c : Dev nD) (t : Fin cfg0.N) (r : Fin 8) (d : Fin 512) (B : Fin 128) (hB : (B : ℕ) = 8 * t.val + r) :
    X0_1 m c t (ix2 r d) = m ((c : Thread nD τ).loc main_arg0) (ix2 B ⟨5632 + d.val, by omega⟩) := by
  unfold X0_1 Pipeline.Window.fill
  rw [dif_pos (moved0_1 t _)]
  blk_ext [iblk, V, idx_at t]

/-- A block of values is columns 1024 to 2047 of the projection's rows. -/
theorem value_at (c : Dev nD) (t : Fin cfg0.N) (r : Fin 8) (d : Fin 1024) (B : Fin 128) (hB : (B : ℕ) = 8 * t.val + r) :
    X0_2 m c t (ix2 r d) = m ((c : Thread nD τ).loc main_arg0) (ix2 B ⟨1024 + d.val, by omega⟩) := by
  unfold X0_2 Pipeline.Window.fill
  rw [dif_pos (moved0_2 t _)]
  blk_ext [iblk, V, idx_at t]

/-- A block of gate columns is columns 6656 to 6783 of the projection's rows. -/
theorem z_at (c : Dev nD) (t : Fin cfg0.N) (r : Fin 8) (d : Fin 128) (B : Fin 128) (hB : (B : ℕ) = 8 * t.val + r) :
    iblk m c 4 t (ix2 r d) = m ((c : Thread nD τ).loc main_arg0) (ix2 B ⟨6656 + d.val, by omega⟩) := by
  blk_ext [iblk, V, idx_at t]

/-- The padded weight at an index. -/
theorem weight_rows (w : FVec Ideal S1x16x512 .f32) (i : Fin 128) (d : Fin 512) :
    weight w (ix2 i d) = if h : (i : ℕ) < 16 then w (ix3 0 ⟨i, h⟩ d) else (0 : EReal) := by
  pointwise [weight]
  rw [show (FloatOps.sitofp (F := Ideal) .f32 (0#32)) = (0 : EReal) from by simp [FloatOps.sitofp]]

/-- The block of gate weights. -/
theorem weight_at (c : Dev nD) (t : Fin cfg0.N) (i : Fin 128) (d : Fin 512) :
    iblk m c 5 t (ix2 i d) = if h : (i : ℕ) < 16 then m ((c : Thread nD τ).loc main_arg1) (ix3 0 ⟨i, h⟩ d) else (0 : EReal) := by
  have h : iblk m c 5 t (ix2 i d) = V m c main_v2 (ix2 i d) := by
    blk_point [iblk, idx_at t]
  rw [h, V_weight]
  exact weight_rows _ i d

/-- The block of gate biases. -/
theorem bias_at (c : Dev nD) (t : Fin cfg0.N) (z : Fin 1) (d : Fin 512) :
    iblk m c 6 t (ix2 z d) = m ((c : Thread nD τ).loc main_arg2) (ix2 0 d) := by
  have h : iblk m c 6 t (ix2 z d) = V m c main_v6 (ix2 z d) := by
    blk_point [iblk, idx_at t]
  rw [h, V_bias]
  pointwise

/-- The states as the kernel reads them, at an index. -/
theorem state_rows (x : FVec Ideal S1x128x4x128x256 .f32) (B : Fin 128) (h : Fin 4) (d : Fin 128) (u : Fin 256) :
    shapeCast S128x4x128x256 x shapeCasts_S1x128x4x128x256_S128x4x128x256 (ix4 B h d u) = x (ix5 0 B h d u) := by
  pointwise

/-- A block of states. -/
theorem state_at (c : Dev nD) (t : Fin cfg0.N) (r : Fin 8) (h : Fin 4) (d : Fin 128) (u : Fin 256) (B : Fin 128) (hB : (B : ℕ) = 8 * t.val + r) :
    iblk m c 10 t (ix4 r h d u) = m ((c : Thread nD τ).loc main_arg4) (ix5 0 B h d u) := by
  have hh : iblk m c 10 t (ix4 r h d u) = V m c main_v5 (ix4 ⟨8 * t.val + r, by omega⟩ h d u) := by
    blk_point [iblk, idx_at t]
  rw [hh, V_state]
  exact (state_rows _ _ h d u).trans (congrArg (fun B => m ((c : Thread nD τ).loc main_arg4) (ix5 0 B h d u)) (Fin.ext hB.symm))

/-- The table's last row of its first eight is all ones, and its diagonal is ones. -/
theorem lit_ones : ∀ s : Fin 8, lit0 (S56x8.rowMajor (ix2 7 s)) = 0x3F80#16 ∧ lit0 (S56x8.rowMajor (ix2 ⟨s, by omega⟩ s)) = 0x3F80#16 := by
  decide +kernel

theorem one_bits : Ideal.ofBits .bf16 0x3F80#16 = 1 := by
  simp [Ideal.ofBits, Ideal.ieee]
  rw [← EReal.coe_mul]
  norm_num

/-- The entries of the table's block that the states' sums meet. -/
theorem table_at (c : Dev nD) (t : Fin cfg0.N) (s : Fin 8) : iblk m c 8 t (ix2 7 s) = (1 : EReal) ∧ iblk m c 8 t (ix2 ⟨s, by omega⟩ s) = (1 : EReal) := by
  have h : ∀ i : Fin 56, iblk m c 8 t (ix2 i s) = V m c main_cst (ix2 i s) := fun i => by
    blk_point [iblk, idx_at t]
  rw [h, h, V_table]
  exact ⟨(congrArg (Ideal.ofBits .bf16) (lit_ones s).1).trans one_bits, (congrArg (Ideal.ofBits .bf16) (lit_ones s).2).trans one_bits⟩

/-- The logarithms of the decays as the kernel computes them, at an index. -/
theorem pay2_at (z : FVec Ideal S8x128 .bf16) (w : FVec Ideal S128x512 .bf16) (b : FVec Ideal S1x512 .f32) (r : Fin 8) (j : Fin 512) :
    k0_pay2 (F := Ideal) z w b (ix2 r j) = act ((∑ x : Fin 128, z (ix2 r x) * w (ix2 x j)) + b (ix2 0 j)) := by
  pointwise [k0_pay2]
  rw [zero_sub, zero_sub, zero_sub]
  rfl

/-- A sum whose terms vanish after its first sixteen. -/
theorem sum_rows (f : Fin 128 → EReal) (h : ∀ x : Fin 128, 16 ≤ (x : ℕ) → f x = 0) : ∑ x, f x = ∑ x : Fin 16, f ⟨x, by omega⟩ := by
  rw [Fin.sum_univ_add (a := 16) (b := 112) f, Finset.sum_eq_zero (s := Finset.univ) (f := fun x : Fin 112 => f (Fin.natAdd 16 x)) (fun x _ => h _ (by simp)), add_zero]
  rfl

/-- The block of the logarithms of the decays. -/
theorem gate_at (c : Dev nD) (t : Fin cfg0.N) (r : Fin 8) (j : Fin 512) (B : Fin 128) (hB : (B : ℕ) = 8 * t.val + r) :
    k0_pay2 (iblk m c 4 t) (iblk m c 5 t) (iblk m c 6 t) (ix2 r j)
      = act (preGate (m ((c : Thread nD τ).loc main_arg0)) (m ((c : Thread nD τ).loc main_arg1)) (m ((c : Thread nD τ).loc main_arg2)) (ix2 B j)) := by
  refine (pay2_at _ _ _ r j).trans (congrArg act ?_)
  rw [preGate_at, bias_at]
  refine congrArg (· + _) ?_
  rw [sum_rows _ fun x hx => by rw [weight_at, dif_neg (by omega), mul_zero]]
  refine Finset.sum_congr rfl fun x _ => ?_
  rw [weight_at, dif_pos x.isLt, z_at m c t r _ B hB]

end Cert.GlaIdeal.Value
-- ==== Proof.GlaFinal.lean ====
module

public import proofs.«01_k».proof.Proof.GlaBlock

@[expose] public section

set_option maxRecDepth 16384

noncomputable section

/-! What the pipelined kernel leaves in its second array: block `t` holds the new states of sequences `8 t` to `8 t + 7`. -/

namespace Cert.GlaIdeal.Value

open Idealize.ShloMosaic Idealize.ShloMosaic.TcCoe Idealize.SL.Sem
open Idealize.ShloMosaic.Pipeline (Dat)
open Cert.GlaIdeal Cert.GlaIdeal.Gen
open Cert.GlaRefIdeal.Value (act zero_bits preGate logDecay logDecay_at preGate_at newState stepped_at)

variable (m : (ℓ : Loc nD τ sig) → Buf (Elt Ideal) ℓ)

/-- The new states over this program's argument arrays. -/
abbrev states (c : Dev nD) : FVec Ideal S128x4x128x256 .f32 :=
  newState (m ((c : Thread nD τ).loc main_arg0)) (m ((c : Thread nD τ).loc main_arg1)) (m ((c : Thread nD τ).loc main_arg2)) (m ((c : Thread nD τ).loc main_arg4))

/-- A new state at an index. -/
theorem states_at (c : Dev nD) (B : Fin 128) (h : Fin 4) (d : Fin 128) (u : Fin 256) (j : Fin 512) (hj : (j : ℕ) = h * 128 + d)
    (jk jv : Fin 6784) (hk : (jk : ℕ) = 5632 + (h * 128 + d)) (hv : (jv : ℕ) = 1024 + (h * 256 + u)) (L : EReal)
    (hL : act (preGate (m ((c : Thread nD τ).loc main_arg0)) (m ((c : Thread nD τ).loc main_arg1)) (m ((c : Thread nD τ).loc main_arg2)) (ix2 B j)) = L)
    (pk pv ps : EReal) (hpk : m ((c : Thread nD τ).loc main_arg0) (ix2 B jk) = pk) (hpv : m ((c : Thread nD τ).loc main_arg0) (ix2 B jv) = pv)
    (hps : m ((c : Thread nD τ).loc main_arg4) (ix5 0 B h d u) = ps) :
    states m c (ix4 B h d u) = Ideal.exp L * ps + pk * Ideal.exp (L - L) * pv := by
  subst hL hpk hpv hps
  unfold states newState
  rw [stepped_at _ _ _ B h d u j hj jk jv hk hv, logDecay_at]

/-- The piece the body stores for sequence `s` of the block and head `h` is the new state there. -/
theorem piece (c : Dev nD) (t : Fin cfg0.N) (s : Fin 8) (h : Fin 4) (B : Fin 128) (hB : (B : ℕ) = 8 * t.val + s) (p : FVec Ideal S1x1x128x256 .f32)
    (isl : S8x512.Slices ![0, h * 128] S8x128) (ik : ∀ a, ![0, h.val * 128] a + S8x128.size a ≤ S8x512.size a) (iv : ∀ a, ![0, h.val * 256] a + S8x256.size a ≤ S8x1024.size a)
    (ist : ∀ a, ![s.val, h.val, 0, 0] a + S1x1x128x256.size a ≤ S8x4x128x256.size a)
    (hp : p = item (BitVec.ofNat 32 s.val) (iblk m c 8 t) (extractStridedSlice (s := S8x512) S8x128 ![0, h * 128] (k0_pay2 (F := Ideal) (iblk m c 4 t) (iblk m c 5 t) (iblk m c 6 t)) isl)
      (View.ld (X0_1 m c t) (Rect.unit (s := S8x512) ![0, h * 128] S8x128.size ik)) (View.ld (X0_2 m c t) (Rect.unit (s := S8x1024) ![0, h * 256] S8x256.size iv))
      (View.ld (iblk m c 10 t) (Rect.unit (s := S8x4x128x256) ![s, h, 0, 0] S1x1x128x256.size ist)))
    (x : S1x1x128x256.Idx) (h' : Fin 4) (d' : Fin 128) (u' : Fin 256) (e1 : (h' : ℕ) = h) (e2 : (d' : ℕ) = (x 2 : Fin 128)) (e3 : (u' : ℕ) = (x 3 : Fin 256)) :
    p x = states m c (ix4 B h' d' u') := by
  obtain ⟨z, z', d, u, rfl⟩ : ∃ (z z' : Fin 1) (d : Fin 128) (u : Fin 256), x = ix4 z z' d u := ⟨x 0, x 1, x 2, x 3, eq_ix4 x⟩
  obtain rfl : z = 0 := Subsingleton.elim _ _
  obtain rfl : z' = 0 := Subsingleton.elim _ _
  obtain rfl : h' = h := Fin.ext e1
  obtain rfl : d' = d := Fin.ext e2
  obtain rfl : u' = u := Fin.ext e3
  have hL : extractStridedSlice (s := S8x512) S8x128 ![0, h' * 128] (k0_pay2 (F := Ideal) (iblk m c 4 t) (iblk m c 5 t) (iblk m c 6 t)) isl (ix2 s d')
      = act (preGate (m ((c : Thread nD τ).loc main_arg0)) (m ((c : Thread nD τ).loc main_arg1)) (m ((c : Thread nD τ).loc main_arg2)) (ix2 B ⟨h' * 128 + d', by omega⟩)) := by
    refine Eq.trans ?_ (gate_at m c t s ⟨h' * 128 + d', by omega⟩ B hB)
    unfold extractStridedSlice
    refine congrArg (k0_pay2 (F := Ideal) (iblk m c 4 t) (iblk m c 5 t) (iblk m c 6 t)) ?_
    funext a
    match a with
    | ⟨0, _⟩ => exact Fin.ext (Nat.zero_add _)
    | ⟨1, _⟩ => exact Fin.ext rfl
  have hk : View.ld (X0_1 m c t) (Rect.unit (s := S8x512) ![0, h' * 128] S8x128.size ik) (ix2 s d') = m ((c : Thread nD τ).loc main_arg0) (ix2 B ⟨5632 + (h' * 128 + d'), by omega⟩) := by
    refine Eq.trans (congrArg (X0_1 m c t) ?_) (key_at m c t s ⟨h' * 128 + d', by omega⟩ B hB)
    funext a
    match a with
    | ⟨0, _⟩ => exact Fin.ext ((Rect.idx_unit_val _ _ _ _ _).trans (Nat.zero_add _))
    | ⟨1, _⟩ => exact Fin.ext (Rect.idx_unit_val _ _ _ _ _)
  have hv : View.ld (X0_2 m c t) (Rect.unit (s := S8x1024) ![0, h' * 256] S8x256.size iv) (ix2 s u') = m ((c : Thread nD τ).loc main_arg0) (ix2 B ⟨1024 + (h' * 256 + u'), by omega⟩) := by
    refine Eq.trans (congrArg (X0_2 m c t) ?_) (value_at m c t s ⟨h' * 256 + u', by omega⟩ B hB)
    funext a
    match a with
    | ⟨0, _⟩ => exact Fin.ext ((Rect.idx_unit_val _ _ _ _ _).trans (Nat.zero_add _))
    | ⟨1, _⟩ => exact Fin.ext (Rect.idx_unit_val _ _ _ _ _)
  have hs : View.ld (iblk m c 10 t) (Rect.unit (s := S8x4x128x256) ![s, h', 0, 0] S1x1x128x256.size ist) (ix4 0 0 d' u') = m ((c : Thread nD τ).loc main_arg4) (ix5 0 B h' d' u') := by
    refine Eq.trans (congrArg (iblk m c 10 t) ?_) (state_at m c t s h' d' u' B hB)
    funext a
    match a with
    | ⟨0, _⟩ => exact Fin.ext (Rect.idx_unit_val _ _ _ _ _)
    | ⟨1, _⟩ => exact Fin.ext (Rect.idx_unit_val _ _ _ _ _)
    | ⟨2, _⟩ => exact Fin.ext ((Rect.idx_unit_val _ _ _ _ _).trans (Nat.zero_add _))
    | ⟨3, _⟩ => exact Fin.ext ((Rect.idx_unit_val _ _ _ _ _).trans (Nat.zero_add _))
  rw [hp, states_at m c B h' d' u' ⟨h' * 128 + d', by omega⟩ rfl ⟨5632 + (h' * 128 + d'), by omega⟩ ⟨1024 + (h' * 256 + u'), by omega⟩ rfl rfl _ hL.symm _ _ _ hk.symm hv.symm hs.symm]
  exact item_at s _ _ _ _ _ d' u' (table_at m c t s).1 (table_at m c t s).2 (by rw [hL]; exact act_ne_top _)

/-- Block `t` of the new states. -/
theorem block12 (c : Dev nD) (t : Fin cfg0.N) (y : S8x4x128x256.Idx) (B : Fin 128) (hB : (B : ℕ) = 8 * t.val + (y 0 : Fin 8)) :
    (dats m 0 c).after 12 t y = states m c (ix4 B (y 1) (y 2) (y 3)) := by
  rw [after0_12]
  unfold outsAt0
  frame_out
  canon_tiles x h
  · exact piece m c t 7 3 B (hB.trans (by omega)) _ slices_S8x512_o0_384_S8x128 _ _ _ rfl x _ _ _ (h1.trans (by omega)) h2 h3
  · exact piece m c t 7 2 B (hB.trans (by omega)) _ slices_S8x512_o0_256_S8x128 _ _ _ rfl x _ _ _ (h1.trans (by omega)) h2 h3
  · exact piece m c t 7 1 B (hB.trans (by omega)) _ slices_S8x512_o0_128_S8x128 _ _ _ rfl x _ _ _ (h1.trans (by omega)) h2 h3
  · exact piece m c t 7 0 B (hB.trans (by omega)) _ slices_S8x512_o0_0_S8x128 _ _ _ rfl x _ _ _ (h1.trans (by omega)) h2 h3
  · exact piece m c t 6 3 B (hB.trans (by omega)) _ slices_S8x512_o0_384_S8x128 _ _ _ rfl x _ _ _ (h1.trans (by omega)) h2 h3
  · exact piece m c t 6 2 B (hB.trans (by omega)) _ slices_S8x512_o0_256_S8x128 _ _ _ rfl x _ _ _ (h1.trans (by omega)) h2 h3
  · exact piece m c t 6 1 B (hB.trans (by omega)) _ slices_S8x512_o0_128_S8x128 _ _ _ rfl x _ _ _ (h1.trans (by omega)) h2 h3
  · exact piece m c t 6 0 B (hB.trans (by omega)) _ slices_S8x512_o0_0_S8x128 _ _ _ rfl x _ _ _ (h1.trans (by omega)) h2 h3
  · exact piece m c t 5 3 B (hB.trans (by omega)) _ slices_S8x512_o0_384_S8x128 _ _ _ rfl x _ _ _ (h1.trans (by omega)) h2 h3
  · exact piece m c t 5 2 B (hB.trans (by omega)) _ slices_S8x512_o0_256_S8x128 _ _ _ rfl x _ _ _ (h1.trans (by omega)) h2 h3
  · exact piece m c t 5 1 B (hB.trans (by omega)) _ slices_S8x512_o0_128_S8x128 _ _ _ rfl x _ _ _ (h1.trans (by omega)) h2 h3
  · exact piece m c t 5 0 B (hB.trans (by omega)) _ slices_S8x512_o0_0_S8x128 _ _ _ rfl x _ _ _ (h1.trans (by omega)) h2 h3
  · exact piece m c t 4 3 B (hB.trans (by omega)) _ slices_S8x512_o0_384_S8x128 _ _ _ rfl x _ _ _ (h1.trans (by omega)) h2 h3
  · exact piece m c t 4 2 B (hB.trans (by omega)) _ slices_S8x512_o0_256_S8x128 _ _ _ rfl x _ _ _ (h1.trans (by omega)) h2 h3
  · exact piece m c t 4 1 B (hB.trans (by omega)) _ slices_S8x512_o0_128_S8x128 _ _ _ rfl x _ _ _ (h1.trans (by omega)) h2 h3
  · exact piece m c t 4 0 B (hB.trans (by omega)) _ slices_S8x512_o0_0_S8x128 _ _ _ rfl x _ _ _ (h1.trans (by omega)) h2 h3
  · exact piece m c t 3 3 B (hB.trans (by omega)) _ slices_S8x512_o0_384_S8x128 _ _ _ rfl x _ _ _ (h1.trans (by omega)) h2 h3
  · exact piece m c t 3 2 B (hB.trans (by omega)) _ slices_S8x512_o0_256_S8x128 _ _ _ rfl x _ _ _ (h1.trans (by omega)) h2 h3
  · exact piece m c t 3 1 B (hB.trans (by omega)) _ slices_S8x512_o0_128_S8x128 _ _ _ rfl x _ _ _ (h1.trans (by omega)) h2 h3
  · exact piece m c t 3 0 B (hB.trans (by omega)) _ slices_S8x512_o0_0_S8x128 _ _ _ rfl x _ _ _ (h1.trans (by omega)) h2 h3
  · exact piece m c t 2 3 B (hB.trans (by omega)) _ slices_S8x512_o0_384_S8x128 _ _ _ rfl x _ _ _ (h1.trans (by omega)) h2 h3
  · exact piece m c t 2 2 B (hB.trans (by omega)) _ slices_S8x512_o0_256_S8x128 _ _ _ rfl x _ _ _ (h1.trans (by omega)) h2 h3
  · exact piece m c t 2 1 B (hB.trans (by omega)) _ slices_S8x512_o0_128_S8x128 _ _ _ rfl x _ _ _ (h1.trans (by omega)) h2 h3
  · exact piece m c t 2 0 B (hB.trans (by omega)) _ slices_S8x512_o0_0_S8x128 _ _ _ rfl x _ _ _ (h1.trans (by omega)) h2 h3
  · exact piece m c t 1 3 B (hB.trans (by omega)) _ slices_S8x512_o0_384_S8x128 _ _ _ rfl x _ _ _ (h1.trans (by omega)) h2 h3
  · exact piece m c t 1 2 B (hB.trans (by omega)) _ slices_S8x512_o0_256_S8x128 _ _ _ rfl x _ _ _ (h1.trans (by omega)) h2 h3
  · exact piece m c t 1 1 B (hB.trans (by omega)) _ slices_S8x512_o0_128_S8x128 _ _ _ rfl x _ _ _ (h1.trans (by omega)) h2 h3
  · exact piece m c t 1 0 B (hB.trans (by omega)) _ slices_S8x512_o0_0_S8x128 _ _ _ rfl x _ _ _ (h1.trans (by omega)) h2 h3
  · exact piece m c t 0 3 B (hB.trans (by omega)) _ slices_S8x512_o0_384_S8x128 _ _ _ rfl x _ _ _ (h1.trans (by omega)) h2 h3
  · exact piece m c t 0 2 B (hB.trans (by omega)) _ slices_S8x512_o0_256_S8x128 _ _ _ rfl x _ _ _ (h1.trans (by omega)) h2 h3
  · exact piece m c t 0 1 B (hB.trans (by omega)) _ slices_S8x512_o0_128_S8x128 _ _ _ rfl x _ _ _ (h1.trans (by omega)) h2 h3
  · exact piece m c t 0 0 B (hB.trans (by omega)) _ slices_S8x512_o0_0_S8x128 _ _ _ rfl x _ _ _ (h1.trans (by omega)) h2 h3

/-- The new states' array after the kernel. -/
theorem final12 (c : Dev nD) : (dats m 0 c).arrAt 12 (cfgs 0).N = states m c := by
  refine (dats m 0 c).arrAt_eq_of_covers 12 _ (by decide +kernel) fun t _ y => ?_
  have ht : t.val < 16 := lt_of_lt_of_eq t.isLt N_0
  have hy : (y 0).val < 8 := (y 0).isLt
  blk_simp
  have he : (((View.whole main_v8_1).slice (win0_12.rect t)).emb y) = ix4 (⟨8 * t.val + (y 0).val, by omega⟩ : Fin 128) (y 1) (y 2) (y 3) := by
    blk_ext [idx_at t]
  rw [he]
  exact block12 m c t y _ rfl

end Cert.GlaIdeal.Value
-- ==== Proof.GlaClaim.lean ====
module

public import proofs.«01_k».proof.Proof.GlaFinal
public import proofs.«01_k».proof.Defs
public import proofs.«01_k».proof.Proof.Gen.Gla.Frame

@[expose] public section

set_option maxRecDepth 16384

noncomputable section

/-! The claim about the states of the sample's linear attention. -/

namespace Cert.Proof

open Idealize.ShloMosaic Idealize.SL.Sem

/-- At the real numbers the kernel's new states are the reference's. -/
theorem algebraic_Gla : Cert.algebraic_GlaIdeal_GlaRefIdeal := by
  pair_intro
  · run_from Cert.GlaIdeal.Gen.run_main m g
    all_goals first
      | exact Cert.GlaIdeal.Gen.V_main_arg1 m c
      | exact Cert.GlaIdeal.Gen.V_main_arg2 m c
      | exact Cert.GlaIdeal.Gen.V_main_arg3 m c
      | exact Cert.GlaIdeal.Gen.V_main_arg4 m c
  · run_from Cert.GlaRefIdeal.Value.run_terms m' g'
    · exact (Cert.GlaIdeal.Value.final12 m c).symm

end Cert.Proof
-- ==== Proof.GlaMath.lean ====
module

public import proofs.«01_k».proof.Proof.GlaRef

@[expose] public section

noncomputable section

/-! The state of the linear attention after some tokens, and how a chunk of further tokens changes it: the decays are real
    and positive, so they distribute over sums of any extended reals. -/

namespace Cert.GlaMath

open Idealize.ShloMosaic Finset
open Cert.GlaRefIdeal.Value (act)

/-- The logarithms' running sum over the first `n` tokens. -/
def run (L : ℕ → ℝ) (n : ℕ) : ℝ := ∑ i ∈ range n, L i

/-- The state's entry after `n` tokens. -/
def total (L : ℕ → ℝ) (K V : ℕ → EReal) (n : ℕ) : EReal :=
  ∑ i ∈ range n, K i * ((Real.exp (run L n - run L (i + 1)) : ℝ) : EReal) * V i

/-- A real number that is not negative distributes over a sum. -/
theorem coe_mul_sum (c : ℝ) (hc : 0 ≤ c) (s : Finset ℕ) (f : ℕ → EReal) : (c : EReal) * ∑ i ∈ s, f i = ∑ i ∈ s, (c : EReal) * f i := by
  classical
  induction s using Finset.induction_on with
  | empty => simp
  | insert a s ha ih => rw [sum_insert ha, sum_insert ha, EReal.left_distrib_of_nonneg_of_ne_top (EReal.coe_nonneg.mpr hc) (EReal.coe_ne_top c), ih]

/-- A chunk of `k` tokens decays the state and adds to it. -/
theorem total_add (L : ℕ → ℝ) (K V : ℕ → EReal) (n k : ℕ) :
    total L K V (n + k) = ((Real.exp (run L (n + k) - run L n) : ℝ) : EReal) * total L K V n
      + ∑ r ∈ range k, K (n + r) * ((Real.exp ((run L (n + k) - run L n) - (run L (n + (r + 1)) - run L n)) : ℝ) : EReal) * V (n + r) := by
  unfold total
  rw [sum_range_add, coe_mul_sum _ (Real.exp_pos _).le]
  refine congrArg₂ (· + ·) (sum_congr rfl fun i _ => ?_) (sum_congr rfl fun r _ => ?_)
  · rw [show run L (n + k) - run L (i + 1) = (run L (n + k) - run L n) + (run L n - run L (i + 1)) by ring, Real.exp_add, EReal.coe_mul, mul_left_comm, mul_assoc, mul_assoc]
  · rw [sub_sub_sub_cancel_right, add_assoc]

/-- The running sum over a chunk. -/
theorem run_add (L : ℕ → ℝ) (n k : ℕ) : run L (n + k) - run L n = ∑ r ∈ range k, L (n + r) := by
  unfold run
  rw [sum_range_add, add_sub_cancel_left]

/-- Before the first token the state is zero. -/
theorem total_zero (L : ℕ → ℝ) (K V : ℕ → EReal) : total L K V 0 = 0 := by
  simp [total]

/-- The coercion of a finite sum of reals. -/
theorem coe_sum (s : Finset ℕ) (f : ℕ → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- The logarithm of a decay is real where the gate is. -/
theorem act_real (r : ℝ) : ∃ l : ℝ, act (r : EReal) = (l : EReal) := by
  have h16 : Ideal.ofBits .f32 0x41800000#32 = ((16 : ℝ) : EReal) := by
    simp [Ideal.ofBits, Ideal.ieee]
    rw [← EReal.coe_mul]
    norm_num
  have hmax : ∀ x y : ℝ, max (x : EReal) (y : EReal) = ((max x y : ℝ) : EReal) := fun x y => (EReal.coe_strictMono.monotone.map_max).symm
  have hlog : ∀ x : ℝ, 0 < x → Ideal.log (x : EReal) = ((Real.log x : ℝ) : EReal) := fun x hx => if_neg (not_le.mpr hx)
  have hexp : ∀ x : ℝ, Ideal.exp (x : EReal) = ((Real.exp x : ℝ) : EReal) := fun x => rfl
  unfold act
  rw [h16, ← EReal.coe_neg, hmax, ← EReal.coe_neg, hexp, ← EReal.coe_zero, hmax, ← EReal.coe_one, ← EReal.coe_add, hlog _ (by positivity), ← EReal.coe_add, ← EReal.coe_neg]
  unfold Ideal.div
  rw [if_neg (by norm_num), ← EReal.coe_inv, ← EReal.coe_mul]
  exact ⟨_, rfl⟩

end Cert.GlaMath
-- ==== Proof.GlaPromptRef.lean ====
module

public import proofs.«01_k».proof.Proof.Gen.GlaPromptRefIdeal.Run
public import proofs.«01_k».proof.Proof.GlaMath
public import Idealize.ShloMosaic.Lib.Pointwise

@[expose] public section

set_option maxRecDepth 16384

noncomputable section

/-! The states of the prompt's linear attention after its last token, as the reference computes them: the sequence is one
    chunk, whose logarithms of decays are summed, and whose keys are decayed to its end. -/

namespace Cert.GlaPromptRefIdeal.Value

open Idealize.ShloMosaic Idealize.ShloMosaic.TcCoe Idealize.SL.Sem Finset
open Cert.GlaPromptRefIdeal Cert.GlaPromptRefIdeal.Gen
open Cert.GlaRefIdeal.Value (act zero_bits)
open Cert.GlaMath

/-- The gate before its activation: the projection's gate columns times the gate's weight, plus its bias. -/
def preGate (p : FVec Ideal S32768x6784 .bf16) (w : FVec Ideal S1x16x512 .f32) (b : FVec Ideal S1x512 .f32) : FVec Ideal S32768x512 .f32 :=
  addf (Host.dotGeneral dot_S32768x16_S16x512_S32768x512_1_0_0_1_n_n none (extractStridedSlice S32768x16 ![0, 6656] (extf .f32 p bitsLt_bf16_f32) slices_S32768x6784_S32768x16_0_6656) (shapeCast _ w shapeCasts_S1x16x512_S16x512)) (broadcastInDim S32768x512 ![0, 1] bcast_S1x512_S32768x512_0_1 (broadcastInDim S1x512 ![1] bcast_S512_S1x512_1 (shapeCast _ b shapeCasts_S1x512_S512)))

/-- The zero that the activation compares with. -/
abbrev zeros : FVec Ideal S32768x512 .f32 := broadcastInDim S32768x512 ![] bcast_S_S32768x512 (constant S_ .f32 0x00000000#32)

/-- The logarithm of the decay: a sixteenth of the gate's log-sigmoid. -/
def logDecay (z : FVec Ideal S32768x512 .f32) : FVec Ideal S32768x512 .f32 :=
  Host.divf (Host.negf (select (cmpf .une (subf (Host.negf z) zeros) (subf (Host.negf z) zeros)) (addf (Host.negf z) zeros) (addf (maximumf (Host.negf z) zeros) (Host.log1p (Host.exp (Host.negf (Host.absf (subf (Host.negf z) zeros)))))))) (broadcastInDim S32768x512 ![] bcast_S_S32768x512 (constant S_ .f32 0x41800000#32))

/-- The running sum of the logarithms over the sequence. -/
def summed (g : FVec Ideal S32768x512 .f32) : FVec Ideal S4x4x8192x128 .f32 :=
  Host.reduceWindowAdd ![1, 1, 8192, 1] ![1, 1, 1, 1] ![0, 0, 8191, 0] ![0, 0, 0, 0] (transpose S4x4x8192x128 [0, 2, 1, 3] (shapeCast _ g shapeCasts_S32768x512_S4x8192x4x128) transposes_S4x8192x4x128_S4x4x8192x128_0_2_1_3) (broadcastInDim S_ ![] bcast_S_S_ (constant S_ .f32 0x00000000#32)) reduceWindows_S4x4x8192x128_S4x4x8192x128_w1s1p0_0_w1s1p0_0_w8192s1p8191_0_w1s1p0_0 h_S_

/-- The keys by head. -/
def keys (p : FVec Ideal S32768x6784 .bf16) : FVec Ideal S4x4x8192x128 .f32 :=
  transpose S4x4x8192x128 [0, 2, 1, 3] (shapeCast _ (extractStridedSlice S32768x512 ![0, 5632] (extf .f32 p bitsLt_bf16_f32) slices_S32768x6784_S32768x512_0_5632) shapeCasts_S32768x512_S4x8192x4x128) transposes_S4x8192x4x128_S4x4x8192x128_0_2_1_3

/-- The values by head. -/
def values (p : FVec Ideal S32768x6784 .bf16) : FVec Ideal S4x4x8192x256 .f32 :=
  transpose S4x4x8192x256 [0, 2, 1, 3] (shapeCast _ (extractStridedSlice S32768x1024 ![0, 1024] (extf .f32 p bitsLt_bf16_f32) slices_S32768x6784_S32768x1024_0_1024) shapeCasts_S32768x1024_S4x8192x4x256) transposes_S4x8192x4x256_S4x4x8192x256_0_2_1_3

/-- The last states from the summed logarithms, the keys and the values. -/
def stepped (b : FVec Ideal S4x4x8192x128 .f32) (k : FVec Ideal S4x4x8192x128 .f32) (v : FVec Ideal S4x4x8192x256 .f32) : FVec Ideal S4x4x128x256 .f32 :=
  addf (mulf (broadcastInDim S4x4x128x256 ![0, 1, 2, 3] bcast_S4x4x128x1_S4x4x128x256_0_1_2_3 (broadcastInDim S4x4x128x1 ![0, 1, 2] bcast_S4x4x128_S4x4x128x1_0_1_2 (Host.exp (shapeCast _ (extractStridedSlice S4x4x1x128 ![0, 0, 8191, 0] b slices_S4x4x8192x128_S4x4x1x128_0_0_8191_0) shapeCasts_S4x4x1x128_S4x4x128)))) (broadcastInDim S4x4x128x256 ![] bcast_S_S4x4x128x256 (constant S_ .f32 0x00000000#32))) (Host.dotGeneral dot_S4x4x8192x128_S4x4x8192x256_S4x4x128x256_2_2_3_3_01_01 none (mulf k (Host.exp (subf (broadcastInDim S4x4x8192x128 ![0, 1, 2, 3] bcast_S4x4x1x128_S4x4x8192x128_0_1_2_3 (extractStridedSlice S4x4x1x128 ![0, 0, 8191, 0] b slices_S4x4x8192x128_S4x4x1x128_0_0_8191_0)) b))) v)

/-- The last states from the projection and the gate's weight and bias. -/
def lastState (p : FVec Ideal S32768x6784 .bf16) (w : FVec Ideal S1x16x512 .f32) (b : FVec Ideal S1x512 .f32) : FVec Ideal S4x4x128x256 .f32 :=
  stepped (summed (logDecay (preGate p w b))) (keys p) (values p)

section Run

variable (m : (ℓ : Loc nD τ sig) → Buf (Elt Ideal) ℓ) (ρ : Dev nD → PrngReg)

set_option maxHeartbeats 2000000 in
/-- The reference program ends with the last states, and its arguments are unchanged. -/
theorem run_terms : θ_run defs (onTc (τ := τ) (main (F := Ideal))) ⟨m, fun _ => 0, ρ⟩ fun r => ∀ c : Dev nD,
      r.2.mem ((c.tc : Thread nD τ).loc main_v32) = lastState (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run m ρ

end Run

/-- The logarithm of the decay at an index. -/
theorem logDecay_at (z : FVec Ideal S32768x512 .f32) (b : Fin 32768) (j : Fin 512) : logDecay z (ix2 b j) = act (z (ix2 b j)) := by
  pointwise [logDecay, zeros]
  rw [if_neg (fun h => h rfl)]
  change Ideal.div (-(max (-z (ix2 b j)) 0 + Ideal.log (1 + Ideal.exp (-max (-z (ix2 b j)) (- -z (ix2 b j)))))) _ = _
  rw [neg_neg, max_comm (-z (ix2 b j)) (z (ix2 b j))]
  rfl

/-- An addition of each entry of a list, as a sum. -/
theorem foldl_add {ι : Type} (F : ι → EReal) (l : List ι) (a : EReal) : l.foldl (fun r n => r + F n) a = a + (l.map F).sum := by
  induction l generalizing a with
  | nil => simp
  | cons x l ih => rw [List.foldl_cons, ih, List.map_cons, List.sum_cons, add_assoc]

/-- The shape of a window of tokens. -/
abbrev Win : Shape := ⟨S4x4x8192x128.rank, ![1, 1, 8192, 1]⟩

/-- A window's places are its tokens. -/
def winEquiv : Fin 8192 ≃ Win.Idx where
  toFun k := fun a => ⟨![0, 0, k.val, 0] a, by fin_cases a; exacts [Nat.zero_lt_one, Nat.zero_lt_one, k.isLt, Nat.zero_lt_one]⟩
  invFun w := ⟨(w (2 : Fin 4)).val, (w (2 : Fin 4)).isLt⟩
  left_inv k := rfl
  right_inv w := by
    funext a
    apply Fin.ext
    have h0 := (w (0 : Fin 4)).isLt
    have h1 := (w (1 : Fin 4)).isLt
    have h3 := (w (3 : Fin 4)).isLt
    fin_cases a
    · exact (Nat.lt_one_iff.mp h0).symm
    · exact (Nat.lt_one_iff.mp h1).symm
    · rfl
    · exact (Nat.lt_one_iff.mp h3).symm

/-- A sum over the window that ends at token `i` is the sum over the tokens up to it. -/
theorem window_sum (X : ℕ → EReal) (i : ℕ) (hi : i < 8192) :
    ∑ k : Fin 8192, (if 8191 ≤ i + k.val then X (i + k.val - 8191) else 0) = ∑ t ∈ range (i + 1), X t := by
  rw [Fin.sum_univ_eq_sum_range (fun k => if 8191 ≤ i + k then X (i + k - 8191) else 0) 8192,
    show 8192 = (8191 - i) + (i + 1) by omega, sum_range_add, sum_eq_zero, zero_add]
  · exact sum_congr rfl fun t _ => by rw [if_pos (by omega)]; exact congrArg X (by omega)
  · intro k hk
    exact if_neg (by have := mem_range.mp hk; omega)

/-- A column of a sequence's tokens. -/
def tok {n : ℕ} (g : (⟨2, ![32768, n]⟩ : Shape).Idx → EReal) (b : Fin 4) (j : Fin n) (t : ℕ) : EReal :=
  if h : t < 8192 then g (ix2 (⟨8192 * b + t, by omega⟩ : Fin 32768) j) else 0

theorem tok_of {n : ℕ} (g : (⟨2, ![32768, n]⟩ : Shape).Idx → EReal) (b : Fin 4) (j : Fin n) (t : ℕ) (R : Fin 32768) (h : t < 8192) (hR : (R : ℕ) = 8192 * b + t) :
    tok g b j t = g (ix2 R j) := by
  unfold tok
  rw [dif_pos h]
  exact congrArg (fun a => g (ix2 a j)) (Fin.ext hR.symm)

/-- The running sum at an index. -/
theorem summed_at (g : FVec Ideal S32768x512 .f32) (b : Fin 4) (h : Fin 4) (i : Fin 8192) (d : Fin 128) (j : Fin 512) (hj : (j : ℕ) = h * 128 + d) :
    summed g (ix4 b h i d) = ∑ t ∈ range (i.val + 1), tok g b j t := by
  unfold summed Host.reduceWindowAdd
  rw [Ideal.hostReduceWindowAdd_def]
  unfold Ideal.hostReduceWindowAdd Host.reduceWindow
  refine (foldl_add _ _ _).trans ?_
  rw [show broadcastInDim S_ ![] bcast_S_S_ (constant (F := Ideal) S_ .f32 0x00000000#32) (Shape.Idx.first h_S_) = 0 from zero_bits, zero_add, ← Fin.sum_univ_def,
    ← window_sum (tok g b j) i.val i.isLt]
  refine (Fintype.sum_equiv (winEquiv.trans Win.rowMajor) _ _ fun k => ?_).symm
  dsimp only
  have wv : ∀ a : Fin 4, (Win.rowMajor.symm ((winEquiv.trans Win.rowMajor) k) a).val = ![0, 0, k.val, 0] a := fun a => by
    rw [Equiv.trans_apply, Equiv.symm_apply_apply]
    rfl
  by_cases hk : 8191 ≤ i.val + k.val
  · rw [if_pos hk]
    have h3 : ∀ a : Fin 4, (ix4 b h i d (Fin.cast rfl a)).val * ![1, 1, 1, 1] a + (Win.rowMajor.symm ((winEquiv.trans Win.rowMajor) k) a).val - ![0, 0, 8191, 0] a = (ix4 b h (⟨i.val + k.val - 8191, by omega⟩ : Fin 8192) d a).val := fun a => by
      rw [wv]
      fin_cases a
      · simp
      · simp
      · exact congrArg (fun n => n + k.val - 8191) (Nat.mul_one _)
      · simp
    rw [dif_pos (fun a => ⟨by
      fin_cases a
      · exact Nat.zero_le _
      · exact Nat.zero_le _
      · exact hk.trans (le_of_eq (congrArg₂ (· + ·) (Nat.mul_one _).symm (wv 2).symm))
      · exact Nat.zero_le _, (h3 a).trans_lt (ix4 b h (⟨i.val + k.val - 8191, by omega⟩ : Fin 8192) d a).isLt⟩)]
    refine Eq.trans ?_ (congrArg (transpose S4x4x8192x128 [0, 2, 1, 3] (shapeCast S4x8192x4x128 g shapeCasts_S32768x512_S4x8192x4x128) transposes_S4x8192x4x128_S4x4x8192x128_0_2_1_3)
      (funext fun a => Fin.ext (h3 a) : _ = ix4 b h (⟨i.val + k.val - 8191, by omega⟩ : Fin 8192) d)).symm
    symm
    pointwise
    refine (congrArg₂ (fun a c => g (ix2 a c)) ?_ ?_).trans (tok_of g b j _ (⟨8192 * b + (i.val + k.val - 8191), by omega⟩ : Fin 32768) (by omega) rfl).symm
    · exact Fin.ext (by simp only []; omega)
    · exact Fin.ext (by simp only []; omega)
  · rw [if_neg hk, dif_neg (fun hh => hk ((hh (2 : Fin 4)).1.trans (le_of_eq (congrArg₂ (· + ·) (Nat.mul_one _) (wv 2)))))]

/-- The last states at an index, where the logarithms are real. -/
theorem stepped_at (g : FVec Ideal S32768x512 .f32) (p : FVec Ideal S32768x6784 .bf16) (L : ℕ → ℝ) (b : Fin 4) (h : Fin 4) (d : Fin 128) (u : Fin 256)
    (j : Fin 512) (hj : (j : ℕ) = h * 128 + d) (jk jv : Fin 6784) (hk : (jk : ℕ) = 5632 + (h * 128 + d)) (hv : (jv : ℕ) = 1024 + (h * 256 + u))
    (hL : ∀ t < 8192, tok g b j t = (L t : EReal)) :
    stepped (summed g) (keys p) (values p) (ix4 b h d u) = total L (tok p b jk) (tok p b jv) 8192 := by
  have hs : ∀ i : Fin 8192, summed g (ix4 b h i d) = ((GlaMath.run L (i.val + 1) : ℝ) : EReal) := fun i => by
    rw [summed_at g b h i d j hj, GlaMath.run, coe_sum]
    exact sum_congr rfl fun t ht => hL t (by have := mem_range.mp ht; omega)
  have hexp : ∀ x : ℝ, Ideal.exp (x : EReal) = ((Real.exp x : ℝ) : EReal) := fun x => rfl
  pointwise [stepped, keys, values]
  rw [mul_zero, zero_add]
  unfold total
  rw [← Fin.sum_univ_eq_sum_range (fun i => tok p b jk i * ((Real.exp (GlaMath.run L 8192 - GlaMath.run L (i + 1)) : ℝ) : EReal) * tok p b jv i) 8192]
  refine Fintype.sum_congr _ _ fun i => ?_
  rw [hs i, show summed g (ix4 b h (8191 : Fin 8192) d) = ((GlaMath.run L 8192 : ℝ) : EReal) from hs 8191, ← EReal.coe_sub, hexp,
    tok_of p b jk i.val (⟨b.val * 8192 + i.val, by omega⟩ : Fin 32768) i.isLt (congrArg (· + i.val) (Nat.mul_comm _ _)),
    tok_of p b jv i.val (⟨b.val * 8192 + i.val, by omega⟩ : Fin 32768) i.isLt (congrArg (· + i.val) (Nat.mul_comm _ _))]
  exact congrArg₂ (fun a c => p (ix2 _ a) * _ * p (ix2 _ c)) (Fin.ext hk.symm) (Fin.ext hv.symm)

/-- The gate before its activation at an index. -/
theorem preGate_at (p : FVec Ideal S32768x6784 .bf16) (w : FVec Ideal S1x16x512 .f32) (b : FVec Ideal S1x512 .f32) (B : Fin 32768) (j : Fin 512) :
    preGate p w b (ix2 B j) = (∑ k : Fin 16, p (ix2 B ⟨6656 + k, by omega⟩) * w (ix3 0 k j)) + b (ix2 0 j) := by
  pointwise [preGate]

end Cert.GlaPromptRefIdeal.Value
-- ==== Proof.GlaPromptItem.lean ====
module

public import proofs.«01_k».proof.Proof.GlaPromptRef
public import proofs.«01_k».proof.Proof.Gen.GlaPromptIdeal.Skeleton
public import Idealize.ShloMosaic.Lib.Pipeline.ValueKit

@[expose] public section

set_option maxRecDepth 16384

noncomputable section

/-! What the kernel computes for one head of a chunk of 256 tokens: the gate's logarithms are summed by a product with a
    table of ones, and the state is decayed and added to. -/

namespace Cert.GlaPromptIdeal.Value

open Idealize.ShloMosaic Idealize.ShloMosaic.TcCoe Idealize.SL.Sem Finset
open Cert.GlaPromptIdeal Cert.GlaPromptIdeal.Gen
open Cert.GlaMath

/-- The logarithms and their rounding remainders times the table. -/
abbrev products (tab : FVec Ideal S1792x256 .bf16) (la : FVec Ideal S256x128 .f32) : FVec Ideal S1792x256 .f32 :=
  matmul dot_S1792x256_S256x256_S1792x256_1_0_0_1_n_n none tab (concatenate S256x256 1 [⟨S256x128, truncf .bf16 la bitsLt_bf16_f32⟩, ⟨S256x128, truncf .bf16 (subf la (extf .f32 (truncf .bf16 la bitsLt_bf16_f32) bitsLt_bf16_f32)) bitsLt_bf16_f32⟩] concatenates_S256x128_S256x128_S256x256_d1) (constant S1792x256 .f32 0x00000000#32)

/-- The summed logarithms. -/
def cum (tab : FVec Ideal S1792x256 .bf16) (la : FVec Ideal S256x128 .f32) : FVec Ideal S1792x128 .f32 :=
  addf (extractStridedSlice S1792x128 ![0, 0] (products tab la) slices_S1792x256_o0_0_S1792x128) (extractStridedSlice S1792x128 ![0, 128] (products tab la) slices_S1792x256_o0_128_S1792x128)

/-- The decay of a state's rows, transposed to its rows. -/
abbrev decayRow (e : FVec Ideal S1792x128 .f32) : FVec Ideal S128x128 .f32 :=
  transpose S128x128 [1, 0] (broadcastTo S128x128 (shapeCast S1x128 (exp (extractStridedSlice S1x128 ![255, 0] e slices_S1792x128_o255_0_S1x128)) shapeCasts_S1x128_S1x128) broadcasts_S1x128_S128x128) transposes_S128x128_p1_0_S128x128

/-- The decay of a state. -/
def decay (e : FVec Ideal S1792x128 .f32) : FVec Ideal S128x256 .f32 :=
  concatenate S128x256 1 [⟨S128x128, decayRow e⟩, ⟨S128x128, decayRow e⟩] concatenates_S128x128_S128x128_S128x256_d1

/-- The keys, decayed to the chunk's end. -/
def scaled (e : FVec Ideal S1792x128 .f32) (k : FVec Ideal S256x128 .bf16) : FVec Ideal S128x256 .bf16 :=
  truncf .bf16 (transpose S128x256 [1, 0] (mulf (extf .f32 k bitsLt_bf16_f32) (exp (subf (broadcastTo S256x128 (extractStridedSlice S1x128 ![255, 0] e slices_S1792x128_o255_0_S1x128) broadcasts_S1x128_S256x128) (extractStridedSlice S256x128 ![0, 0] e slices_S1792x128_o0_0_S256x128)))) transposes_S256x128_p1_0_S128x256) bitsLt_bf16_f32

/-- The new state of a head. -/
def item (tab : FVec Ideal S1792x256 .bf16) (la : FVec Ideal S256x128 .f32) (k : FVec Ideal S256x128 .bf16) (v : FVec Ideal S256x256 .bf16) (st : FVec Ideal S1x128x256 .f32) : FVec Ideal S1x128x256 .f32 :=
  shapeCast S1x128x256 (addf (mulf (decay (cum tab la)) (shapeCast S128x256 st shapeCasts_S1x128x256_S128x256)) (matmul dot_S128x256_S256x256_S128x256_1_0_0_1_n_n none (scaled (cum tab la) k) v (constant S128x256 .f32 0x00000000#32))) shapeCasts_S128x256_S1x128x256

/-- A sum of the terms up to `i`. -/
theorem sum_upto (f : ℕ → ℝ) (i : ℕ) (hi : i < 256) : ∑ u : Fin 256, (if u.val ≤ i then (1 : EReal) else 0) * (f u.val : EReal) = ((∑ r ∈ range (i + 1), f r : ℝ) : EReal) := by
  rw [Fin.sum_univ_eq_sum_range (fun u => (if u ≤ i then (1 : EReal) else 0) * (f u : EReal)) 256, coe_sum,
    show 256 = (i + 1) + (255 - i) by omega, sum_range_add]
  rw [sum_congr rfl (fun r hr => by rw [if_pos (by have := mem_range.mp hr; omega), one_mul] : ∀ r ∈ range (i + 1), _ = (f r : EReal)),
    sum_eq_zero (fun r _ => by rw [if_neg (by omega), zero_mul] : ∀ r ∈ range (255 - i), _ = (0 : EReal)), add_zero]

/-- The summed logarithms at an index. -/
theorem cum_at (tab : FVec Ideal S1792x256 .bf16) (la : FVec Ideal S256x128 .f32) (f : ℕ → ℝ) (i : Fin 256) (d : Fin 128)
    (ht : ∀ u : Fin 256, tab (ix2 (⟨i, by omega⟩ : Fin 1792) u) = if u.val ≤ i.val then 1 else 0) (hla : ∀ r : Fin 256, la (ix2 r d) = (f r.val : EReal)) :
    cum tab la (ix2 (⟨i, by omega⟩ : Fin 1792) d) = ((∑ r ∈ range (i.val + 1), f r : ℝ) : EReal) := by
  pointwise [cum, products]
  simp only [ht, hla]
  rw [sum_upto f i.val i.isLt, sum_eq_zero (s := univ) (fun u _ => by rw [← EReal.coe_sub, sub_self, EReal.coe_zero, mul_zero]), add_zero]

/-- The decay of a state at an index. -/
theorem decay_at (e : FVec Ideal S1792x128 .f32) (d : Fin 128) (u : Fin 256) : decay e (ix2 d u) = Ideal.exp (e (ix2 255 d)) := by
  pointwise [decay, decayRow]
  by_cases h : (u : ℕ) < 128
  · exact dif_pos h
  · exact dif_neg h

/-- The decayed keys at an index. -/
theorem scaled_at (e : FVec Ideal S1792x128 .f32) (k : FVec Ideal S256x128 .bf16) (d : Fin 128) (r : Fin 256) :
    scaled e k (ix2 d r) = k (ix2 r d) * Ideal.exp (e (ix2 255 d) - e (ix2 (⟨r, by omega⟩ : Fin 1792) d)) := by
  pointwise [scaled]

/-- The new state at an index: the state after the chunk from the state before it. -/
theorem item_at (tab : FVec Ideal S1792x256 .bf16) (la : FVec Ideal S256x128 .f32) (k : FVec Ideal S256x128 .bf16) (v : FVec Ideal S256x256 .bf16) (st : FVec Ideal S1x128x256 .f32)
    (d : Fin 128) (u : Fin 256) (L : ℕ → ℝ) (K V : ℕ → EReal) (n : ℕ)
    (ht : ∀ i u : Fin 256, tab (ix2 (⟨i, by omega⟩ : Fin 1792) u) = if u.val ≤ i.val then 1 else 0)
    (hla : ∀ r : Fin 256, la (ix2 r d) = (L (n + r.val) : EReal)) (hk : ∀ r : Fin 256, k (ix2 r d) = K (n + r.val)) (hv : ∀ r : Fin 256, v (ix2 r u) = V (n + r.val))
    (hst : st (ix3 0 d u) = total L K V n) :
    item tab la k v st (ix3 0 d u) = total L K V (n + 256) := by
  have hc : ∀ i : Fin 256, cum tab la (ix2 (⟨i, by omega⟩ : Fin 1792) d) = ((GlaMath.run L (n + (i.val + 1)) - GlaMath.run L n : ℝ) : EReal) := fun i => by
    rw [cum_at tab la (fun r => L (n + r)) i d (ht i) hla, run_add]
  have h255 : cum tab la (ix2 255 d) = ((GlaMath.run L (n + 256) - GlaMath.run L n : ℝ) : EReal) := hc 255
  have hexp : ∀ x : ℝ, Ideal.exp (x : EReal) = ((Real.exp x : ℝ) : EReal) := fun x => rfl
  pointwise [item]
  rw [decay_at, h255, hst, hexp, total_add,
    ← Fin.sum_univ_eq_sum_range (fun r => K (n + r) * ((Real.exp ((GlaMath.run L (n + 256) - GlaMath.run L n) - (GlaMath.run L (n + (r + 1)) - GlaMath.run L n)) : ℝ) : EReal) * V (n + r)) 256]
  refine congrArg (_ + ·) (Fintype.sum_congr _ _ fun r => ?_)
  rw [scaled_at, h255, hc r, hk, hv, ← EReal.coe_sub, hexp]

end Cert.GlaPromptIdeal.Value
-- ==== Proof.GlaPromptTable.lean ====
module

public import proofs.«01_k».proof.Proof.GlaPromptItem

@[expose] public section

set_option maxRecDepth 16384

noncomputable section

/-! The entries of the table of ones and zeros the kernel sums with: its first 256 rows are a lower triangle of ones. -/

namespace Cert.GlaPromptIdeal.Value

open Idealize.ShloMosaic Idealize.ShloMosaic.TcCoe Idealize.SL.Sem
open Cert.GlaPromptIdeal Cert.GlaPromptIdeal.Gen

/-- Each of the first 256 runs of ones begins at the row's start. -/
theorem low_row : ∀ i : Fin 256, lit0t i.val = 4294967295#32 := by decide +kernel

/-- The last of the ones of row i is at place i. -/
theorem high_row : ∀ i : Fin 256, lit1t i.val = BitVec.ofNat 32 i.val := by decide +kernel

theorem low_at (i : Fin 256) : lit0 (S1792x1.rowMajor (ix2 (⟨i, by omega⟩ : Fin 1792) (0 : Fin 1))) = 4294967295#32 := by
  have h : (S1792x1.rowMajor (ix2 (⟨i, by omega⟩ : Fin 1792) (0 : Fin 1))).val = i.val * 1 + 0 := Shape.rowMajor_val_two _
  have e : S1792x1.rowMajor (ix2 (⟨i, by omega⟩ : Fin 1792) (0 : Fin 1)) = (⟨i.val, by omega⟩ : Fin 1792) := Fin.ext (by rw [h]; show i.val * 1 + 0 = i.val; omega)
  rw [e]
  exact low_row i

theorem high_at (i : Fin 256) : lit1 (S1792x1.rowMajor (ix2 (⟨i, by omega⟩ : Fin 1792) (0 : Fin 1))) = BitVec.ofNat 32 i.val := by
  have h : (S1792x1.rowMajor (ix2 (⟨i, by omega⟩ : Fin 1792) (0 : Fin 1))).val = i.val * 1 + 0 := Shape.rowMajor_val_two _
  have e : S1792x1.rowMajor (ix2 (⟨i, by omega⟩ : Fin 1792) (0 : Fin 1)) = (⟨i.val, by omega⟩ : Fin 1792) := Fin.ext (by rw [h]; show i.val * 1 + 0 = i.val; omega)
  rw [e]
  exact high_row i

theorem above_low : ∀ u : Fin 256, IntOp.cmpi CmpIPredicate.sgt (BitVec.ofNat 32 u.val) 4294967295#32 = 1#1 := by decide +kernel

theorem toInt_small (n : Fin 256) : (BitVec.ofNat 32 n.val).toInt = (n.val : ℤ) := by
  rw [BitVec.toInt_eq_toNat_of_lt (by simp only [BitVec.toNat_ofNat]; omega)]
  simp only [BitVec.toNat_ofNat]
  omega

theorem below_high (u i : Fin 256) : IntOp.cmpi CmpIPredicate.sle (BitVec.ofNat 32 u.val) (BitVec.ofNat 32 i.val) = if u.val ≤ i.val then 1#1 else 0#1 := by
  show BitVec.ofBool (BitVec.sle _ _) = _
  rw [BitVec.sle, toInt_small, toInt_small]
  by_cases h : u.val ≤ i.val
  · rw [if_pos h, decide_eq_true (by exact_mod_cast h)]; rfl
  · rw [if_neg h, decide_eq_false (by exact_mod_cast h)]; rfl

/-- The table. -/
abbrev table : FVec Ideal S1792x256 .bf16 :=
  uitofp .bf16 (andi (cmpi .sgt (iotaInDim S1792x256 32 1) (broadcastInDim S1792x256 ![0, 1] bcast_S1792x1_S1792x256_0_1 (fun i => lit0 (S1792x1.rowMajor i))))
    (cmpi .sle (iotaInDim S1792x256 32 1) (broadcastInDim S1792x256 ![0, 1] bcast_S1792x1_S1792x256_0_1 (fun i => lit1 (S1792x1.rowMajor i)))))

/-- The table's entry in its first 256 rows. -/
theorem table_rows (i u : Fin 256) : table (ix2 (⟨i, by omega⟩ : Fin 1792) u) = if u.val ≤ i.val then (1 : EReal) else 0 := by
  have e : ∀ f : S1792x1.Idx → BitVec 32, broadcastInDim S1792x256 ![0, 1] bcast_S1792x1_S1792x256_0_1 f (ix2 (⟨i, by omega⟩ : Fin 1792) u) = f (ix2 (⟨i, by omega⟩ : Fin 1792) (0 : Fin 1)) := by
    intro f
    pointwise
  show FloatOps.uitofp (F := Ideal) .bf16 (IntOp.andi (IntOp.cmpi .sgt (BitVec.ofNat 32 u.val) (broadcastInDim S1792x256 ![0, 1] bcast_S1792x1_S1792x256_0_1 (fun i => lit0 (S1792x1.rowMajor i)) (ix2 (⟨i, by omega⟩ : Fin 1792) u)))
    (IntOp.cmpi .sle (BitVec.ofNat 32 u.val) (broadcastInDim S1792x256 ![0, 1] bcast_S1792x1_S1792x256_0_1 (fun i => lit1 (S1792x1.rowMajor i)) (ix2 (⟨i, by omega⟩ : Fin 1792) u)))) = _
  rw [e, e, low_at, high_at, above_low, below_high]
  by_cases h : u.val ≤ i.val
  · rw [if_pos h, if_pos h]
    simp [FloatOps.uitofp, IntOp.andi]
  · rw [if_neg h, if_neg h]
    simp [FloatOps.uitofp, IntOp.andi]

end Cert.GlaPromptIdeal.Value
-- ==== Proof.GlaPromptBlock.lean ====
module

public import proofs.«01_k».proof.Proof.GlaPromptItem
public import proofs.«01_k».proof.Proof.GlaPromptTable
public import proofs.«01_k».proof.Proof.Gen.GlaPromptIdeal.Frame

@[expose] public section

set_option maxRecDepth 16384

noncomputable section

/-! The blocks the kernel is given at each point, by the argument arrays: a chunk of 256 tokens' keys, values and gate, and
    the table it sums with. -/

namespace Cert.GlaPromptIdeal.Value

open Idealize.ShloMosaic Idealize.ShloMosaic.TcCoe Idealize.SL.Sem
open Idealize.ShloMosaic.Pipeline (Dat)
open Cert.GlaPromptIdeal Cert.GlaPromptIdeal.Gen
open Cert.GlaRefIdeal.Value (act zero_bits)
open Cert.GlaPromptRefIdeal.Value (preGate logDecay logDecay_at preGate_at)

variable (m : (ℓ : Loc nD τ sig) → Buf (Elt Ideal) ℓ)

/-- Which block of its array each window stages at a point. -/
theorem idx_at : ∀ t : Fin cfg0.N, win0_1.index t = ![t.val, 11] ∧ win0_2.index t = ![t.val, 1] ∧ win0_4.index t = ![t.val, 52]
    ∧ win0_5.index t = ![0, 0] ∧ win0_6.index t = ![0, 0] ∧ win0_8.index t = ![0, 0]
    ∧ win0_11.index t = ![t.val / 32, 0, 0, 0] :=
  (by decide +kernel : ∀ t : Fin grid0.N, _)

/-- The gate's weight as the kernel reads it, with rows of zero below its sixteen. -/
abbrev weight (w : FVec Ideal S1x16x512 .f32) : FVec Ideal S128x512 .bf16 :=
  truncf .bf16 (pad S128x512 ![0, 0] ![112, 0] ![0, 0] (shapeCast S16x512 w shapeCasts_S1x16x512_S16x512) (sitofp .f32 (constantI S_ 32 0#32)) pads_S16x512_S128x512_01120_000 h_S_) bitsLt_bf16_f32

/-- The gate's weight at entry. -/
theorem V_weight (c : Dev nD) : V m c main_v2 = weight (m ((c : Thread nD τ).loc main_arg1)) := by
  entry_read
  rfl

/-- The gate's bias at entry. -/
theorem V_bias (c : Dev nD) : V m c main_v12 = shapeCast S1x512 (shapeCast S512 (m ((c : Thread nD τ).loc main_arg2)) shapeCasts_S1x512_S512) shapeCasts_S512_S1x512 := by
  entry_read
  rfl

/-- The table at entry. -/
theorem V_table (c : Dev nD) : V m c main_v11 = table := by
  entry_read
  rfl

/-- A block of keys is columns 5632 to 6143 of the projection's rows. -/
theorem key_at (c : Dev nD) (t : Fin cfg0.N) (r : Fin 256) (d : Fin 512) (B : Fin 32768) (hB : (B : ℕ) = 256 * t.val + r) :
    X0_1 m c t (ix2 r d) = m ((c : Thread nD τ).loc main_arg0) (ix2 B ⟨5632 + d.val, by omega⟩) := by
  unfold X0_1 Pipeline.Window.fill
  rw [dif_pos (moved0_1 t _)]
  blk_ext [iblk, V, idx_at t]

/-- A block of values is columns 1024 to 2047 of the projection's rows. -/
theorem value_at (c : Dev nD) (t : Fin cfg0.N) (r : Fin 256) (d : Fin 1024) (B : Fin 32768) (hB : (B : ℕ) = 256 * t.val + r) :
    X0_2 m c t (ix2 r d) = m ((c : Thread nD τ).loc main_arg0) (ix2 B ⟨1024 + d.val, by omega⟩) := by
  unfold X0_2 Pipeline.Window.fill
  rw [dif_pos (moved0_2 t _)]
  blk_ext [iblk, V, idx_at t]

/-- A block of gate columns is columns 6656 to 6783 of the projection's rows. -/
theorem z_at (c : Dev nD) (t : Fin cfg0.N) (r : Fin 256) (d : Fin 128) (B : Fin 32768) (hB : (B : ℕ) = 256 * t.val + r) :
    iblk m c 4 t (ix2 r d) = m ((c : Thread nD τ).loc main_arg0) (ix2 B ⟨6656 + d.val, by omega⟩) := by
  blk_ext [iblk, V, idx_at t]

/-- The padded weight at an index. -/
theorem weight_rows (w : FVec Ideal S1x16x512 .f32) (i : Fin 128) (d : Fin 512) :
    weight w (ix2 i d) = if h : (i : ℕ) < 16 then w (ix3 0 ⟨i, h⟩ d) else (0 : EReal) := by
  pointwise [weight]
  rw [show (FloatOps.sitofp (F := Ideal) .f32 (0#32)) = (0 : EReal) from by simp [FloatOps.sitofp]]

/-- The block of gate weights. -/
theorem weight_at (c : Dev nD) (t : Fin cfg0.N) (i : Fin 128) (d : Fin 512) :
    iblk m c 5 t (ix2 i d) = if h : (i : ℕ) < 16 then m ((c : Thread nD τ).loc main_arg1) (ix3 0 ⟨i, h⟩ d) else (0 : EReal) := by
  have h : iblk m c 5 t (ix2 i d) = V m c main_v2 (ix2 i d) := by
    blk_point [iblk, idx_at t]
  rw [h, V_weight]
  exact weight_rows _ i d

/-- The block of gate biases. -/
theorem bias_at (c : Dev nD) (t : Fin cfg0.N) (z : Fin 1) (d : Fin 512) :
    iblk m c 6 t (ix2 z d) = m ((c : Thread nD τ).loc main_arg2) (ix2 0 d) := by
  have h : iblk m c 6 t (ix2 z d) = V m c main_v12 (ix2 z d) := by
    blk_point [iblk, idx_at t]
  rw [h, V_bias]
  pointwise

/-- The table's first 256 rows. -/
theorem table_at (c : Dev nD) (t : Fin cfg0.N) (i u : Fin 256) : iblk m c 8 t (ix2 (⟨i, by omega⟩ : Fin 1792) u) = if u.val ≤ i.val then (1 : EReal) else 0 := by
  have h : iblk m c 8 t (ix2 (⟨i, by omega⟩ : Fin 1792) u) = V m c main_v11 (ix2 (⟨i, by omega⟩ : Fin 1792) u) := by
    blk_point [iblk, idx_at t]
  rw [h, V_table]
  exact table_rows i u

/-- The logarithms of the decays as the kernel computes them, at an index. -/
theorem pay3_at (z : FVec Ideal S256x128 .bf16) (w : FVec Ideal S128x512 .bf16) (b : FVec Ideal S1x512 .f32) (r : Fin 256) (j : Fin 512) :
    k0_pay3 (F := Ideal) z w b (ix2 r j) = act ((∑ x : Fin 128, z (ix2 r x) * w (ix2 x j)) + b (ix2 0 j)) := by
  pointwise [k0_pay3]
  rw [zero_sub, zero_sub, zero_sub]
  rfl

/-- A sum whose terms vanish after its first sixteen. -/
theorem sum_rows (f : Fin 128 → EReal) (h : ∀ x : Fin 128, 16 ≤ (x : ℕ) → f x = 0) : ∑ x, f x = ∑ x : Fin 16, f ⟨x, by omega⟩ := by
  rw [Fin.sum_univ_add (a := 16) (b := 112) f, Finset.sum_eq_zero (s := Finset.univ) (f := fun x : Fin 112 => f (Fin.natAdd 16 x)) (fun x _ => h _ (by simp)), add_zero]
  rfl

/-- The block of the logarithms of the decays. -/
theorem gate_at (c : Dev nD) (t : Fin cfg0.N) (r : Fin 256) (j : Fin 512) (B : Fin 32768) (hB : (B : ℕ) = 256 * t.val + r) :
    k0_pay3 (iblk m c 4 t) (iblk m c 5 t) (iblk m c 6 t) (ix2 r j)
      = act (preGate (m ((c : Thread nD τ).loc main_arg0)) (m ((c : Thread nD τ).loc main_arg1)) (m ((c : Thread nD τ).loc main_arg2)) (ix2 B j)) := by
  refine (pay3_at _ _ _ r j).trans (congrArg act ?_)
  rw [preGate_at, bias_at]
  refine congrArg (· + _) ?_
  rw [sum_rows _ fun x hx => by rw [weight_at, dif_neg (by omega), mul_zero]]
  refine Finset.sum_congr rfl fun x _ => ?_
  rw [weight_at, dif_pos x.isLt, z_at m c t r _ B hB]

end Cert.GlaPromptIdeal.Value
-- ==== Proof.GlaPromptFinal.lean ====
module

public import proofs.«01_k».proof.Proof.GlaPromptBlock
public import Idealize.ShloMosaic.Lib.Pipeline.ReadBack

@[expose] public section

set_option maxRecDepth 16384

noncomputable section

/-! What the pipelined kernel leaves in its second array: block `b` holds the states after sequence `b`'s last token. The
    scratch holds, after each chunk, the states after the chunk's last token. -/

namespace Cert.GlaPromptIdeal.Value

open Idealize.ShloMosaic Idealize.ShloMosaic.TcCoe Idealize.SL.Sem
open Idealize.ShloMosaic.Pipeline (Dat)
open Cert.GlaPromptIdeal Cert.GlaPromptIdeal.Gen
open Cert.GlaMath
open Cert.GlaRefIdeal.Value (act zero_bits)
open Cert.GlaPromptRefIdeal.Value (preGate logDecay logDecay_at preGate_at lastState stepped_at tok tok_of)

variable (m : (ℓ : Loc nD τ sig) → Buf (Elt Ideal) ℓ)

/-- The last states over this program's argument arrays. -/
abbrev states (c : Dev nD) : FVec Ideal S4x4x128x256 .f32 :=
  lastState (m ((c : Thread nD τ).loc main_arg0)) (m ((c : Thread nD τ).loc main_arg1)) (m ((c : Thread nD τ).loc main_arg2))

/-- The real numbers that the logarithms of the decays are. -/
def Logs (c : Dev nD) (g : Fin 32768 → Fin 512 → ℝ) : Prop :=
  ∀ (R : Fin 32768) (j : Fin 512), act (preGate (m ((c : Thread nD τ).loc main_arg0)) (m ((c : Thread nD τ).loc main_arg1)) (m ((c : Thread nD τ).loc main_arg2)) (ix2 R j)) = (g R j : EReal)

/-- One sequence's logarithms in one column. -/
def logs (g : Fin 32768 → Fin 512 → ℝ) (b : Fin 4) (j : Fin 512) (t : ℕ) : ℝ :=
  if h : t < 8192 then g ⟨8192 * b + t, by omega⟩ j else 0

theorem logs_of (g : Fin 32768 → Fin 512 → ℝ) (b : Fin 4) (j : Fin 512) (t : ℕ) (R : Fin 32768) (h : t < 8192) (hR : (R : ℕ) = 8192 * b + t) : logs g b j t = g R j := by
  unfold logs
  rw [dif_pos h]
  exact congrArg (fun a => g a j) (Fin.ext hR.symm)

/-- A state's entry after `n` tokens. -/
def entry (c : Dev nD) (g : Fin 32768 → Fin 512 → ℝ) (b : Fin 4) (h : Fin 4) (d : Fin 128) (u : Fin 256) (n : ℕ) : EReal :=
  total (logs g b ⟨h * 128 + d, by omega⟩) (tok (m ((c : Thread nD τ).loc main_arg0)) b (⟨5632 + (h * 128 + d), by omega⟩ : Fin 6784))
    (tok (m ((c : Thread nD τ).loc main_arg0)) b (⟨1024 + (h * 256 + u), by omega⟩ : Fin 6784)) n

/-- The reference's last states. -/
theorem states_at (c : Dev nD) (g : Fin 32768 → Fin 512 → ℝ) (hg : Logs m c g) (b : Fin 4) (h : Fin 4) (d : Fin 128) (u : Fin 256) :
    states m c (ix4 b h d u) = entry m c g b h d u 8192 := by
  unfold states lastState entry
  refine stepped_at _ _ _ b h d u ⟨h * 128 + d, by omega⟩ rfl _ _ rfl rfl fun t ht => ?_
  rw [tok_of _ b _ t (⟨8192 * b + t, by omega⟩ : Fin 32768) ht rfl, logDecay_at, hg, logs_of g b _ t (⟨8192 * b + t, by omega⟩ : Fin 32768) ht rfl]

/-- The piece the body stores for head `h` of chunk `s` of sequence `b` is the states after the chunk. -/
theorem piece (c : Dev nD) (g : Fin 32768 → Fin 512 → ℝ) (hg : Logs m c g) (t : Fin cfg0.N) (b : Fin 4) (s : ℕ) (hs : s < 32) (ht : t.val = 32 * b + s) (h : Fin 4) (p : FVec Ideal S1x128x256 .f32)
    (isl : S256x512.Slices ![0, h * 128] S256x128) (ik : ∀ a, ![0, h.val * 128] a + S256x128.size a ≤ S256x512.size a) (iv : ∀ a, ![0, h.val * 256] a + S256x256.size a ≤ S256x1024.size a)
    (st : FVec Ideal S1x128x256 .f32)
    (hp : p = item (iblk m c 8 t) (extractStridedSlice (s := S256x512) S256x128 ![0, h * 128] (k0_pay3 (F := Ideal) (iblk m c 4 t) (iblk m c 5 t) (iblk m c 6 t)) isl)
      (View.ld (X0_1 m c t) (Rect.unit (s := S256x512) ![0, h * 128] S256x128.size ik)) (View.ld (X0_2 m c t) (Rect.unit (s := S256x1024) ![0, h * 256] S256x256.size iv)) st)
    (hst : ∀ (d : Fin 128) (u : Fin 256), st (ix3 0 d u) = entry m c g b h d u (256 * s))
    (x : S1x128x256.Idx) (h' : Fin 4) (d' : Fin 128) (u' : Fin 256) (e1 : (h' : ℕ) = h) (e2 : (d' : ℕ) = (x 1 : Fin 128)) (e3 : (u' : ℕ) = (x 2 : Fin 256)) :
    p x = entry m c g b h' d' u' (256 * (s + 1)) := by
  obtain ⟨z, d, u, rfl⟩ : ∃ (z : Fin 1) (d : Fin 128) (u : Fin 256), x = ix3 z d u := ⟨x 0, x 1, x 2, eq_ix3 x⟩
  obtain rfl : z = 0 := Subsingleton.elim _ _
  obtain rfl : h' = h := Fin.ext e1
  obtain rfl : d' = d := Fin.ext e2
  obtain rfl : u' = u := Fin.ext e3
  rw [hp]
  unfold entry
  refine item_at _ _ _ _ _ d' u' _ _ _ (256 * s) (table_at m c t) (fun r => ?_) (fun r => ?_) (fun r => ?_) (hst d' u')
  · rw [logs_of g b _ (256 * s + r.val) (⟨8192 * b + (256 * s + r.val), by omega⟩ : Fin 32768) (by omega) rfl, ← hg]
    refine Eq.trans ?_ (gate_at m c t r ⟨h' * 128 + d', by omega⟩ _ (by simp only []; omega))
    unfold extractStridedSlice
    refine congrArg (k0_pay3 (F := Ideal) (iblk m c 4 t) (iblk m c 5 t) (iblk m c 6 t)) ?_
    funext a
    match a with
    | ⟨0, _⟩ => exact Fin.ext (Nat.zero_add _)
    | ⟨1, _⟩ => exact Fin.ext rfl
  · rw [tok_of _ b _ (256 * s + r.val) (⟨8192 * b + (256 * s + r.val), by omega⟩ : Fin 32768) (by omega) rfl]
    refine Eq.trans (congrArg (X0_1 m c t) ?_) (key_at m c t r ⟨h' * 128 + d', by omega⟩ _ (by simp only []; omega))
    funext a
    match a with
    | ⟨0, _⟩ => exact Fin.ext ((Rect.idx_unit_val _ _ _ _ _).trans (Nat.zero_add _))
    | ⟨1, _⟩ => exact Fin.ext (Rect.idx_unit_val _ _ _ _ _)
  · rw [tok_of _ b _ (256 * s + r.val) (⟨8192 * b + (256 * s + r.val), by omega⟩ : Fin 32768) (by omega) rfl]
    refine Eq.trans (congrArg (X0_2 m c t) ?_) (value_at m c t r ⟨h' * 256 + u', by omega⟩ _ (by simp only []; omega))
    funext a
    match a with
    | ⟨0, _⟩ => exact Fin.ext ((Rect.idx_unit_val _ _ _ _ _).trans (Nat.zero_add _))
    | ⟨1, _⟩ => exact Fin.ext (Rect.idx_unit_val _ _ _ _ _)

/-- A head's states as loaded from the scratch. -/
theorem load_at (X : FVec Ideal S4x128x256 .f32) (h : Fin 4) (ist : ∀ a, ![h.val, 0, 0] a + S1x128x256.size a ≤ S4x128x256.size a) (d : Fin 128) (u : Fin 256) :
    X ((Rect.unit (s := S4x128x256) ![h, 0, 0] S1x128x256.size ist).idx (ix3 0 d u)) = X (ix3 h d u) := by
  refine congrArg X ?_
  funext a
  match a with
  | ⟨0, _⟩ => exact Fin.ext (Rect.idx_unit_val _ _ _ _ _)
  | ⟨1, _⟩ => exact Fin.ext ((Rect.idx_unit_val _ _ _ _ _).trans (Nat.zero_add _))
  | ⟨2, _⟩ => exact Fin.ext ((Rect.idx_unit_val _ _ _ _ _).trans (Nat.zero_add _))

/-- Where a head's block of the scratch lies. -/
theorem place_at (n : ℕ) (i : ∀ a, ![n, 0, 0] a + S1x128x256.size a ≤ S4x128x256.size a) (x : S1x128x256.Idx) :
    ((Rect.unit (s := S4x128x256) ![n, 0, 0] S1x128x256.size i).idx x 0).val = n ∧ ((Rect.unit (s := S4x128x256) ![n, 0, 0] S1x128x256.size i).idx x 1).val = (x 1 : Fin 128).val
      ∧ ((Rect.unit (s := S4x128x256) ![n, 0, 0] S1x128x256.size i).idx x 2).val = (x 2 : Fin 256).val := by
  have h : ∀ k : Fin 1, n + k.val = n := fun k => by omega
  refine ⟨?_, ?_, ?_⟩
  · rw [Rect.idx_unit_val]; exact h (x 0)
  · rw [Rect.idx_unit_val]; exact Nat.zero_add _
  · rw [Rect.idx_unit_val]; exact Nat.zero_add _

/-- The zeros that a sequence begins with. -/
theorem pay2_at (h : Fin 4) (d : Fin 128) (u : Fin 256) : k0_pay2 (F := Ideal) (ix3 h d u) = 0 := by
  pointwise [k0_pay2]

/-- The table as the kernel takes it. -/
theorem pay4_eq (T : FVec Ideal S1792x256 .bf16) : k0_pay4 (F := Ideal) T = T := by
  funext i
  obtain ⟨a, b, rfl⟩ : ∃ (a : Fin 1792) (b : Fin 256), i = ix2 a b := ⟨i 0, i 1, eq_ix2 i⟩
  pointwise [k0_pay4]

/-- Head 3's new states, over the blocks. -/
theorem head3 (T : FVec Ideal S1792x256 .bf16) (Z : FVec Ideal S256x128 .bf16) (G : FVec Ideal S128x512 .bf16) (B : FVec Ideal S1x512 .f32) (K : FVec Ideal S256x128 .bf16) (W : FVec Ideal S256x256 .bf16) (st : FVec Ideal S1x128x256 .f32) :
    k0_pay323 (F := Ideal) W (k0_pay307 st) (k0_pay315 (k0_pay12 (k0_pay3 Z G B) T)) (k0_pay318 (k0_pay12 (k0_pay3 Z G B) T) (k0_pay22 K))
      = item T (extractStridedSlice (s := S256x512) S256x128 ![0, 3 * 128] (k0_pay3 (F := Ideal) Z G B) slices_S256x512_o0_384_S256x128) K W st := rfl

/-- Head 2's new states, over the blocks. -/
theorem head2 (T : FVec Ideal S1792x256 .bf16) (Z : FVec Ideal S256x128 .bf16) (G : FVec Ideal S128x512 .bf16) (B : FVec Ideal S1x512 .f32) (K : FVec Ideal S256x128 .bf16) (W : FVec Ideal S256x256 .bf16) (st : FVec Ideal S1x128x256 .f32) :
    k0_pay322 (F := Ideal) W (k0_pay306 st) (k0_pay314 (k0_pay11 (k0_pay3 Z G B) T)) (k0_pay317 (k0_pay11 (k0_pay3 Z G B) T) (k0_pay21 K))
      = item T (extractStridedSlice (s := S256x512) S256x128 ![0, 2 * 128] (k0_pay3 (F := Ideal) Z G B) slices_S256x512_o0_256_S256x128) K W st := rfl

/-- Head 1's new states, over the blocks. -/
theorem head1 (T : FVec Ideal S1792x256 .bf16) (Z : FVec Ideal S256x128 .bf16) (G : FVec Ideal S128x512 .bf16) (B : FVec Ideal S1x512 .f32) (K : FVec Ideal S256x128 .bf16) (W : FVec Ideal S256x256 .bf16) (st : FVec Ideal S1x128x256 .f32) :
    k0_pay321 (F := Ideal) W (k0_pay305 st) (k0_pay313 (k0_pay10 (k0_pay3 Z G B) T)) (k0_pay316 (k0_pay10 (k0_pay3 Z G B) T) (k0_pay20 K))
      = item T (extractStridedSlice (s := S256x512) S256x128 ![0, 1 * 128] (k0_pay3 (F := Ideal) Z G B) slices_S256x512_o0_128_S256x128) K W st := rfl

/-- Head 0's new states, over the blocks. -/
theorem head0 (T : FVec Ideal S1792x256 .bf16) (Z : FVec Ideal S256x128 .bf16) (G : FVec Ideal S128x512 .bf16) (B : FVec Ideal S1x512 .f32) (K : FVec Ideal S256x128 .bf16) (W : FVec Ideal S256x256 .bf16) (st : FVec Ideal S1x128x256 .f32) :
    k0_pay320 (F := Ideal) (k0_pay319 (k0_pay9 T (k0_pay7 Z G B) (k0_pay8 Z G B)) (k0_pay19 K) W (k0_pay304 st) (k0_pay312 (k0_pay9 T (k0_pay7 Z G B) (k0_pay8 Z G B))))
      = item T (extractStridedSlice (s := S256x512) S256x128 ![0, 0 * 128] (k0_pay3 (F := Ideal) Z G B) slices_S256x512_o0_0_S256x128) K W st := rfl

/-- The scratch after a sequence's first chunk. -/
theorem first (c : Dev nD) (g : Fin 32768 → Fin 512 → ℝ) (hg : Logs m c g) (t : Fin cfg0.N) (b : Fin 4) (ht : t.val = 32 * b + 0) (y : S4x128x256.Idx) :
    (outsAt0 m c t.val t.isLt).2.2 y = entry m c g b (y 0) (y 1) (y 2) (256 * (0 + 1)) := by
  rw [outsAt0_A m c t (by omega) (by omega)]
  frame_out
  simp only [pay4_eq]
  have hz : ∀ (h : Fin 4) (ist : ∀ a, ![h.val, 0, 0] a + S1x128x256.size a ≤ S4x128x256.size a) (d : Fin 128) (u : Fin 256),
      k0_pay2 (F := Ideal) ((Rect.unit (s := S4x128x256) ![h, 0, 0] S1x128x256.size ist).idx (ix3 0 d u)) = entry m c g b h d u (256 * 0) := fun h ist d u =>
    (load_at _ h ist d u).trans ((pay2_at h d u).trans (total_zero _ _ _).symm)
  rw [View.readCov_fill _ _ _ _ _ (by decide), View.readCov_fill _ _ _ _ _ (by decide), View.readCov_fill _ _ _ _ _ (by decide), View.readCov_fill _ _ _ _ _ (by decide)]
  refine View.canon_append_of_piecesOf (Val := Elt Ideal) (s := S4x128x256) (e := .f32) (fun y : S4x128x256.Idx => entry m c g b (y 0) (y 1) (y 2) (256 * (0 + 1))) [_] [_, _, _, _] ?_ y ?_
  · refine ⟨fun x => ?_, fun x => ?_, fun x => ?_, fun x => ?_, trivial⟩
    · exact piece m c g hg t b 0 (by decide) ht 3 _ slices_S256x512_o0_384_S256x128 _ _ _ (head3 _ _ _ _ _ _ _) (fun d u => hz 3 _ d u) x _ _ _ (place_at 3 inb_S4x128x256_S1x128x256_3_0_0 x).1 (place_at 3 inb_S4x128x256_S1x128x256_3_0_0 x).2.1 (place_at 3 inb_S4x128x256_S1x128x256_3_0_0 x).2.2
    · exact piece m c g hg t b 0 (by decide) ht 2 _ slices_S256x512_o0_256_S256x128 _ _ _ (head2 _ _ _ _ _ _ _) (fun d u => hz 2 _ d u) x _ _ _ (place_at 2 inb_S4x128x256_S1x128x256_2_0_0 x).1 (place_at 2 inb_S4x128x256_S1x128x256_2_0_0 x).2.1 (place_at 2 inb_S4x128x256_S1x128x256_2_0_0 x).2.2
    · exact piece m c g hg t b 0 (by decide) ht 1 _ slices_S256x512_o0_128_S256x128 _ _ _ (head1 _ _ _ _ _ _ _) (fun d u => hz 1 _ d u) x _ _ _ (place_at 1 inb_S4x128x256_S1x128x256_1_0_0 x).1 (place_at 1 inb_S4x128x256_S1x128x256_1_0_0 x).2.1 (place_at 1 inb_S4x128x256_S1x128x256_1_0_0 x).2.2
    · exact piece m c g hg t b 0 (by decide) ht 0 _ slices_S256x512_o0_0_S256x128 _ _ _ (head0 _ _ _ _ _ _ _) (fun d u => hz 0 _ d u) x _ _ _ (place_at 0 inb_S4x128x256_S1x128x256_0_0_0 x).1 (place_at 0 inb_S4x128x256_S1x128x256_0_0_0 x).2.1 (place_at 0 inb_S4x128x256_S1x128x256_0_0_0 x).2.2
  · exact View.cover_of_tiled_head _ _ _ (by rfl) y

/-- The scratch after a further chunk that is not the last. -/
theorem next (c : Dev nD) (g : Fin 32768 → Fin 512 → ℝ) (hg : Logs m c g) (t : Fin cfg0.N) (b : Fin 4) (s : ℕ) (hs : s < 31) (h0 : s ≠ 0) (ht : t.val = 32 * b + s)
    (ih : ∀ y : S4x128x256.Idx, (outsAt0 m c (t.val - 1) (Nat.lt_of_le_of_lt (Nat.sub_le _ _) t.isLt)).2.2 y = entry m c g b (y 0) (y 1) (y 2) (256 * s)) (y : S4x128x256.Idx) :
    (outsAt0 m c t.val t.isLt).2.2 y = entry m c g b (y 0) (y 1) (y 2) (256 * (s + 1)) := by
  rw [outsAt0_B m c t (by omega) (by omega)]
  frame_out
  simp only [pay4_eq]
  simp only [read_unread_whole]
  canon_tiles x h
  · exact piece m c g hg t b s (by omega) ht 3 _ slices_S256x512_o0_384_S256x128 _ _ _ (head3 _ _ _ _ _ _ _) (fun d u => (load_at _ 3 _ d u).trans (ih _)) x _ _ _ (h0.trans (by omega)) h1 h2
  · exact piece m c g hg t b s (by omega) ht 2 _ slices_S256x512_o0_256_S256x128 _ _ _ (head2 _ _ _ _ _ _ _) (fun d u => (load_at _ 2 _ d u).trans (ih _)) x _ _ _ (h0.trans (by omega)) h1 h2
  · exact piece m c g hg t b s (by omega) ht 1 _ slices_S256x512_o0_128_S256x128 _ _ _ (head1 _ _ _ _ _ _ _) (fun d u => (load_at _ 1 _ d u).trans (ih _)) x _ _ _ (h0.trans (by omega)) h1 h2
  · exact piece m c g hg t b s (by omega) ht 0 _ slices_S256x512_o0_0_S256x128 _ _ _ (head0 _ _ _ _ _ _ _) (fun d u => (load_at _ 0 _ d u).trans (ih _)) x _ _ _ (h0.trans (by omega)) h1 h2

/-- The scratch after every chunk but the last. -/
theorem scratch (c : Dev nD) (g : Fin 32768 → Fin 512 → ℝ) (hg : Logs m c g) (b : Fin 4) : ∀ (s : ℕ), s < 31 → ∀ (t : Fin cfg0.N), t.val = 32 * b + s → ∀ y : S4x128x256.Idx,
    (outsAt0 m c t.val t.isLt).2.2 y = entry m c g b (y 0) (y 1) (y 2) (256 * (s + 1))
  | 0, _, t, ht, y => first m c g hg t b ht y
  | s + 1, hs, t, ht, y => next m c g hg t b (s + 1) hs (Nat.succ_ne_zero s) ht
      (fun y => scratch c g hg b s (Nat.lt_of_succ_lt hs) ⟨t.val - 1, Nat.lt_of_le_of_lt (Nat.sub_le _ _) t.isLt⟩ (by simp only []; omega) y) y

/-- The states as stored, with an axis more. -/
theorem pay1_at (X : FVec Ideal S4x128x256 .f32) (z : Fin 1) (h : Fin 4) (d : Fin 128) (u : Fin 256) : k0_pay1 (F := Ideal) X (ix4 z h d u) = X (ix3 h d u) := by
  pointwise [k0_pay1]

/-- A load of the whole scratch. -/
theorem whole_at (i : ∀ a, ![0, 0, 0] a + ![4, 128, 256] a ≤ S4x128x256.size a) (h : Fin 4) (d : Fin 128) (u : Fin 256) :
    (Rect.unit (s := S4x128x256) ![0, 0, 0] ![4, 128, 256] i).idx (ix3 h d u) = ix3 h d u := by
  funext a
  match a with
  | ⟨0, _⟩ => exact Fin.ext ((Rect.idx_unit_val _ _ _ _ _).trans (Nat.zero_add _))
  | ⟨1, _⟩ => exact Fin.ext ((Rect.idx_unit_val _ _ _ _ _).trans (Nat.zero_add _))
  | ⟨2, _⟩ => exact Fin.ext ((Rect.idx_unit_val _ _ _ _ _).trans (Nat.zero_add _))

/-- The block of the second array that a sequence's last chunk writes. -/
theorem last (c : Dev nD) (g : Fin 32768 → Fin 512 → ℝ) (hg : Logs m c g) (t : Fin cfg0.N) (b : Fin 4) (ht : t.val = 32 * b + 31) (z : Fin 1) (h : Fin 4) (d : Fin 128) (u : Fin 256) :
    (dats m 0 c).after 11 t (ix4 z h d u) = entry m c g b h d u 8192 := by
  have ih := scratch m c g hg b 30 (by decide) ⟨t.val - 1, Nat.lt_of_le_of_lt (Nat.sub_le _ _) t.isLt⟩ (by simp only []; omega)
  rw [after0_11, outsAt0_C m c t (by omega) (by omega)]
  frame_out
  simp only [pay4_eq]
  simp only [read_unread_whole, View.readCov_eq_canon']
  rw [pay1_at]
  simp only [whole_at]
  show _ = entry m c g b ((ix3 h d u : S4x128x256.Idx) 0) ((ix3 h d u : S4x128x256.Idx) 1) ((ix3 h d u : S4x128x256.Idx) 2) (256 * (31 + 1))
  generalize (ix3 h d u : S4x128x256.Idx) = y
  canon_tiles x h
  · exact piece m c g hg t b 31 (by omega) ht 3 _ slices_S256x512_o0_384_S256x128 _ _ _ (head3 _ _ _ _ _ _ _) (fun d u => (load_at _ 3 _ d u).trans (ih _)) x _ _ _ (h0.trans (by omega)) h1 h2
  · exact piece m c g hg t b 31 (by omega) ht 2 _ slices_S256x512_o0_256_S256x128 _ _ _ (head2 _ _ _ _ _ _ _) (fun d u => (load_at _ 2 _ d u).trans (ih _)) x _ _ _ (h0.trans (by omega)) h1 h2
  · exact piece m c g hg t b 31 (by omega) ht 1 _ slices_S256x512_o0_128_S256x128 _ _ _ (head1 _ _ _ _ _ _ _) (fun d u => (load_at _ 1 _ d u).trans (ih _)) x _ _ _ (h0.trans (by omega)) h1 h2
  · exact piece m c g hg t b 31 (by omega) ht 0 _ slices_S256x512_o0_0_S256x128 _ _ _ (head0 _ _ _ _ _ _ _) (fun d u => (load_at _ 0 _ d u).trans (ih _)) x _ _ _ (h0.trans (by omega)) h1 h2

/-- The second array's block is written back after a sequence's last chunk. -/
theorem flushes : ∀ t : Fin cfg0.N, (cfg0.win 11).flush t = true → t.val % 32 = 31 := by decide +kernel

/-- The states' array after the kernel. -/
theorem final11 (c : Dev nD) (g : Fin 32768 → Fin 512 → ℝ) (hg : Logs m c g) : (dats m 0 c).arrAt 11 (cfgs 0).N = states m c := by
  refine (dats m 0 c).arrAt_eq_of_covers 11 _ (by decide +kernel) fun t hf y => ?_
  have ht : t.val < 128 := lt_of_lt_of_eq t.isLt N_0
  have hl : t.val % 32 = 31 := flushes t hf
  blk_simp
  obtain ⟨z, h, d, u, rfl⟩ : ∃ (z : Fin 1) (h : Fin 4) (d : Fin 128) (u : Fin 256), y = ix4 z h d u := ⟨y 0, y 1, y 2, y 3, eq_ix4 y⟩
  have he : (((View.whole main_v14_1).slice (win0_11.rect t)).emb (ix4 z h d u)) = ix4 (⟨t.val / 32, by omega⟩ : Fin 4) h d u := by
    blk_ext [idx_at t]
  rw [he, states_at m c g hg]
  exact last m c g hg t ⟨t.val / 32, by omega⟩ (by simp only []; omega) z h d u

end Cert.GlaPromptIdeal.Value
-- ==== Proof.GlaPromptPre.lean ====
module

public import proofs.«01_k».proof.Proof.Gen.Pre_finite_gate
public import proofs.«01_k».proof.Proof.GlaPromptRef
public import proofs.«01_k».proof.Proof.SwaPre
public import Idealize.ShloMosaic.Lib.ReduceAll
public import Idealize.ShloMosaic.Lib.Pointwise

@[expose] public section

set_option maxRecDepth 16384

noncomputable section

/-! What the precondition says: the columns of the projection that the gate takes, its weight and its bias are real numbers. So is
    then every decay's logarithm. -/

namespace Cert.GlaPromptPre

open Idealize.ShloMosaic Idealize.ShloMosaic.TcCoe Idealize.SL.Sem
open Cert.Pre_finite_gate Cert.Pre_finite_gate.Gen
open Cert.GlaRefIdeal.Value (act)
open Cert.GlaPromptRefIdeal.Value (preGate preGate_at)
open Cert.SwaPre (real_of_cmpf)

/-- The gate's operands are real numbers. -/
structure Finite (proj : FVec Ideal S32768x6784 .bf16) (w : FVec Ideal S1x16x512 .f32) (b : FVec Ideal S1x512 .f32) : Prop where
  part : ∀ (R : Fin 32768) (k : Fin 16), ∃ r : ℝ, proj (ix2 R (⟨6656 + k, by omega⟩ : Fin 6784)) = (r : EReal)
  weight : ∀ (k : Fin 16) (j : Fin 512), ∃ r : ℝ, w (ix3 0 k j) = (r : EReal)
  bias : ∀ j : Fin 512, ∃ r : ℝ, b (ix2 0 j) = (r : EReal)

/-- The result of a reduction over every axis has one index. -/
instance : Subsingleton S_.Idx := ⟨fun a b => funext fun i => i.elim0⟩

/-- The precondition makes them so. -/
theorem finite_of_pre [Facts] (proj : FVec Ideal S32768x6784 .bf16) (w : FVec Ideal S1x16x512 .f32) (b : FVec Ideal S1x512 .f32) (gn : FVec Ideal S1x256 .f32)
    (h : ∀ j, fn (F := Ideal) proj w b gn j = 1#1) : Finite proj w b := by
  have h := h ix0
  unfold fn fn_part1 at h
  obtain ⟨h12, h3⟩ := IntOp.andi_eq_one.1 h
  obtain ⟨h1, h2⟩ := IntOp.andi_eq_one.1 h12
  have elo : ∀ x : EReal, x = Ideal.ofBits .f32 0xFF800000#32 → x = ⊥ := by rintro x rfl; simp [Ideal.ofBits, Ideal.ieee]
  have ehi : ∀ x : EReal, x = Ideal.ofBits .f32 0x7F800000#32 → x = ⊤ := by rintro x rfl; simp [Ideal.ofBits, Ideal.ieee]
  refine ⟨fun R k => ?_, fun k j => ?_, fun j => ?_⟩
  · obtain ⟨r, e⟩ := real_of_cmpf _ _ _ _ (elo _ rfl) (ehi _ rfl) (Host.reduce_andi_all _ _ _ _ _ h1 (ix2 R k))
    refine ⟨r, Eq.trans ?_ e⟩
    symm
    pointwise []
  · exact real_of_cmpf _ _ _ _ (elo _ rfl) (ehi _ rfl) (Host.reduce_andi_all _ _ _ _ _ h2 (ix3 0 k j))
  · exact real_of_cmpf _ _ _ _ (elo _ rfl) (ehi _ rfl) (Host.reduce_andi_all _ _ _ _ _ h3 (ix2 0 j))

/-- A sum of products of real numbers is a real number. -/
theorem real_sum (n : ℕ) (f w : Fin n → EReal) (hf : ∀ k, ∃ r : ℝ, f k = (r : EReal)) (hw : ∀ k, ∃ r : ℝ, w k = (r : EReal)) : ∃ r : ℝ, ∑ k, f k * w k = (r : EReal) := by
  choose a ha using hf
  choose c hc using hw
  refine ⟨∑ k, a k * c k, ?_⟩
  have e : ∀ s : Finset (Fin n), ∑ k ∈ s, f k * w k = ((∑ k ∈ s, a k * c k : ℝ) : EReal) := fun s => by
    classical
    induction s using Finset.induction_on with
    | empty => simp
    | insert k s hk ih => rw [Finset.sum_insert hk, Finset.sum_insert hk, EReal.coe_add, EReal.coe_mul, ih, ha, hc]
  exact e _

/-- The decays' logarithms are real numbers. -/
theorem real_logs (p : FVec Ideal S32768x6784 .bf16) (w : FVec Ideal S1x16x512 .f32) (b : FVec Ideal S1x512 .f32) (h : Finite p w b) :
    ∃ g : Fin 32768 → Fin 512 → ℝ, ∀ (R : Fin 32768) (j : Fin 512), act (preGate p w b (ix2 R j)) = (g R j : EReal) := by
  have h1 : ∀ (R : Fin 32768) (j : Fin 512), ∃ r : ℝ, act (preGate p w b (ix2 R j)) = (r : EReal) := fun R j => by
    obtain ⟨x, hx⟩ := real_sum 16 (fun k => p (ix2 R (⟨6656 + k, by omega⟩ : Fin 6784))) (fun k => w (ix3 0 k j)) (h.part R) (fun k => h.weight k j)
    obtain ⟨y, hy⟩ := h.bias j
    have e : preGate p w b (ix2 R j) = ((x + y : ℝ) : EReal) := by
      rw [preGate_at, EReal.coe_add, ← hx, ← hy]
    rw [e]
    exact Cert.GlaMath.act_real _
  choose g hg using h1
  exact ⟨g, hg⟩

end Cert.GlaPromptPre
-- ==== Proof.GlaPromptClaim.lean ====
module

public import proofs.«01_k».proof.Proof.GlaPromptFinal
public import proofs.«01_k».proof.Proof.GlaPromptPre
public import proofs.«01_k».proof.Defs

@[expose] public section

set_option maxRecDepth 16384

noncomputable section

/-! The claim about the states of the prompt's linear attention. -/

namespace Cert.Proof

open Idealize.ShloMosaic Idealize.SL.Sem

/-- At the real numbers the kernel's last states are the reference's, where the gate's operands are finite. -/
theorem algebraic_GlaPrompt : Cert.algebraic_GlaPromptIdeal_GlaPromptRefIdeal_pre_finite_gate := by
  pair_intro
  · run_from Cert.GlaPromptIdeal.Gen.run_main m g
    · exact Cert.GlaPromptIdeal.Gen.V_main_arg1 m c
    · exact Cert.GlaPromptIdeal.Gen.V_main_arg2 m c
    · exact Cert.GlaPromptIdeal.Gen.V_main_arg3 m c
  · refine θ_run_mono (Cert.GlaPromptRefIdeal.Value.run_terms m' g') ?_
    intro r hr c
    obtain ⟨h, h0, h1, h2, h3⟩ := hr c
    obtain ⟨e0, e1, e2, e3⟩ := hagree c
    obtain ⟨l, hl⟩ := Cert.GlaPromptPre.real_logs _ _ _ (Cert.GlaPromptPre.finite_of_pre _ _ _ _ fun j => congrFun (hpre c) j)
    refine ⟨h.trans ?_, h0, h1, h2, h3⟩
    rw [e0, e1, e2]
    exact (Cert.GlaPromptIdeal.Value.final11 m c l hl).symm

end Cert.Proof
-- ==== Proof.lean ====
module

public import proofs.«01_k».proof.Defs
public import proofs.«01_k».proof.Proof.Frames
public import proofs.«01_k».proof.Proof.SwaClaim
public import proofs.«01_k».proof.Proof.InprojClaim
public import proofs.«01_k».proof.Proof.PostClaim
public import proofs.«01_k».proof.Proof.SampleClaim
public import proofs.«01_k».proof.Proof.GlaClaim
public import proofs.«01_k».proof.Proof.GlaPromptClaim
public import proofs.«01_k».proof.Proof.Gen.Pre_finite_scores
public import proofs.«01_k».proof.Proof.Gen.Pre_finite_gate
public import Idealize.ShloMosaic.Adequacy
public import Idealize.ShloMosaic.Init

@[expose] public section

noncomputable section

/-! The certificate: the frames of the eighteen programs, that each kernel's idealized text is the kernel's, and that over the
    reals each kernel computes what its reference computes. -/

namespace Cert.Proof

open Idealize.ShloMosaic Idealize.SL.Sem Cert.Swa

/-- The claims of the six calls together. -/
theorem claim : Cert.Claim := ⟨Cert.Swa.Gen.facts, Cert.SwaIdeal.Gen.facts, Cert.SwaRefIdeal.Gen.facts, Cert.Inproj.Gen.facts, Cert.InprojIdeal.Gen.facts, Cert.InprojRefIdeal.Gen.facts, Cert.Post.Gen.facts, Cert.PostIdeal.Gen.facts, Cert.PostRefIdeal.Gen.facts, Cert.Sample.Gen.facts, Cert.SampleIdeal.Gen.facts, Cert.SampleRefIdeal.Gen.facts, Cert.Gla.Gen.facts, Cert.GlaIdeal.Gen.facts, Cert.GlaRefIdeal.Gen.facts, Cert.GlaPrompt.Gen.facts, Cert.GlaPromptIdeal.Gen.facts, Cert.GlaPromptRefIdeal.Gen.facts, Cert.Pre_finite_scores.Gen.facts, Cert.Pre_finite_gate.Gen.facts,
  frame_Swa, frame_SwaIdeal, frame_SwaIdeal_pre, frame_SwaRef, frame_SwaRef_pre, frame_Inproj, frame_InprojIdeal, frame_InprojRef,
  frame_Post, frame_PostIdeal, frame_PostRef, frame_Sample, frame_SampleIdeal, frame_SampleRef, frame_Gla, frame_GlaIdeal, frame_GlaRef,
  frame_GlaPrompt, frame_GlaPromptIdeal, frame_GlaPromptIdeal_pre, frame_GlaPromptRef, frame_GlaPromptRef_pre,
  preserves_Swa, algebraic_Swa, preserves_Inproj, algebraic_Inproj, preserves_Post, algebraic_Post, preserves_Sample, algebraic_Sample, preserves_Gla, algebraic_Gla, preserves_GlaPrompt, algebraic_GlaPrompt⟩

end Cert.Proof

end
